-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨2, ![512, 1024]⟩ ⟨2, ![2048, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 1024]⟩ ⟨2, ![2048, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S512x1024 : Shape := ⟨2, ![512, 1024]⟩
abbrev S1024x1024 : Shape := ⟨2, ![1024, 1024]⟩
abbrev S4x2048x32x128 : Shape := ⟨4, ![4, 2048, 32, 128]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4x2048x32x128 : S_.BroadcastsInDim S4x2048x32x128 (![] : Fin 0 → Fin S4x2048x32x128.rank)
  reducesTo_S4x2048x32x128_S_d0_1_2_3 : S4x2048x32x128.ReducesTo [0, 1, 2, 3] S_

variable [Facts]

def fn {F : FTy → Type} [FloatOps F] (main_arg0 : FVec F S512x1024 .f32) (main_arg1 : FVec F S1024x1024 .f32) (main_arg2 : FVec F S4x2048x32x128 .f32) (main_arg3 : FVec F S4x2048x32x128 .f32) (main_arg4 : FVec F S1024x1024 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S4x2048x32x128 .f32 := Host.absf main_arg2
  let main_cst_2 : FVec F S_ .f32 := constant S_ .f32 0x7F800000#32
  let main_v10 : FVec F S4x2048x32x128 .f32 := broadcastInDim S4x2048x32x128 ![] bcast_S_S4x2048x32x128 main_cst_2
  let main_v11 : IVec S4x2048x32x128 1 := cmpf .olt main_v9 main_v10
  let main_c_3 : IVec S_ 1 := constantI S_ 1 1#1
  let main_v12 : IVec S_ 1 := (fun x v => Host.reduce IntOp.andi x v reducesTo_S4x2048x32x128_S_d0_1_2_3 h_S_) main_v11 main_c_3
  let main_v13 : IVec S_ 1 := andi main_v8 main_v12
  main_v13
-- ==== Pre_finite_ReferenceIdeal.lean ====
abbrev S2048x1024 : Shape := ⟨2, ![2048, 1024]⟩
abbrev S1024x4096 : Shape := ⟨2, ![1024, 4096]⟩
abbrev S4x2048x32x128 : Shape := ⟨4, ![4, 2048, 32, 128]⟩
abbrev S4096x1024 : Shape := ⟨2, ![4096, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4x2048x32x128 : S_.BroadcastsInDim S4x2048x32x128 (![] : Fin 0 → Fin S4x2048x32x128.rank)
  reducesTo_S4x2048x32x128_S_d0_1_2_3 : S4x2048x32x128.ReducesTo [0, 1, 2, 3] S_

variable [Facts]

def fn {F : FTy → Type} [FloatOps F] (main_arg0 : FVec F S2048x1024 .f32) (main_arg1 : FVec F S1024x4096 .f32) (main_arg2 : FVec F S4x2048x32x128 .f32) (main_arg3 : FVec F S4x2048x32x128 .f32) (main_arg4 : FVec F S4096x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4x2048x32x128 .f32 := Host.absf main_arg2
  let main_cst_2 : FVec F S_ .f32 := constant S_ .f32 0x7F800000#32
  let main_v10 : FVec F S4x2048x32x128 .f32 := broadcastInDim S4x2048x32x128 ![] bcast_S_S4x2048x32x128 main_cst_2
  let main_v11 : IVec S4x2048x32x128 1 := cmpf .olt main_v9 main_v10
  let main_c_3 : IVec S_ 1 := constantI S_ 1 1#1
  let main_v12 : IVec S_ 1 := (fun x v => Host.reduce IntOp.andi x v reducesTo_S4x2048x32x128_S_d0_1_2_3 h_S_) main_v11 main_c_3
  let main_v13 : IVec S_ 1 := andi main_v8 main_v12
  main_v13
-- ==== Kernel.lean ====
abbrev S512x1024 : Shape := ⟨2, ![512, 1024]⟩
abbrev S1024x1024 : Shape := ⟨2, ![1024, 1024]⟩
abbrev S4x2048x32x128 : Shape := ⟨4, ![4, 2048, 32, 128]⟩
abbrev S3x256x1024 : Shape := ⟨3, ![3, 256, 1024]⟩
abbrev S256x1024 : Shape := ⟨2, ![256, 1024]⟩
abbrev S4x2048x128 : Shape := ⟨3, ![4, 2048, 128]⟩
abbrev S3 : Shape := ⟨1, ![3]⟩
abbrev S4 : Shape := ⟨1, ![4]⟩
abbrev S4x2 : Shape := ⟨2, ![4, 2]⟩
abbrev S_ : Shape := ⟨0, ![]⟩
abbrev S1x1 : Shape := ⟨2, ![1, 1]⟩
abbrev S1x2048x128 : Shape := ⟨3, ![1, 2048, 128]⟩
abbrev S2048x128 : Shape := ⟨2, ![2048, 128]⟩
abbrev S1x2048x1x128 : Shape := ⟨4, ![1, 2048, 1, 128]⟩
abbrev S1 : Shape := ⟨1, ![1]⟩
abbrev S1x256x1024 : Shape := ⟨3, ![1, 256, 1024]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩
abbrev S1x128x1024 : Shape := ⟨3, ![1, 128, 1024]⟩
abbrev S128x1024 : Shape := ⟨2, ![128, 1024]⟩
abbrev S128x128 : Shape := ⟨2, ![128, 128]⟩
abbrev S128x2048 : Shape := ⟨2, ![128, 2048]⟩
abbrev S128 : Shape := ⟨1, ![128]⟩
abbrev S128x1 : Shape := ⟨2, ![128, 1]⟩

abbrev nBuf : Space → Nat
  | .hbm => 6
  | .vmem => 17
  | .smem => 0
  | _ => 0

abbrev bufTy : (tb : Table) → Fin (tcTables nBuf tb) → BufTy
  | .hbm, ⟨0, _⟩ => ⟨S512x1024, .f32⟩
  | .hbm, ⟨1, _⟩ => ⟨S1024x1024, .f32⟩
  | .hbm, ⟨2, _⟩ => ⟨S4x2048x32x128, .f32⟩
  | .hbm, ⟨3, _⟩ => ⟨S4x2048x32x128, .f32⟩
  | .hbm, ⟨4, _⟩ => ⟨S1024x1024, .f32⟩
  | .hbm, ⟨5, _⟩ => ⟨S512x1024, .f32⟩
  | .local _ .vmem, ⟨0, _⟩ => ⟨S512x1024, .f32⟩
  | .local _ .vmem, ⟨1, _⟩ => ⟨S1024x1024, .f32⟩
  | .local _ .vmem, ⟨2, _⟩ => ⟨S1024x1024, .f32⟩
  | .local _ .vmem, ⟨3, _⟩ => ⟨S512x1024, .f32⟩
  | .local _ .vmem, ⟨4, _⟩ => ⟨S3x256x1024, .f32⟩
  | .local _ .vmem, ⟨5, _⟩ => ⟨S3x256x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S256x1024, .f32⟩
  | .local _ .vmem, ⟨10, _⟩ => ⟨S256x1024, .f32⟩
  | .local _ .vmem, ⟨11, _⟩ => ⟨S3x256x1024, .f32⟩
  | .local _ .vmem, ⟨12, _⟩ => ⟨S3x256x1024, .f32⟩
  | .local _ .vmem, ⟨13, _⟩ => ⟨S256x1024, .bf16⟩
  | .local _ .vmem, ⟨14, _⟩ => ⟨S256x1024, .bf16⟩
  | .local _ .vmem, ⟨15, _⟩ => ⟨S4x2048x128, .f32⟩
  | .local _ .vmem, ⟨16, _⟩ => ⟨S4x2048x128, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 2 → Bool
  | ⟨0, _⟩ => false
  | ⟨1, _⟩ => true
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 2 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_scratch10 : Ref sig .tc := ⟨.vmem, 14, rfl⟩
abbrev cc0_scratch11 : Ref sig .tc := ⟨.vmem, 15, rfl⟩
abbrev cc0_scratch12 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_10 : BitVec 32) (c0_i32_27 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v13 : BitVec 32 := Scalar.subi v2 c0_i32_10
  let c4_i32_11 : BitVec 32 := 4#32
  let v14 : BitVec 32 := Scalar.addi v13 c4_i32_11
  let c4_i32_12 : BitVec 32 := 4#32
  let v15 : BitVec 32 := Scalar.remsi v14 c4_i32_12
  let c0_i32_33 : BitVec 32 := 0#32
  let c8_i32 : BitVec 32 := 8#32
  let v31 : BitVec 32 := Scalar.muli v2 c8_i32
  let v32 : BitVec 32 := Scalar.addi v31 c0_i32_27
  let c0_i32_34 : BitVec 32 := 0#32
  ![v15.toNat, 0, v32.toNat, 0]
def k0_dev3 (d0 : Dev nD) : Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_77 : BitVec 32 := 1#32
  let v73 : BitVec 32 := Scalar.muli v7 c1_i32_77
  let v74 : BitVec 32 := Scalar.addi c0_i32_78 v73
  v74.toNat
def k0_dev4 (d0 : Dev nD) : Nat :=
  let c0_i32_87 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_86 : BitVec 32 := 1#32
  let v82 : BitVec 32 := Scalar.muli v5 c1_i32_86
  let v83 : BitVec 32 := Scalar.addi c0_i32_87 v82
  v83.toNat
def k0_dev5 (d0 : Dev nD) : Nat :=
  let c0_i32_440 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_439 : BitVec 32 := 1#32
  let v457 : BitVec 32 := Scalar.muli v7 c1_i32_439
  let v458 : BitVec 32 := Scalar.addi c0_i32_440 v457
  v458.toNat
def k0_off2 (d0 : Dev nD) (c1_i32_21 : BitVec 32) (c0_i32_677 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v25 : BitVec 32 := Scalar.addi v2 c1_i32_21
  let c4_i32_22 : BitVec 32 := 4#32
  let v26 : BitVec 32 := Scalar.remsi v25 c4_i32_22
  let c0_i32_683 : BitVec 32 := 0#32
  let c8_i32_676 : BitVec 32 := 8#32
  let v701 : BitVec 32 := Scalar.muli v2 c8_i32_676
  let v702 : BitVec 32 := Scalar.addi v701 c0_i32_677
  let c0_i32_684 : BitVec 32 := 0#32
  ![v26.toNat, 0, v702.toNat, 0]
def k0_dev6 (d0 : Dev nD) : Nat :=
  let c0_i32_803 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_802 : BitVec 32 := 1#32
  let v829 : BitVec 32 := Scalar.muli v7 c1_i32_802
  let v830 : BitVec 32 := Scalar.addi c0_i32_803 v829
  v830.toNat
def k0_dev7 (d0 : Dev nD) : Nat :=
  let c0_i32_821 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_820 : BitVec 32 := 1#32
  let v845 : BitVec 32 := Scalar.muli v5 c1_i32_820
  let v846 : BitVec 32 := Scalar.addi c0_i32_821 v845
  v846.toNat
def k0_dev8 (d0 : Dev nD) : Nat :=
  let c0_i32_1184 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1183 : BitVec 32 := 1#32
  let v1217 : BitVec 32 := Scalar.muli v5 c1_i32_1183
  let v1218 : BitVec 32 := Scalar.addi c0_i32_1184 v1217
  v1218.toNat
def k0_dev9 (d0 : Dev nD) : Nat :=
  let c0_i32_1202 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1201 : BitVec 32 := 1#32
  let v1233 : BitVec 32 := Scalar.muli v7 c1_i32_1201
  let v1234 : BitVec 32 := Scalar.addi c0_i32_1202 v1233
  v1234.toNat
def k0_dev10 (d0 : Dev nD) : Nat :=
  let c0_i32_1581 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1580 : BitVec 32 := 1#32
  let v1618 : BitVec 32 := Scalar.muli v7 c1_i32_1580
  let v1619 : BitVec 32 := Scalar.addi c0_i32_1581 v1618
  v1619.toNat
def k0_dev11 (d0 : Dev nD) : Nat :=
  let c0_i32_1599 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1598 : BitVec 32 := 1#32
  let v1634 : BitVec 32 := Scalar.muli v5 c1_i32_1598
  let v1635 : BitVec 32 := Scalar.addi c0_i32_1599 v1634
  v1635.toNat
def k0_dev12 (d0 : Dev nD) : Nat :=
  let c0_i32_1978 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1977 : BitVec 32 := 1#32
  let v2019 : BitVec 32 := Scalar.muli v5 c1_i32_1977
  let v2020 : BitVec 32 := Scalar.addi c0_i32_1978 v2019
  v2020.toNat
def k0_dev13 (d0 : Dev nD) : Nat :=
  let c0_i32_2365 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2364 : BitVec 32 := 1#32
  let v2410 : BitVec 32 := Scalar.muli v7 c1_i32_2364
  let v2411 : BitVec 32 := Scalar.addi c0_i32_2365 v2410
  v2411.toNat
def k0_dev14 (d0 : Dev nD) : Nat :=
  let c0_i32_2745 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2744 : BitVec 32 := 1#32
  let v2798 : BitVec 32 := Scalar.muli v5 c1_i32_2744
  let v2799 : BitVec 32 := Scalar.addi c0_i32_2745 v2798
  v2799.toNat
def k0_dev15 (d0 : Dev nD) : Nat :=
  let c0_i32_3062 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_3061 : BitVec 32 := 1#32
  let v3130 : BitVec 32 := Scalar.muli v5 c1_i32_3061
  let v3131 : BitVec 32 := Scalar.addi c0_i32_3062 v3130
  v3131.toNat
def k0_dev16 (d0 : Dev nD) : Nat :=
  let c0_i32_3188_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_3187_r0 : BitVec 32 := 1#32
  let v3222_r0 : BitVec 32 := Scalar.muli v5 c1_i32_3187_r0
  let v3223_r0 : BitVec 32 := Scalar.addi c0_i32_3188_r0 v3222_r0
  v3223_r0.toNat
def k0_dev17 (d0 : Dev nD) : Nat :=
  let c0_i32_3191_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_3190_r0 : BitVec 32 := 1#32
  let v3224_r0 : BitVec 32 := Scalar.muli v7 c1_i32_3190_r0
  let v3225_r0 : BitVec 32 := Scalar.addi c0_i32_3191_r0 v3224_r0
  v3225_r0.toNat
abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x1024 : Shape := ⟨2, ![2048, 1024]⟩
abbrev S1024x4096 : Shape := ⟨2, ![1024, 4096]⟩
abbrev S4x2048x32x128 : Shape := ⟨4, ![4, 2048, 32, 128]⟩
abbrev S4096x1024 : Shape := ⟨2, ![4096, 1024]⟩
abbrev S2048x4096 : Shape := ⟨2, ![2048, 4096]⟩
abbrev S4x512x32x128 : Shape := ⟨4, ![4, 512, 32, 128]⟩
abbrev S4x32x512x2048 : Shape := ⟨4, ![4, 32, 512, 2048]⟩
abbrev S_ : Shape := ⟨0, ![]⟩
abbrev S4x32x512 : Shape := ⟨3, ![4, 32, 512]⟩
abbrev S4x32x512x1 : Shape := ⟨4, ![4, 32, 512, 1]⟩
abbrev S4x32x128x512 : Shape := ⟨4, ![4, 32, 128, 512]⟩
abbrev S4x512x32x1 : Shape := ⟨4, ![4, 512, 32, 1]⟩

abbrev nBuf : Space → Nat
  | .hbm => 27
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4x2048x32x128, .f32⟩
  | .hbm, ⟨3, _⟩ => ⟨S4x2048x32x128, .f32⟩
  | .hbm, ⟨4, _⟩ => ⟨S4096x1024, .f32⟩
  | .hbm, ⟨5, _⟩ => ⟨S2048x4096, .f32⟩
  | .hbm, ⟨6, _⟩ => ⟨S4x512x32x128, .f32⟩
  | .hbm, ⟨7, _⟩ => ⟨S4x32x512x2048, .f32⟩
  | .hbm, ⟨8, _⟩ => ⟨S_, .f32⟩
  | .hbm, ⟨9, _⟩ => ⟨S4x32x512x2048, .f32⟩
  | .hbm, ⟨10, _⟩ => ⟨S4x32x512x2048, .f32⟩
  | .hbm, ⟨11, _⟩ => ⟨S_, .f32⟩
  | .hbm, ⟨12, _⟩ => ⟨S4x32x512, .f32⟩
  | .hbm, ⟨13, _⟩ => ⟨S4x32x512x1, .f32⟩
  | .hbm, ⟨14, _⟩ => ⟨S4x32x512x2048, .f32⟩
  | .hbm, ⟨15, _⟩ => ⟨S4x32x512x2048, .f32⟩
  | .hbm, ⟨16, _⟩ => ⟨S4x32x512x2048, .f32⟩
  | .hbm, ⟨17, _⟩ => ⟨S_, .f32⟩
  | .hbm, ⟨18, _⟩ => ⟨S4x32x512, .f32⟩
  | .hbm, ⟨19, _⟩ => ⟨S4x32x512x1, .f32⟩
  | .hbm, ⟨20, _⟩ => ⟨S4x32x128x512, .f32⟩
  | .hbm, ⟨21, _⟩ => ⟨S4x512x32x128, .f32⟩
  | .hbm, ⟨22, _⟩ => ⟨S4x512x32x1, .f32⟩
  | .hbm, ⟨23, _⟩ => ⟨S4x512x32x128, .f32⟩
  | .hbm, ⟨24, _⟩ => ⟨S4x512x32x128, .f32⟩
  | .hbm, ⟨25, _⟩ => ⟨S2048x4096, .f32⟩
  | .hbm, ⟨26, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Proof.KernelIdeal.Prog.lean ====
/- The kernel body of one device, written again in the shape its proof follows.

   The printed body is one long straight line of memory operations. It repeats a few steps: "fetch one
   head's keys and values into a slot", "wait for a slot, compute one head, store its columns", "send a
   tile to a neighbour". Here each such step is one definition with its slot, offsets and rows as
   parameters, the body is their sequence, and `body_eq` says that the printed body is this sequence. -/
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Tactic

@[expose] public section

noncomputable section

namespace Cert.KernelIdeal.Ring

open Idealize.ShloMosaic Idealize.ShloMosaic.TcCoe
open Idealize.SL Idealize.SL.Sem
open Cert.KernelIdeal Cert.KernelIdeal.Gen

variable {F : FTy → Type} [FloatOps F]

/-- A straight-line program of the kernel body. -/
abbrev Line (F : FTy → Type) [FloatOps F] (α : Type) := Prog (TpuEff nD τ sig (Elt F) Λ₀ .tc) α

/-! ## The buffers -/

abbrev xB : Memref sig .tc .vmem S512x1024 .f32 := win0_0.stage (cfg0.slots t0_0 0)
abbrev wqB : Memref sig .tc .vmem S1024x1024 .f32 := win0_1.stage (cfg0.slots t0_0 1)
abbrev woB : Memref sig .tc .vmem S1024x1024 .f32 := win0_2.stage (cfg0.slots t0_0 2)
abbrev outB : Memref sig .tc .vmem S512x1024 .f32 := win0_3.stage (cfg0.slots t0_0 3)
abbrev kH : Memref sig .tc .hbm S4x2048x32x128 .f32 := Memref.whole main_arg2
abbrev vH : Memref sig .tc .hbm S4x2048x32x128 .f32 := Memref.whole main_arg3
abbrev xgaB : Memref sig .tc .vmem S3x256x1024 .f32 := Memref.whole cc0_scratch0
abbrev xgbB : Memref sig .tc .vmem S3x256x1024 .f32 := Memref.whole cc0_scratch1
abbrev pownB : Memref sig .tc .vmem S512x1024 .f32 := Memref.whole cc0_scratch2
abbrev accB : Memref sig .tc .vmem S512x1024 .f32 := Memref.whole cc0_scratch3
abbrev oB : Memref sig .tc .vmem S512x1024 .f32 := Memref.whole cc0_scratch4
abbrev rsaSB : Memref sig .tc .vmem S256x1024 .f32 := Memref.whole cc0_scratch5
abbrev rsbSB : Memref sig .tc .vmem S256x1024 .f32 := Memref.whole cc0_scratch6
abbrev rsaRB : Memref sig .tc .vmem S3x256x1024 .f32 := Memref.whole cc0_scratch7
abbrev rsbRB : Memref sig .tc .vmem S3x256x1024 .f32 := Memref.whole cc0_scratch8
abbrev fbSB : Memref sig .tc .vmem S256x1024 .bf16 := Memref.whole cc0_scratch9
abbrev fbRB : Memref sig .tc .vmem S256x1024 .bf16 := Memref.whole cc0_scratch10
abbrev kB : Memref sig .tc .vmem S4x2048x128 .f32 := Memref.whole cc0_scratch11
abbrev vB : Memref sig .tc .vmem S4x2048x128 .f32 := Memref.whole cc0_scratch12

/-! ## Rows, slots and semaphores -/

/-- A slot lies in the fetch buffer. -/
theorem inbSlot (s : Fin 4) : ∀ a, (![s.val, 0, 0] : Fin 3 → Nat) a + S1x2048x128.size a ≤ S4x2048x128.size a := by
  revert s; decide
/-- A tile lies in its buffer. -/
theorem inbTile (i : Fin 3) : ∀ a, (![i.val, 0, 0] : Fin 3 → Nat) a + S1x256x1024.size a ≤ S3x256x1024.size a := by
  revert i; decide
/-- A half of 128 rows lies in a block of 256. -/
theorem inbHalf (i : Fin 2) : ∀ a, (![128 * i.val, 0] : Fin 2 → Nat) a + S128x1024.size a ≤ S256x1024.size a := by
  revert i; decide
/-- A half of 256 rows lies in the 512. -/
theorem inbX (i : Fin 2) : ∀ a, (![256 * i.val, 0] : Fin 2 → Nat) a + S256x1024.size a ≤ S512x1024.size a := by
  revert i; decide
/-- A half of a tile lies in its buffer. -/
theorem inbHalf3 (i : Fin 3) (j : Fin 2) :
    ∀ a, (![i.val, 128 * j.val, 0] : Fin 3 → Nat) a + S1x128x1024.size a ≤ S3x256x1024.size a := by
  revert i j; decide
/-- A quarter of 128 rows lies in the 512. -/
theorem inbRow (r : Fin 4) : ∀ a, (![128 * r.val, 0] : Fin 2 → Nat) a + S128x1024.size a ≤ S512x1024.size a := by
  revert r; decide
/-- A fetch's semaphore lies in its array. -/
theorem inbSem (s : Fin 4) (w : Fin 2) : ∀ a, (![s.val, w.val] : Fin 2 → Nat) a + S1x1.size a ≤ S4x2.size a := by
  revert s w; decide
/-- An index below three lies in an array of three. -/
theorem inb3 (i : Fin 3) : ∀ a, (![i.val] : Fin 1 → Nat) a + S1.size a ≤ S3.size a := by revert i; decide
/-- An index below four lies in an array of four. -/
theorem inb4 (i : Fin 4) : ∀ a, (![i.val] : Fin 1 → Nat) a + S1.size a ≤ S4.size a := by revert i; decide

/-- Slot `s` of a key or value ring buffer, as a rectangle of it. -/
abbrev slotR (s : Fin 4) : Rect S4x2048x128 := Rect.unit (s := S4x2048x128) ![s.val, 0, 0] S1x2048x128.size (inbSlot s)
/-- Tile `i` of a three-tile buffer. -/
abbrev tileR (i : Fin 3) : Rect S3x256x1024 := Rect.unit (s := S3x256x1024) ![i.val, 0, 0] S1x256x1024.size (inbTile i)
/-- Half `j` of tile `i` of a three-tile buffer. -/
abbrev half3R (i : Fin 3) (j : Fin 2) : Rect S3x256x1024 :=
  Rect.unit (s := S3x256x1024) ![i.val, 128 * j.val, 0] S1x128x1024.size (inbHalf3 i j)
/-- Half `i` of a tile. -/
abbrev halfR (i : Fin 2) : Rect S256x1024 := Rect.unit (s := S256x1024) ![128 * i.val, 0] S128x1024.size (inbHalf i)
/-- Half `i` of a 512-row block. -/
abbrev topR (i : Fin 2) : Rect S512x1024 := Rect.unit (s := S512x1024) ![256 * i.val, 0] S256x1024.size (inbX i)
/-- Quarter `i` of a 512-row block. -/
abbrev rowR (i : Fin 4) : Rect S512x1024 := Rect.unit (s := S512x1024) ![128 * i.val, 0] S128x1024.size (inbRow i)

/-- Slot `s` of a ring buffer as a matrix. -/
abbrev slot (A : Memref sig .tc .vmem S4x2048x128 .f32) (s : Fin 4) : Memref sig .tc .vmem S2048x128 .f32 :=
  (A.slice (slotR s) (fun _ => rfl)).squeeze S2048x128 squeezes_S1x2048x128_S2048x128
/-- Tile `i` of a three-tile buffer as a matrix. -/
abbrev tile (A : Memref sig .tc .vmem S3x256x1024 .f32) (i : Fin 3) : Memref sig .tc .vmem S256x1024 .f32 :=
  (A.slice (tileR i) (fun _ => rfl)).squeeze S256x1024 squeezes_S1x256x1024_S256x1024

/-- Semaphore `w` (0 keys, 1 values) of slot `s`. -/
abbrev kvSem (s : Fin 4) (w : Fin 2) : DmaSem sig :=
  ((cc0_scratch21.slice (Rect.unit (s := S4x2) ![s.val, w.val] S1x1.size (inbSem s w))).squeeze S_ squeezes_S1x1_S_).sem
abbrev sem3 (A : DmaSems sig S3) (i : Fin 3) : DmaSem sig :=
  ((A.slice (Rect.unit (s := S3) ![i.val] S1.size (inb3 i))).squeeze S_ squeezes_S1_S_).sem
abbrev sem4 (A : DmaSems sig S4) (i : Fin 4) : DmaSem sig :=
  ((A.slice (Rect.unit (s := S4) ![i.val] S1.size (inb4 i))).squeeze S_ squeezes_S1_S_).sem

/-- The semaphore of the entry barrier and that of the exit barrier. -/
abbrev bar0 : Sem sig := (SemArray.scalar (sig.barrier 0 rfl) : Sems sig S_).sem
abbrev bar1 : Sem sig := cc0_scoped0.sem

/-! ## One head's keys or values in the whole arrays -/

/-- Where one head of one batch entry begins in the key and value arrays. -/
abbrev HeadOff := {off : Fin 4 → ℕ // ∀ a, off a + S1x2048x1x128.size a ≤ S4x2048x32x128.size a}

abbrev headOf (A : Memref sig .tc .hbm S4x2048x32x128 .f32) (o : HeadOff) : Memref sig .tc .hbm S2048x128 .f32 :=
  (A.slice (Rect.unit (s := S4x2048x32x128) o.1 S1x2048x1x128.size o.2) (fun _ => rfl)).squeeze S2048x128
    squeezes_S1x2048x1x128_S2048x128

/-- The heads of the batch entry `r` places to the left of device `c`, and those `r + 1` to the right. -/
abbrev offA (c : Dev nD) (r : Fin 4) (j : Fin 8) : HeadOff :=
  ⟨k0_off1 c (BitVec.ofNat 32 r.val) (BitVec.ofNat 32 j.val), k0_off1_inb c r j⟩
abbrev offB (c : Dev nD) (r : Fin 3) (j : Fin 8) : HeadOff :=
  ⟨k0_off2 c (BitVec.ofNat 32 (1 + r.val)) (BitVec.ofNat 32 j.val), k0_off2_inb c r j⟩

/-- Begin to fetch head `o`'s keys and values into slot `s`. -/
def kvEnq (s : Fin 4) (o : HeadOff) : Line F PUnit := do
  Prog.lift (.enqueueDma (headOf kH o) (.here (slot kB s)) (.dma (kvSem s 0)) ((View.wordExact_bits rfl).reshape _ _)
    ((View.wordExact_bits rfl).reshape _ _) ⟨Or.inl rfl, trivial⟩)
  Prog.lift (.enqueueDma (headOf vH o) (.here (slot vB s)) (.dma (kvSem s 1)) ((View.wordExact_bits rfl).reshape _ _)
    ((View.wordExact_bits rfl).reshape _ _) ⟨Or.inl rfl, trivial⟩)

/-- Fetch the next head if there is one. -/
def kvNext : Option (Fin 4 × HeadOff) → Line F PUnit
  | none => pure ⟨⟩
  | some (s, o) => kvEnq s o

abbrev KV (F : FTy → Type) := Vec F S1x2048x128 .f32

/-! ## What the body computes -/

/-- A head's columns lie in the 1024, for 512 rows. -/
theorem slices512 (h : Fin 8) : S512x1024.Slices ![0, 128 * h.val] S512x128 := by revert h; decide
/-- The same for 256 rows. -/
theorem slices256 (h : Fin 8) : S256x1024.Slices ![0, 128 * h.val] S256x128 := by revert h; decide
/-- The same for 128 rows. -/
theorem slices128 (h : Fin 8) : S128x1024.Slices ![0, 128 * h.val] S128x128 := by revert h; decide

/-- Head `h` of a 512-row block: the attention output of the queries `q` against one head's keys and values. -/
def head512 (q : FVec F S512x1024 .f32) (h : Fin 8) (k v : KV F) : FVec F S512x128 .f32 :=
  let p := exp (matmul dot_S512x128_S2048x128_S512x2048_1_1_0_0_n_n none
    (extractStridedSlice S512x128 ![0, 128 * h.val] q (slices512 h))
    (shapeCast S2048x128 k shapeCasts_S1x2048x128_S2048x128) (constant S512x2048 .f32 0x00000000#32))
  let l := shapeCast S512x1 (multiReduction .add [1] S512 p 0x00000000#32 reduces_S512x2048_S512 (.inl rfl) rfl) shapeCasts_S512_S512x1
  let o := matmul dot_S512x2048_S2048x128_S512x128_1_0_0_1_n_n none p
    (shapeCast S2048x128 v shapeCasts_S1x2048x128_S2048x128) (constant S512x128 .f32 0x00000000#32)
  shapeCast S512x128 (mulf o (broadcastTo S512x128 (divf (broadcast S512x1 (Scalar.ofBits .f32 0x3F800000#32)) l) broadcasts_S512x1_S512x128))
    shapeCasts_S512x128_S512x128

/-- The same of a 256-row block. -/
def head256 (q : FVec F S256x1024 .f32) (h : Fin 8) (k v : KV F) : FVec F S256x128 .f32 :=
  let p := exp (matmul dot_S256x128_S2048x128_S256x2048_1_1_0_0_n_n none
    (extractStridedSlice S256x128 ![0, 128 * h.val] q (slices256 h))
    (shapeCast S2048x128 k shapeCasts_S1x2048x128_S2048x128) (constant S256x2048 .f32 0x00000000#32))
  let l := shapeCast S256x1 (multiReduction .add [1] S256 p 0x00000000#32 reduces_S256x2048_S256 (.inl rfl) rfl) shapeCasts_S256_S256x1
  let o := matmul dot_S256x2048_S2048x128_S256x128_1_0_0_1_n_n none p
    (shapeCast S2048x128 v shapeCasts_S1x2048x128_S2048x128) (constant S256x128 .f32 0x00000000#32)
  shapeCast S256x128 (mulf o (broadcastTo S256x128 (divf (broadcast S256x1 (Scalar.ofBits .f32 0x3F800000#32)) l) broadcasts_S256x1_S256x128))
    shapeCasts_S256x128_S256x128

/-- The same of a 128-row block. -/
def head128 (q : FVec F S128x1024 .f32) (h : Fin 8) (k v : KV F) : FVec F S128x128 .f32 :=
  let p := exp (matmul dot_S128x128_S2048x128_S128x2048_1_1_0_0_n_n none
    (extractStridedSlice S128x128 ![0, 128 * h.val] q (slices128 h))
    (shapeCast S2048x128 k shapeCasts_S1x2048x128_S2048x128) (constant S128x2048 .f32 0x00000000#32))
  let l := shapeCast S128x1 (multiReduction .add [1] S128 p 0x00000000#32 reduces_S128x2048_S128 (.inl rfl) rfl) shapeCasts_S128_S128x1
  let o := matmul dot_S128x2048_S2048x128_S128x128_1_0_0_1_n_n none p
    (shapeCast S2048x128 v shapeCasts_S1x2048x128_S2048x128) (constant S128x128 .f32 0x00000000#32)
  shapeCast S128x128 (mulf o (broadcastTo S128x128 (divf (broadcast S128x1 (Scalar.ofBits .f32 0x3F800000#32)) l) broadcasts_S128x1_S128x128))
    shapeCasts_S128x128_S128x128

/-- The queries of a block: its rows times this device's columns of `Wq`, scaled. -/
abbrev q512 (x : Vec F S512x1024 .f32) (w : Vec F S1024x1024 .f32) : FVec F S512x1024 .f32 := k0_pay1 x w
abbrev q256 (x : Vec F S1x256x1024 .f32) (w : Vec F S1024x1024 .f32) : FVec F S256x1024 .f32 := k0_pay15 x w
abbrev q128 (x : Vec F S1x128x1024 .f32) (w : Vec F S1024x1024 .f32) : FVec F S128x1024 .f32 := k0_pay107 x w
/-- The partial result of a block: the heads' outputs times this device's rows of `Wo`. -/
abbrev proj512 (o : Vec F S512x1024 .f32) (w : Vec F S1024x1024 .f32) : FVec F S512x1024 .f32 := k0_pay14 o w
abbrev proj256 (o : Vec F S256x1024 .f32) (w : Vec F S1024x1024 .f32) : FVec F S256x1024 .f32 := k0_pay32 o w
abbrev proj128 (o : Vec F S128x1024 .f32) (w : Vec F S1024x1024 .f32) : FVec F S128x1024 .f32 := k0_pay120 o w
/-- A tile sent unchanged, a tile with the arrived partial result added, and half a tile of the last hop. -/
abbrev first256 (a : Vec F S256x1024 .f32) : FVec F S256x1024 .f32 := k0_pay33 a
abbrev add256 (a : Vec F S256x1024 .f32) (b : Vec F S1x256x1024 .f32) : FVec F S256x1024 .f32 := k0_pay68 a b
abbrev add128 (a : Vec F S128x1024 .f32) (b : Vec F S1x128x1024 .f32) : FVec F S128x1024 .bf16 := k0_pay121 a b
/-- What is stored in the result: the arrived sum plus this device's own partial result. -/
abbrev out256 (a : Vec F S1x256x1024 .f32) (b : Vec F S256x1024 .f32) : FVec F S256x1024 .f32 := k0_pay150 a b
abbrev out128 (a : Vec F S128x1024 .bf16) (b : Vec F S128x1024 .f32) : FVec F S128x1024 .f32 := k0_pay151 a b

/-! ## One head -/

/-- Load a rectangle of a vector-memory buffer. -/
abbrev ld {s : Shape} {e : EltTy} (A : Memref sig .tc .vmem s e) (r : Rect s) (h : 0 < r.shape.numel) : Line F (Vec F r.shape e) :=
  Prog.lift (.load A r.toLoadRect (View.loadsAt_vmem h))
/-- Store a rectangle of a 32-bit vector-memory buffer; the buffer is read first and the value read is not used. -/
abbrev st {s : Shape} (A : Memref sig .tc .vmem s .f32) (r : Rect s) (h : 0 < r.shape.numel) (v : Vec F r.shape .f32) : Line F PUnit := do
  let _ ← ld A r h
  Prog.lift (.store A r v Finset.univ (View.stores_vmem_bits_univ h rfl) (.inl rfl))

/-- Wait until slot `s` holds the keys and the values of head `o`. -/
def kvWait (s : Fin 4) (o : HeadOff) : Line F PUnit := do
  Prog.lift (.waitDma2 (kvSem s 0) (headOf kH o) (slot kB s) ((View.wordExact_bits rfl).reshape _ _) ((View.wordExact_bits rfl).reshape _ _))
  Prog.lift (.waitDma2 (kvSem s 1) (headOf vH o) (slot vB s) ((View.wordExact_bits rfl).reshape _ _) ((View.wordExact_bits rfl).reshape _ _))

/-- One head of one block: wait for its keys and values, begin the fetch of a later head, compute, and store
    the head's columns of the block's rows. -/
def headStep (s : Fin 4) (o : HeadOff) (nx : Option (Fin 4 × HeadOff)) (r : Rect S512x1024) (h : 0 < r.shape.numel)
    (f : KV F → KV F → Vec F r.shape .f32) : Line F PUnit := do
  kvWait s o
  kvNext nx
  let k ← ld kB (slotR s) h_S1x2048x128
  let v ← ld vB (slotR s) h_S1x2048x128
  st oB r h (f k v)

/-- The eight heads of one block, each three fetches behind the last one begun. -/
def heads (o : Fin 8 → HeadOff) (nx : Option (Fin 8 → HeadOff)) (r : Fin 8 → Rect S512x1024) (h : ∀ j, 0 < (r j).shape.numel)
    (f : (j : Fin 8) → KV F → KV F → Vec F (r j).shape .f32) : Line F PUnit := do
  headStep 0 (o 0) (some (3, o 3)) (r 0) (h 0) (f 0)
  headStep 1 (o 1) (some (0, o 4)) (r 1) (h 1) (f 1)
  headStep 2 (o 2) (some (1, o 5)) (r 2) (h 2) (f 2)
  headStep 3 (o 3) (some (2, o 6)) (r 3) (h 3) (f 3)
  headStep 0 (o 4) (some (3, o 7)) (r 4) (h 4) (f 4)
  headStep 1 (o 5) (nx.map fun o' => (0, o' 0)) (r 5) (h 5) (f 5)
  headStep 2 (o 6) (nx.map fun o' => (1, o' 1)) (r 6) (h 6) (f 6)
  headStep 3 (o 7) (nx.map fun o' => (2, o' 2)) (r 7) (h 7) (f 7)

/-- A head's output lies in the buffer, for 512 rows. -/
theorem inbH512 (j : Fin 8) : ∀ a, (![0, 128 * j.val] : Fin 2 → Nat) a + S512x128.size a ≤ S512x1024.size a := by revert j; decide
/-- The same for 256 rows. -/
theorem inbH256 (i : Fin 2) (j : Fin 8) : ∀ a, (![256 * i.val, 128 * j.val] : Fin 2 → Nat) a + S256x128.size a ≤ S512x1024.size a := by
  revert i j; decide
/-- The same for 128 rows. -/
theorem inbH128 (i : Fin 4) (j : Fin 8) : ∀ a, (![128 * i.val, 128 * j.val] : Fin 2 → Nat) a + S128x128.size a ≤ S512x1024.size a := by
  revert i j; decide

/-- The columns of head `j`, of all rows, of half `i` of the rows and of quarter `i` of the rows. -/
abbrev col512 (j : Fin 8) : Rect S512x1024 := Rect.unit (s := S512x1024) ![0, 128 * j.val] S512x128.size (inbH512 j)
abbrev col256 (i : Fin 2) (j : Fin 8) : Rect S512x1024 := Rect.unit (s := S512x1024) ![256 * i.val, 128 * j.val] S256x128.size (inbH256 i j)
abbrev col128 (i : Fin 4) (j : Fin 8) : Rect S512x1024 := Rect.unit (s := S512x1024) ![128 * i.val, 128 * j.val] S128x128.size (inbH128 i j)

abbrev heads512 (o : Fin 8 → HeadOff) (nx : Option (Fin 8 → HeadOff)) (q : FVec F S512x1024 .f32) : Line F PUnit :=
  heads o nx col512 (fun _ => h_S512x128) (head512 q)
abbrev heads256 (i : Fin 2) (o : Fin 8 → HeadOff) (nx : Option (Fin 8 → HeadOff)) (q : FVec F S256x1024 .f32) : Line F PUnit :=
  heads o nx (col256 i) (fun _ => h_S256x128) (head256 q)
abbrev heads128 (i : Fin 4) (o : Fin 8 → HeadOff) (nx : Option (Fin 8 → HeadOff)) (q : FVec F S128x1024 .f32) : Line F PUnit :=
  heads o nx (col128 i) (fun _ => h_S128x128) (head128 q)

/-! ## Transfers between devices -/

abbrev whole512 : Rect S512x1024 := Rect.unit (s := S512x1024) ![0, 0] S512x1024.size inb_S512x1024_S512x1024_0_0
abbrev whole1024 : Rect S1024x1024 := Rect.unit (s := S1024x1024) ![0, 0] S1024x1024.size inb_S1024x1024_S1024x1024_0_0
abbrev whole256 : Rect S256x1024 := Rect.unit (s := S256x1024) ![0, 0] S256x1024.size inb_S256x1024_S256x1024_0_0

/-- A half of the bfloat16 block is made of whole words. -/
theorem words_half (i : Fin 2) : (halfR i).WholeWords (EltTy.packing .bf16) := by
  fin_cases i
  · exact wordsbf16_S256x1024_S128x1024_0_0
  · exact wordsbf16_S256x1024_S128x1024_128_0

/-- A half of the bfloat16 block is made of packed rows. -/
theorem packed_half (i : Fin 2) : (halfR i).PackedRows (EltTy.packing .bf16) := by
  fin_cases i
  · exact packedbf16_S256x1024_S128x1024_0_0
  · exact packedbf16_S256x1024_S128x1024_128_0

/-- Half `i` of a buffer of the last hop. -/
abbrev half (A : Memref sig .tc .vmem S256x1024 .bf16) (i : Fin 2) : Memref sig .tc .vmem S128x1024 .bf16 :=
  A.slice (halfR i) (fun _ => rfl)

/-- Half `i` of this device's rows of `x`. -/
abbrev xHalf (i : Fin 2) : Memref sig .tc .vmem S256x1024 .f32 := xB.slice (topR i) (fun _ => rfl)

/-- Send one 256-row tile to device `n`. -/
def send (n : Dev nD) (src dst : Memref sig .tc .vmem S256x1024 .f32) (ss rs : DmaSem sig) : Line F PUnit :=
  Prog.lift (.enqueueDma src (.remote (Dev.tc n) dst (.dma ss)) (.dma rs) (View.wordExact_bits rfl) (View.wordExact_bits rfl)
    ⟨⟨rfl, Or.inl rfl⟩, trivial⟩)
/-- Wait for a transfer of one 256-row tile. -/
def await (src dst : Memref sig .tc .vmem S256x1024 .f32) (s : DmaSem sig) : Line F PUnit :=
  Prog.lift (.waitDma2 s src dst (View.wordExact_bits rfl) (View.wordExact_bits rfl))
/-- Send half a tile of the last hop to device `n`. -/
def sendHalf (n : Dev nD) (i : Fin 2) (ss rs : DmaSem sig) : Line F PUnit :=
  Prog.lift (.enqueueDma (half fbSB i) (.remote (Dev.tc n) (half fbRB i) (.dma ss)) (.dma rs)
    ((Memref.isWhole_whole _).wordExact_slice rfl _ (words_half i)) ((Memref.isWhole_whole _).wordExact_slice rfl _ (words_half i))
    ⟨⟨rfl, Or.inl rfl⟩, trivial⟩)
/-- Store half a tile of the last hop. -/
def stHalf (i : Fin 2) (v : Vec F S128x1024 .bf16) : Line F PUnit := do
  let _ ← ld fbSB (halfR i) h_S128x1024
  Prog.lift (.store fbSB (halfR i) v Finset.univ (View.stores_vmem h_S128x1024
    ((Memref.isWhole_whole _).storeExact_slice rfl _ (packed_half i)) (fun _ => rfl)) (.inl rfl))
/-- Wait for the arrival of half `i` of the last hop, and for its departure. -/
def awaitHalfR (i : Fin 2) (s : DmaSem sig) : Line F PUnit :=
  Prog.lift (.waitDma2 s (half fbSB i) (half fbRB i)
    ((Memref.isWhole_whole _).wordExact_slice rfl _ (words_half i)) ((Memref.isWhole_whole _).wordExact_slice rfl _ (words_half i)))
def awaitHalfS (i : Fin 2) (s : DmaSem sig) : Line F PUnit :=
  Prog.lift (.waitDma2 s (half fbRB i) (half fbSB i)
    ((Memref.isWhole_whole _).wordExact_slice rfl _ (words_half i)) ((Memref.isWhole_whole _).wordExact_slice rfl _ (words_half i)))

/-! ## The semaphores of the four rings -/

abbrev agaS (i : Fin 3) : DmaSem sig := sem3 cc0_scratch13 i
abbrev agaR (i : Fin 3) : DmaSem sig := sem3 cc0_scratch14 i
abbrev agbS (i : Fin 3) : DmaSem sig := sem3 cc0_scratch15 i
abbrev agbR (i : Fin 3) : DmaSem sig := sem3 cc0_scratch16 i
abbrev rsaS (i : Fin 3) : DmaSem sig := sem3 cc0_scratch17 i
abbrev rsaR (i : Fin 3) : DmaSem sig := sem3 cc0_scratch18 i
abbrev rsbS (i : Fin 4) : DmaSem sig := sem4 cc0_scratch19 i
abbrev rsbR (i : Fin 4) : DmaSem sig := sem4 cc0_scratch20 i

/-! ## The body -/

abbrev wq : Line F (Vec F S1024x1024 .f32) := ld wqB whole1024 h_S1024x1024
abbrev wo : Line F (Vec F S1024x1024 .f32) := ld woB whole1024 h_S1024x1024

/-- Tell both neighbours that this device's buffers may be written, and wait until both have told the same. -/
def enter (l r : Dev nD) : Line F PUnit := do
  semSignalWord l bar0 1#32
  semSignalWord r bar0 1#32
  semWaitWord bar0 2#32
/-- Begin the first three fetches and send the two halves of this device's rows. -/
def start (c : Dev nD) : Line F PUnit := do
  kvEnq 0 (offA c 0 0)
  kvEnq 1 (offA c 0 1)
  kvEnq 2 (offA c 0 2)
  send ⟨k0_dev3 c, k0_dev3_lt c⟩ (xHalf 0) (tile xgaB 0) (agaS 0) (agaR 0)
  send ⟨k0_dev4 c, k0_dev4_lt c⟩ (xHalf 1) (tile xgbB 0) (agbS 0) (agbR 0)
/-- This device's own rows. -/
def own (c : Dev nD) : Line F PUnit := do
  let x ← ld xB whole512 h_S512x1024
  let w ← wq
  heads512 (offA c 0) (some (offA c 1)) (q512 x w)
  let o ← ld oB whole512 h_S512x1024
  let w ← wo
  st pownB whole512 h_S512x1024 (proj512 o w)
/-- A block of 256 rows from tile `i` of `A`: its partial result is left in half `j` of the accumulator. -/
def block (A : Memref sig .tc .vmem S3x256x1024 .f32) (i : Fin 3) (j : Fin 2) (o : Fin 8 → HeadOff) (nx : Option (Fin 8 → HeadOff)) :
    Line F PUnit := do
  let x ← ld A (tileR i) h_S1x256x1024
  let w ← wq
  heads256 j o nx (q256 x w)
  let o ← ld oB (topR j) h_S256x1024
  let w ← wo
  st accB (topR j) h_S256x1024 (proj256 o w)
/-- Copy half `j` of the accumulator to a send buffer. -/
def copyAcc (j : Fin 2) (B : Memref sig .tc .vmem S256x1024 .f32) : Line F PUnit := do
  let a ← ld accB (topR j) h_S256x1024
  st B whole256 h_S256x1024 (first256 a)
/-- Add the arrived partial result to half `j` of the accumulator and put the sum in a send buffer. -/
def addAcc (j : Fin 2) (R : Memref sig .tc .vmem S3x256x1024 .f32) (i : Fin 3) (B : Memref sig .tc .vmem S256x1024 .f32) : Line F PUnit := do
  let a ← ld accB (topR j) h_S256x1024
  let b ← ld R (tileR i) h_S1x256x1024
  st B whole256 h_S256x1024 (add256 a b)

def blockA1 (c : Dev nD) : Line F PUnit := do
  await (tile xgaB 0) (tile xgaB 0) (agaR 0)
  send ⟨k0_dev5 c, k0_dev5_lt c⟩ (tile xgaB 0) (tile xgaB 1) (agaS 1) (agaR 1)
  block xgaB 0 0 (offA c 1) (some (offB c 0))
  copyAcc 0 rsaSB
  send ⟨k0_dev6 c, k0_dev6_lt c⟩ rsaSB (tile rsaRB 0) (rsaS 0) (rsaR 0)
def blockB1 (c : Dev nD) : Line F PUnit := do
  await (tile xgbB 0) (tile xgbB 0) (agbR 0)
  send ⟨k0_dev7 c, k0_dev7_lt c⟩ (tile xgbB 0) (tile xgbB 1) (agbS 1) (agbR 1)
  block xgbB 0 1 (offB c 0) (some (offA c 2))
  copyAcc 1 rsbSB
  send ⟨k0_dev8 c, k0_dev8_lt c⟩ rsbSB (tile rsbRB 0) (rsbS 0) (rsbR 0)
def blockA2 (c : Dev nD) : Line F PUnit := do
  await (tile xgaB 1) (tile xgaB 1) (agaR 1)
  send ⟨k0_dev9 c, k0_dev9_lt c⟩ (tile xgaB 1) (tile xgaB 2) (agaS 2) (agaR 2)
  block xgaB 1 0 (offA c 2) (some (offB c 1))
  await rsaSB (tile rsaRB 0) (rsaR 0)
  await (tile rsaRB 0) rsaSB (rsaS 0)
  addAcc 0 rsaRB 0 rsaSB
  send ⟨k0_dev10 c, k0_dev10_lt c⟩ rsaSB (tile rsaRB 1) (rsaS 1) (rsaR 1)
def blockB2 (c : Dev nD) : Line F PUnit := do
  await (tile xgbB 1) (tile xgbB 1) (agbR 1)
  send ⟨k0_dev11 c, k0_dev11_lt c⟩ (tile xgbB 1) (tile xgbB 2) (agbS 2) (agbR 2)
  block xgbB 1 1 (offB c 1) (some (offA c 3))
  await rsbSB (tile rsbRB 0) (rsbR 0)
  await (tile rsbRB 0) rsbSB (rsbS 0)
  addAcc 1 rsbRB 0 rsbSB
  send ⟨k0_dev12 c, k0_dev12_lt c⟩ rsbSB (tile rsbRB 1) (rsbS 1) (rsbR 1)
def blockA3 (c : Dev nD) : Line F PUnit := do
  await (tile xgaB 2) (tile xgaB 2) (agaR 2)
  block xgaB 2 0 (offA c 3) (some (offB c 2))
  await rsaSB (tile rsaRB 1) (rsaR 1)
  await (tile rsaRB 1) rsaSB (rsaS 1)
  addAcc 0 rsaRB 1 rsaSB
  send ⟨k0_dev13 c, k0_dev13_lt c⟩ rsaSB (tile rsaRB 2) (rsaS 2) (rsaR 2)

/-- The quarter of the rows that half `i` of the last block lies in. -/
abbrev qtr (i : Fin 2) : Fin 4 := ⟨2 + i.val, by omega⟩
/-- Half `i` of the last block. -/
def blockH (i : Fin 2) (o : Fin 8 → HeadOff) (nx : Option (Fin 8 → HeadOff)) : Line F PUnit := do
  let x ← ld xgbB (half3R 2 i) h_S1x128x1024
  let w ← wq
  heads128 (qtr i) o nx (q128 x w)
  let o ← ld oB (rowR (qtr i)) h_S128x1024
  let w ← wo
  st accB (rowR (qtr i)) h_S128x1024 (proj128 o w)
/-- Add the arrived partial result to half `i` of the last block and put the sum in the send buffer. -/
def addHalf (i : Fin 2) : Line F PUnit := do
  let a ← ld accB (rowR (qtr i)) h_S128x1024
  let b ← ld rsbRB (half3R 1 i) h_S1x128x1024
  stHalf i (add128 a b)
def blockB3 (c : Dev nD) : Line F PUnit := do
  await (tile xgbB 2) (tile xgbB 2) (agbR 2)
  blockH 0 (offB c 2) (some (offB c 2))
  await rsbSB (tile rsbRB 1) (rsbR 1)
  addHalf 0
  sendHalf ⟨k0_dev14 c, k0_dev14_lt c⟩ 0 (rsbS 2) (rsbR 2)
def blockB4 (c : Dev nD) : Line F PUnit := do
  blockH 1 (offB c 2) none
  addHalf 1
  sendHalf ⟨k0_dev15 c, k0_dev15_lt c⟩ 1 (rsbS 3) (rsbR 3)

/-- Half `i` of the lower rows of the result. -/
def outHalf (i : Fin 2) : Line F PUnit := do
  let a ← ld fbRB (halfR i) h_S128x1024
  let b ← ld pownB (rowR (qtr i)) h_S128x1024
  st outB (rowR (qtr i)) h_S128x1024 (out128 a b)
/-- The result: what arrived plus this device's own partial result. -/
def finish : Line F PUnit := do
  await rsaSB (tile rsaRB 2) (rsaR 2)
  let a ← ld rsaRB (tileR 2) h_S1x256x1024
  let b ← ld pownB (topR 0) h_S256x1024
  st outB (topR 0) h_S256x1024 (out256 a b)
  awaitHalfR 0 (rsbR 2)
  outHalf 0
  awaitHalfR 1 (rsbR 3)
  outHalf 1
/-- Wait until every transfer this device has begun has left. -/
def drain : Line F PUnit := do
  await (tile rsaRB 2) rsaSB (rsaS 2)
  await (tile rsbRB 1) rsbSB (rsbS 1)
  awaitHalfS 0 (rsbS 2)
  awaitHalfS 1 (rsbS 3)
  await (tile xgaB 0) (xHalf 0) (agaS 0)
  await (tile xgbB 0) (xHalf 1) (agbS 0)
  await (tile xgaB 1) (tile xgaB 0) (agaS 1)
  await (tile xgbB 1) (tile xgbB 0) (agbS 1)
  await (tile xgaB 2) (tile xgaB 1) (agaS 2)
  await (tile xgbB 2) (tile xgbB 1) (agbS 2)
/-- The exit barrier. -/
def leave (l r : Dev nD) : Line F PUnit := do
  semSignalWord l bar1 1#32
  semSignalWord r bar1 1#32
  semWaitWord bar1 2#32

/-- The body of device `c`. -/
def body (c : Dev nD) : Line F PUnit := do
  enter ⟨k0_dev1 c, k0_dev1_lt c⟩ ⟨k0_dev2 c, k0_dev2_lt c⟩
  start c
  own c
  blockA1 c
  blockB1 c
  blockA2 c
  blockB2 c
  blockA3 c
  blockB3 c
  blockB4 c
  finish
  drain
  leave ⟨k0_dev16 c, k0_dev16_lt c⟩ ⟨k0_dev17 c, k0_dev17_lt c⟩

/-- The body as the pipeline calls it. -/
def bodyLine : Line F PUnit := do
  let c ← Prog.lift .deviceId
  body c

set_option maxRecDepth 65536 in
/-- The printed body is this sequence of steps. -/
theorem body_eq : bodyAt0 (F := F) t0_0 = bodyLine := by
  sl_kernel_rfl

end Cert.KernelIdeal.Ring
-- ==== Proof.KernelIdeal.Values.lean ====
/- What every buffer of the ring holds, as functions of the devices' inputs.

   Each device holds 512 rows of `x` (one batch entry), 1024 columns of `Wq`, the matching rows of `Wo`, and
   the keys and values of every batch entry. Rows travel round the ring, the upper half of a device's rows to
   the right and the lower half to the left. At each hop a device computes, for the rows it was given, what its
   own eight heads contribute to the result, and adds to that what arrives for the same rows. -/
module

public import proofs.«01_k».proof.Proof.KernelIdeal.Prog
public import Idealize.ShloMosaic.Lib.Pointwise

@[expose] public section

noncomputable section

namespace Cert.KernelIdeal.Ring

open Idealize.ShloMosaic Idealize.ShloMosaic.TcCoe
open Idealize.SL Idealize.SL.Sem
open Cert.KernelIdeal Cert.KernelIdeal.Gen

variable {F : FTy → Type} [FloatOps F]

/-! ## The ring -/

/-- The device to the right and the device to the left. -/
def rt (c : Dev nD) : Dev nD := ⟨(c.val + 1) % 4, Nat.mod_lt _ (by decide)⟩
def lf (c : Dev nD) : Dev nD := ⟨(c.val + 3) % 4, Nat.mod_lt _ (by decide)⟩

/-- The left neighbour of the right neighbour is the device itself. -/
theorem lf_rt (c : Dev nD) : lf (rt c) = c := by revert c; decide
/-- The right neighbour of the left neighbour is the device itself. -/
theorem rt_lf (c : Dev nD) : rt (lf c) = c := by revert c; decide
/-- The two neighbours are different devices. -/
theorem lf_ne_rt (c : Dev nD) : lf c ≠ rt c := by revert c; decide

/-- One step round the ring, as a bijection of the devices. -/
def ring : Dev nD ≃ Dev nD := ⟨rt, lf, lf_rt, rt_lf⟩

/-! ## Inputs -/

/-- One device's inputs. -/
structure Ins (F : FTy → Type) where
  x : Vec F S512x1024 .f32
  wq : Vec F S1024x1024 .f32
  wo : Vec F S1024x1024 .f32
  k : Vec F S4x2048x32x128 .f32
  v : Vec F S4x2048x32x128 .f32

variable (I : Dev nD → Ins F)

/-- Half `i` of a device's rows. -/
def xRows (d : Dev nD) (i : Fin 2) : Vec F S256x1024 .f32 := fun j => (I d).x ((topR i).emb j)

/-- One head's keys (or values), cut out of the whole array. -/
def headMat (A : Vec F S4x2048x32x128 .f32) (o : HeadOff) : Vec F S2048x128 .f32 :=
  shapeCast S2048x128 (fun i => A ((Rect.unit (s := S4x2048x32x128) o.1 S1x2048x1x128.size o.2).emb i) : Vec F S1x2048x1x128 .f32)
    squeezes_S1x2048x1x128_S2048x128.numel_eq

/-- A matrix as a slot or a tile of a buffer is loaded, with a leading axis of extent one. -/
def upKV (M : Vec F S2048x128 .f32) : KV F := shapeCast S1x2048x128 M (by decide)
def up256 (M : Vec F S256x1024 .f32) : Vec F S1x256x1024 .f32 := shapeCast S1x256x1024 M (by decide)
def up128 (M : Vec F S128x1024 .f32) : Vec F S1x128x1024 .f32 := shapeCast S1x128x1024 M (by decide)
/-- Half `i` of a tile. -/
def halfOf (M : Vec F S256x1024 .f32) (i : Fin 2) : Vec F S128x1024 .f32 := fun j => M ((halfR i).emb j)

/-! ## One block of rows -/

/-- Eight heads' columns side by side. -/
def glue512 (f : Fin 8 → Vec F S512x128 .f32) : Vec F S512x1024 .f32 := fun i =>
  f ⟨(i 1).val / 128, Nat.div_lt_of_lt_mul (i 1).isLt⟩ (ix2 (i 0) ⟨(i 1).val % 128, Nat.mod_lt _ (by decide)⟩)
def glue256 (f : Fin 8 → Vec F S256x128 .f32) : Vec F S256x1024 .f32 := fun i =>
  f ⟨(i 1).val / 128, Nat.div_lt_of_lt_mul (i 1).isLt⟩ (ix2 (i 0) ⟨(i 1).val % 128, Nat.mod_lt _ (by decide)⟩)
def glue128 (f : Fin 8 → Vec F S128x128 .f32) : Vec F S128x1024 .f32 := fun i =>
  f ⟨(i 1).val / 128, Nat.div_lt_of_lt_mul (i 1).isLt⟩ (ix2 (i 0) ⟨(i 1).val % 128, Nat.mod_lt _ (by decide)⟩)

/-- Head `j` of device `d` on a block of queries, its keys and values taken at the offset `o`. -/
def hd512 (d : Dev nD) (q : FVec F S512x1024 .f32) (o : Fin 8 → HeadOff) (j : Fin 8) : Vec F S512x128 .f32 :=
  head512 q j (upKV (headMat (I d).k (o j))) (upKV (headMat (I d).v (o j)))
def hd256 (d : Dev nD) (q : FVec F S256x1024 .f32) (o : Fin 8 → HeadOff) (j : Fin 8) : Vec F S256x128 .f32 :=
  head256 q j (upKV (headMat (I d).k (o j))) (upKV (headMat (I d).v (o j)))
def hd128 (d : Dev nD) (q : FVec F S128x1024 .f32) (o : Fin 8 → HeadOff) (j : Fin 8) : Vec F S128x128 .f32 :=
  head128 q j (upKV (headMat (I d).k (o j))) (upKV (headMat (I d).v (o j)))

/-- What device `d`'s heads contribute to the result's rows, for the rows `X` of a batch entry. -/
def part512 (d : Dev nD) (X : Vec F S512x1024 .f32) (o : Fin 8 → HeadOff) : Vec F S512x1024 .f32 :=
  proj512 (glue512 (hd512 I d (q512 X (I d).wq) o)) (I d).wo
def part256 (d : Dev nD) (X : Vec F S256x1024 .f32) (o : Fin 8 → HeadOff) : Vec F S256x1024 .f32 :=
  proj256 (glue256 (hd256 I d (q256 (up256 X) (I d).wq) o)) (I d).wo
def part128 (d : Dev nD) (X : Vec F S128x1024 .f32) (o : Fin 8 → HeadOff) : Vec F S128x1024 .f32 :=
  proj128 (glue128 (hd128 I d (q128 (up128 X) (I d).wq) o)) (I d).wo

/-! ## What each transfer carries, by the device that sends it -/

/-- Hop `i` of the rows that travel right: the upper half of the rows of the device `i` places to the left. -/
def agaX : ℕ → Dev nD → Vec F S256x1024 .f32
  | 0, d => xRows I d 0
  | n + 1, d => agaX n (lf d)
/-- Hop `i` of the rows that travel left: the lower half of the rows of the device `i` places to the right. -/
def agbX : ℕ → Dev nD → Vec F S256x1024 .f32
  | 0, d => xRows I d 1
  | n + 1, d => agbX n (rt d)

/-- The contribution of device `d` to the rows that hop `i` brought it. -/
def partA (i : Fin 3) (d : Dev nD) : Vec F S256x1024 .f32 := part256 I d (agaX I i.val (lf d)) (offA d i.succ)
def partB (i : Fin 3) (d : Dev nD) : Vec F S256x1024 .f32 := part256 I d (agbX I i.val (rt d)) (offB d i)
/-- The last such block of the rows travelling left, half by half. -/
def partH (i : Fin 2) (d : Dev nD) : Vec F S128x1024 .f32 := part128 I d (halfOf (agbX I 2 (rt d)) i) (offB d 2)

/-- The partial sums that travel right, and those that travel left. -/
def rsa0 (d : Dev nD) : Vec F S256x1024 .f32 := first256 (partA I 0 d)
def rsa1 (d : Dev nD) : Vec F S256x1024 .f32 := add256 (partA I 1 d) (up256 (rsa0 I (lf d)))
def rsa2 (d : Dev nD) : Vec F S256x1024 .f32 := add256 (partA I 2 d) (up256 (rsa1 I (lf d)))
def rsb0 (d : Dev nD) : Vec F S256x1024 .f32 := first256 (partB I 0 d)
def rsb1 (d : Dev nD) : Vec F S256x1024 .f32 := add256 (partB I 1 d) (up256 (rsb0 I (rt d)))
/-- The last hop to the left, half by half. -/
def fbX (i : Fin 2) (d : Dev nD) : Vec F S128x1024 .bf16 := add128 (partH I i d) (up128 (halfOf (rsb1 I (rt d)) i))

/-! ## The result -/

/-- A device's contribution to its own rows. -/
def pown (d : Dev nD) : Vec F S512x1024 .f32 := part512 I d (I d).x (offA d 0)

/-- The upper half of the rows of the result, and the quarters of the lower half. -/
def outTop (d : Dev nD) : Vec F S256x1024 .f32 := out256 (up256 (rsa2 I (lf d))) (fun j => pown I d ((topR 0).emb j))
def outQtr (i : Fin 2) (d : Dev nD) : Vec F S128x1024 .f32 := out128 (fbX I i (rt d)) (fun j => pown I d ((rowR (qtr i)).emb j))

/-- The result rows of device `d`. -/
def outV (d : Dev nD) : Vec F S512x1024 .f32 := fun i =>
  if h : (i 0).val < 256 then outTop I d (ix2 ⟨(i 0).val, h⟩ (i 1))
  else if h' : (i 0).val < 384 then outQtr I 0 d (ix2 ⟨(i 0).val - 256, by omega⟩ (i 1))
  else outQtr I 1 d (ix2 ⟨(i 0).val - 384, by have := (i 0).isLt; have h2 : S512x1024.size 0 = 512 := rfl; omega⟩ (i 1))

end Cert.KernelIdeal.Ring
-- ==== Proof.KernelIdeal.Cells.lean ====
/- The protocol of the ring: which semaphore counts what, who pays it, what it hands over.

   Every device makes thirteen transfers, numbered in the order the body begins them. Transfer `t` of device
   `c` goes to `peer t c`; it is counted once on `c`'s send semaphore `sS t`, whose unit gives `c` its source
   back, and once on the receive semaphore `sR t` of `peer t c`, whose unit gives the peer the written buffer.
   Before the first transfer both neighbours say, on the entry barrier, that their landing buffers may be
   written: those buffers are what the two signals hand over. The exit barrier hands over nothing.

   A wait is allowed when everything the waiting device still owes is ranked above the semaphore waited for:
   the entry barrier, then the receive semaphores in the order of the transfers, then the exit barrier. -/
module

public import proofs.«01_k».proof.Proof.KernelIdeal.Values
public import Idealize.ShloMosaic.Lib.Pipeline.Launch
public import Idealize.ShloMosaic.Lib.Pipeline.Kit
public import Idealize.ShloMosaic.Lib.Transfers

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The resource algebra -/

/-- The ring's rounds (duties named by `Bool`) beside the counters of a device's own fetches. -/
abbrev UB : Type := URounds (GSem nD τ sig) Bool × Counters
abbrev UU : Type := UR sig nD τ × UB

/-- The assertions of this proof. -/
local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := (Emb.inl).trans embR

/-! ## The transfers -/

/-- The send and the receive semaphore of transfer `t`. -/
def sS : Fin 13 → DmaSem sig :=
  ![agaS 0, agbS 0, agaS 1, rsaS 0, agbS 1, rsbS 0, agaS 2, rsaS 1, agbS 2, rsbS 1, rsaS 2, rsbS 2, rsbS 3]
def sR : Fin 13 → DmaSem sig :=
  ![agaR 0, agbR 0, agaR 1, rsaR 0, agbR 1, rsbR 0, agaR 2, rsaR 1, agbR 2, rsbR 1, rsaR 2, rsbR 2, rsbR 3]
def sX (t : Fin 13) (b : Bool) : DmaSem sig := if b then sR t else sS t

/-- Whether transfer `t` goes right. -/
def right : Fin 13 → Bool := ![true, false, true, true, false, false, true, true, false, false, true, false, false]
/-- Where transfer `t` of device `c` goes, and where the one that reaches `c` comes from. -/
def peer (t : Fin 13) (c : Dev nD) : Dev nD := if right t then rt c else lf c
def from' (t : Fin 13) (c : Dev nD) : Dev nD := if right t then lf c else rt c

/-- The transfer that reaches a peer comes from this device. -/
theorem from_peer (t : Fin 13) (c : Dev nD) : from' t (peer t c) = c := by revert t c; decide
/-- The sender of what reaches `c` has `c` for its peer. -/
theorem peer_from (t : Fin 13) (c : Dev nD) : peer t (from' t c) = c := by revert t c; decide

/-- What transfer `t` counts. -/
def N (t : Fin 13) : ℕ :=
  if t.val < 11 then (tile xgaB 0).view.dmaCredit else (half fbRB 0).view.dmaCredit

/-- A transfer counts at least one unit. -/
theorem N_pos (t : Fin 13) : 0 < N t := by
  unfold N; split
  · exact View.dmaCredit_pos _ (by decide)
  · exact View.dmaCredit_pos _ (by decide)

/-- The transfer a semaphore belongs to, and whether it is its receive semaphore. -/
def kind (q : DmaSem sig) : Option (Fin 13 × Bool) :=
  (List.finRange 13).findSome? fun t => if sS t = q then some (t, false) else if sR t = q then some (t, true) else none

/-- A send semaphore belongs to its transfer. -/
theorem kind_S (t : Fin 13) : kind (sS t) = some (t, false) := by revert t; decide
/-- A receive semaphore belongs to its transfer. -/
theorem kind_R (t : Fin 13) : kind (sR t) = some (t, true) := by revert t; decide
/-- The same for both at once. -/
theorem kind_X (t : Fin 13) (b : Bool) : kind (sX t b) = some (t, b) := by
  cases b
  · exact kind_S t
  · exact kind_R t
/-- The two barriers are two semaphores. -/
theorem bar_ne : bar1 ≠ bar0 := by decide

/-! ## The cells -/

abbrev barCell (c : Dev nD) : GSem nD τ sig := ((c : Thread nD τ), .reg bar0)
abbrev endCell (c : Dev nD) : GSem nD τ sig := ((c : Thread nD τ), .reg bar1)
abbrev sendCell (t : Fin 13) (c : Dev nD) : GSem nD τ sig := ((c : Thread nD τ), .dma (sS t))
abbrev recvCell (t : Fin 13) (c : Dev nD) : GSem nD τ sig := ((c : Thread nD τ), .dma (sR t))

/-- A device's cells: the two barriers (`true` the exit), and each transfer's two (`true` the receive cell). -/
abbrev Cell : Type := Bool ⊕ (Fin 13 × Bool)
def csem : Cell → SemLoc sig
  | .inl b => .reg (if b then bar1 else bar0)
  | .inr (t, b) => .dma (sX t b)
abbrev kcell (ck : Dev nD × Cell) : GSem nD τ sig := ((ck.1 : Thread nD τ), csem ck.2)

/-! ## What the transfers carry -/

variable (I : Dev nD → Ins F)

/-- Device `c` holds `m` with the contents `X`, at share `q`. -/
abbrev has {sp : Space} {s : Shape} {e : EltTy} (c : Dev nD) (m : Memref sig .tc sp s e) (q : PosShare TreeShare) (X : Vec F s e) : sProp 𝕄 :=
  owns (c : Thread nD τ) m q X
/-- Device `c` holds `m` with some contents. -/
abbrev any {sp : Space} {s : Shape} {e : EltTy} (c : Dev nD) (m : Memref sig .tc sp s e) : sProp 𝕄 :=
  iprop(∃ X, has (F := F) c m fullShare X)

abbrev lent : PosShare TreeShare := fullShare.left
abbrev kept : PosShare TreeShare := fullShare.right

/-- What a send semaphore's unit gives back: the source. -/
def sendPay (t : Fin 13) (c : Dev nD) : sProp 𝕄 :=
  match t with
  | 0 => has c (xHalf 0) lent (agaX I 0 c)
  | 1 => has c (xHalf 1) lent (agbX I 0 c)
  | 2 => has c (tile xgaB 0) lent (agaX I 1 c)
  | 3 => has c rsaSB fullShare (rsa0 I c)
  | 4 => has c (tile xgbB 0) lent (agbX I 1 c)
  | 5 => has c rsbSB fullShare (rsb0 I c)
  | 6 => has c (tile xgaB 1) lent (agaX I 2 c)
  | 7 => has c rsaSB fullShare (rsa1 I c)
  | 8 => has c (tile xgbB 1) lent (agbX I 2 c)
  | 9 => has c rsbSB fullShare (rsb1 I c)
  | 10 => has c rsaSB fullShare (rsa2 I c)
  | 11 => has c (half fbSB 0) fullShare (fbX I 0 c)
  | 12 => has c (half fbSB 1) fullShare (fbX I 1 c)

/-- What a receive semaphore's unit gives: the landing buffer, with what the neighbour sent. -/
def recvPay (t : Fin 13) (c : Dev nD) : sProp 𝕄 :=
  match t with
  | 0 => has c (tile xgaB 0) fullShare (agaX I 0 (from' 0 c))
  | 1 => has c (tile xgbB 0) fullShare (agbX I 0 (from' 1 c))
  | 2 => has c (tile xgaB 1) fullShare (agaX I 1 (from' 2 c))
  | 3 => has c (tile rsaRB 0) fullShare (rsa0 I (from' 3 c))
  | 4 => has c (tile xgbB 1) fullShare (agbX I 1 (from' 4 c))
  | 5 => has c (tile rsbRB 0) fullShare (rsb0 I (from' 5 c))
  | 6 => has c (tile xgaB 2) fullShare (agaX I 2 (from' 6 c))
  | 7 => has c (tile rsaRB 1) fullShare (rsa1 I (from' 7 c))
  | 8 => has c (tile xgbB 2) fullShare (agbX I 2 (from' 8 c))
  | 9 => has c (tile rsbRB 1) fullShare (rsb1 I (from' 9 c))
  | 10 => has c (tile rsaRB 2) fullShare (rsa2 I (from' 10 c))
  | 11 => has c (half fbRB 0) fullShare (fbX I 0 (from' 11 c))
  | 12 => has c (half fbRB 1) fullShare (fbX I 1 (from' 12 c))

/-- The landing buffer of transfer `t` on device `c`, with some contents. -/
def landing (t : Fin 13) (c : Dev nD) : sProp 𝕄 :=
  match t with
  | 0 => any c (tile xgaB 0)
  | 1 => any c (tile xgbB 0)
  | 2 => any c (tile xgaB 1)
  | 3 => any c (tile rsaRB 0)
  | 4 => any c (tile xgbB 1)
  | 5 => any c (tile rsbRB 0)
  | 6 => any c (tile xgaB 2)
  | 7 => any c (tile rsaRB 1)
  | 8 => any c (tile xgbB 2)
  | 9 => any c (tile rsbRB 1)
  | 10 => any c (tile rsaRB 2)
  | 11 => any c (half fbRB 0)
  | 12 => any c (half fbRB 1)

/-- The landing buffers of the transfers that go right, and of those that go left. -/
def landR (c : Dev nD) : sProp 𝕄 :=
  iprop(landing 0 c ∗ landing 2 c ∗ landing 3 c ∗ landing 6 c ∗ landing 7 c ∗ landing 10 c)
def landL (c : Dev nD) : sProp 𝕄 :=
  iprop(landing 1 c ∗ landing 4 c ∗ landing 5 c ∗ landing 8 c ∗ landing 9 c ∗ landing 11 c ∗ landing 12 c)

/-- What a send cell hands over can lie in an invariant. -/
instance sendPay_storable (t : Fin 13) (c : Dev nD) : BI.Storable (upEmb : UEmb _ 𝕄) (sendPay I t c) := by
  fin_cases t <;> (unfold sendPay; dsimp only; infer_instance)
/-- So can what a receive cell hands over. -/
instance recvPay_storable (t : Fin 13) (c : Dev nD) : BI.Storable (upEmb : UEmb _ 𝕄) (recvPay I t c) := by
  fin_cases t <;> (unfold recvPay; dsimp only; infer_instance)
omit [FloatOps F] in
/-- So can a landing buffer. -/
instance landing_storable (t : Fin 13) (c : Dev nD) : BI.Storable (upEmb : UEmb _ 𝕄) (landing (F := F) t c) := by
  fin_cases t <;> (unfold landing; dsimp only; infer_instance)
omit [FloatOps F] in
/-- So can the landing buffers for the transfers to the right. -/
instance landR_storable (c : Dev nD) : BI.Storable (upEmb : UEmb _ 𝕄) (landR (F := F) c) := by unfold landR; infer_instance
omit [FloatOps F] in
/-- So can those for the transfers to the left. -/
instance landL_storable (c : Dev nD) : BI.Storable (upEmb : UEmb _ 𝕄) (landL (F := F) c) := by unfold landL; infer_instance

/-! ## The schedule -/

/-- What a unit on a cell hands over. -/
def pay (c : Dev nD) (s : SemLoc sig) (d : Bool) : sProp 𝕄 :=
  match s with
  | .reg s => if s = bar0 then (if d then landL (lf c) else landR (rt c)) else iprop(emp)
  | .dma q => match kind q with
    | some (t, false) => sendPay I t c
    | some (t, true) => recvPay I t c
    | none => iprop(emp)

/-- So can whatever a unit hands over. -/
instance pay_storable (c : Dev nD) (s : SemLoc sig) (d : Bool) : BI.Storable (upEmb : UEmb _ 𝕄) (pay I c s d) := by
  unfold pay; (repeat' split) <;> infer_instance

/-- One round. A barrier cell has two duties of one unit each, `false` paid by the right neighbour and `true` by
    the left one; a cell of a transfer has one duty, of what the transfer counts. -/
def Rd : Rounds.Schedule (GSem nD τ sig) Bool 𝕄 where
  duties g r := if r = 0 ∧ g.1.2 = .tc then
      (match g.2 with
        | .reg _ => Finset.univ
        | .dma q => if (kind q).isSome then {false} else ∅)
    else ∅
  unitless _ := False
  amount g _ _ := match g.2 with
    | .reg _ => 1
    | .dma q => match kind q with
      | some (t, _) => N t
      | none => 1
  payload g _ d := pay I g.1.1 g.2 d
  amount_pos g _ _ _ := by
    obtain ⟨c, s⟩ := g
    cases s with
    | reg s => exact Nat.one_pos
    | dma q =>
      dsimp only
      split
      · exact N_pos _
      · exact Nat.one_pos

/-- So can every payload of the schedule. -/
instance Rd_storable (g : GSem nD τ sig) (r : ℕ) (d : Bool) : BI.Storable (upEmb : UEmb _ 𝕄) ((Rd I).payload g r d) :=
  pay_storable I g.1.1 g.2 d

/-- A barrier has both duties. -/
theorem duties_reg (c : Dev nD) (s : Sem sig) : (Rd I).duties ((c : Thread nD τ), .reg s) 0 = Finset.univ := by
  dsimp only [Rd]; exact if_pos ⟨rfl, rfl⟩
/-- A semaphore of a transfer has one duty. -/
theorem duties_dma (c : Dev nD) (t : Fin 13) (b : Bool) : (Rd I).duties ((c : Thread nD τ), .dma (sX t b)) 0 = {false} := by
  dsimp only [Rd]; rw [if_pos ⟨rfl, rfl⟩, kind_X]; rfl
/-- The send cell has one duty. -/
theorem duties_send (c : Dev nD) (t : Fin 13) : (Rd I).duties (sendCell t c) 0 = {false} := duties_dma I c t false
/-- The receive cell has one duty. -/
theorem duties_recv (c : Dev nD) (t : Fin 13) : (Rd I).duties (recvCell t c) 0 = {false} := duties_dma I c t true
/-- There is one round only: after it nothing is due. -/
theorem duties_later (g : GSem nD τ sig) : ∀ r, 1 ≤ r → (Rd I).duties g r = ∅ := fun r hr => if_neg fun h => by omega

/-- A barrier's duty is one unit. -/
theorem amount_reg (c : Dev nD) (s : Sem sig) (d : Bool) : (Rd I).amount ((c : Thread nD τ), .reg s) 0 d = 1 := rfl
/-- A transfer's duty is what the transfer counts. -/
theorem amount_dma (c : Dev nD) (t : Fin 13) (b d : Bool) : (Rd I).amount ((c : Thread nD τ), .dma (sX t b)) 0 d = N t := by
  show (match kind (sX t b) with | some (t, _) => N t | none => 1) = N t
  rw [kind_X]

/-- A barrier waits for two units. -/
theorem expect_reg (c : Dev nD) (s : Sem sig) : (Rd I).expect ((c : Thread nD τ), .reg s) 0 = 2 := by
  unfold Schedule.expect Schedule.amountOf
  rw [duties_reg, Finset.sum_congr rfl fun d _ => amount_reg I c s d]; rfl
/-- A cell of a transfer waits for what the transfer counts. -/
theorem expect_dma (c : Dev nD) (t : Fin 13) (b : Bool) : (Rd I).expect ((c : Thread nD τ), .dma (sX t b)) 0 = N t := by
  unfold Schedule.expect Schedule.amountOf
  rw [duties_dma, Finset.sum_singleton, amount_dma]

/-- A send cell gives the source back. -/
theorem payload_send (c : Dev nD) (t : Fin 13) (d : Bool) : (Rd I).payload (sendCell t c) 0 d = sendPay I t c := by
  show pay I c (.dma (sS t)) d = _
  unfold pay; dsimp only; rw [kind_S]
/-- A receive cell gives the landing buffer with what arrived. -/
theorem payload_recv (c : Dev nD) (t : Fin 13) (d : Bool) : (Rd I).payload (recvCell t c) 0 d = recvPay I t c := by
  show pay I c (.dma (sR t)) d = _
  unfold pay; dsimp only; rw [kind_R]
/-- The right neighbour's unit on the entry barrier hands over the right neighbour's landing buffers. -/
theorem payload_bar_false (c : Dev nD) : (Rd I).payload (barCell c) 0 false = landR (rt c) := by
  show pay I c (.reg bar0) false = _
  unfold pay; dsimp only; rw [if_pos rfl]; rfl
/-- The left neighbour's unit on the entry barrier hands over the left neighbour's landing buffers. -/
theorem payload_bar_true (c : Dev nD) : (Rd I).payload (barCell c) 0 true = landL (lf c) := by
  show pay I c (.reg bar0) true = _
  unfold pay; dsimp only; rw [if_pos rfl]; rfl
/-- The exit barrier hands over nothing. -/
theorem payload_end (c : Dev nD) (d : Bool) : (Rd I).payload (endCell c) 0 d = iprop(emp) := by
  show pay I c (.reg bar1) d = _
  unfold pay; dsimp only; rw [if_neg bar_ne]

/-- A full wait on a send cell gives the source. -/
theorem rest_send (c : Dev nD) (t : Fin 13) :
    bigSep ((Rd I).duties (sendCell t c) 0 \ ∅) (fun d => (Rd I).payload (sendCell t c) 0 d) = sendPay I t c := by
  rw [Finset.sdiff_empty, duties_send, bigSep_singleton, payload_send]
/-- A full wait on a receive cell gives what arrived. -/
theorem rest_recv (c : Dev nD) (t : Fin 13) :
    bigSep ((Rd I).duties (recvCell t c) 0 \ ∅) (fun d => (Rd I).payload (recvCell t c) 0 d) = recvPay I t c := by
  rw [Finset.sdiff_empty, duties_recv, bigSep_singleton, payload_recv]
/-- A full wait on the entry barrier gives the landing buffers of both neighbours. -/
theorem rest_bar (c : Dev nD) :
    bigSep ((Rd I).duties (barCell c) 0 \ ∅) (fun d => (Rd I).payload (barCell c) 0 d) = iprop(landR (rt c) ∗ landL (lf c)) := by
  rw [Finset.sdiff_empty, duties_reg, bigSep_univ_eq_bigSepL [false, true] (by decide) (by decide), bigSepL_cons_cons, bigSepL_singleton,
    payload_bar_false, payload_bar_true]
  rfl

/-! ## What a device owes, and the ranks -/

/-- What device `c` pays, in the order it pays it. -/
def pays (c : Dev nD) : List (GSem nD τ sig × ℕ) :=
  [(barCell (lf c), 1), (barCell (rt c), 1)] ++ (List.finRange 13).map (fun t => (recvCell t (peer t c), N t))
    ++ [(endCell (lf c), 1), (endCell (rt c), 1)]

/-- The debt of a list of payments. -/
def debt : List (GSem nD τ sig × ℕ) → CellTallies nD τ sig Unit
  | [] => 0
  | (g, n) :: l => debt l + tallyAt g () n

/-- The device still owes the payments of `l`. -/
def ow (c : Dev nD) (l : List (GSem nD τ sig × ℕ)) : sProp 𝕄 := iprop(∃ W, owes (c : Thread nD τ) (debt l) W)

def rank : SemLoc sig → ℕ
  | .reg s => if s = bar0 then 1 else 20
  | .dma q => match kind q with
    | some (t, true) => t.val + 2
    | _ => 0

def L (g : GSem nD τ sig) : Finset Unit := if g.1.2 = .tc then {()} else ∅
def lv (g : GSem nD τ sig) (_ : Unit) : ℕ := rank g.2

/-- Only a core's cells are ranked. -/
theorem L_of_ne (g : GSem nD τ sig) (h : g.1.2 ≠ .tc) : L g = ∅ := if_neg h

/-- A core's cell is ranked. -/
theorem L_tc (c : Dev nD) (s : SemLoc sig) : L ((c : Thread nD τ), s) = {()} := if_pos rfl

/-- What is owed on a cell is owed by an entry of the list. -/
theorem debt_pos {l : List (GSem nD τ sig × ℕ)} {g : GSem nD τ sig} {u : Unit} (h : 0 < debt l g u) : ∃ n, (g, n) ∈ l := by
  induction l with
  | nil => exact absurd h (Nat.lt_irrefl 0)
  | cons a l ih =>
    obtain ⟨g', n⟩ := a
    by_cases hg : g = g'
    · exact ⟨n, by rw [hg]; exact List.mem_cons_self⟩
    · have h' : 0 < debt l g u + tallyAt g' () n g u := h
      rw [tallyAt_apply, if_neg (fun h => hg h.1)] at h'
      obtain ⟨n', hn'⟩ := ih h'
      exact ⟨n', List.mem_cons_of_mem _ hn'⟩

/-- Every payment of `l` is due on a core's cell ranked above `s`. -/
def Above (s : SemLoc sig) (l : List (GSem nD τ sig × ℕ)) : Prop := ∀ p ∈ l, p.1.1.2 = .tc ∧ rank s < rank p.1.2

instance (s : SemLoc sig) (l : List (GSem nD τ sig × ℕ)) : Decidable (Above s l) := by unfold Above; infer_instance

omit [FloatOps F] in
/-- A wait is allowed when everything still owed is ranked above it. -/
theorem mayWait (c : Dev nD) (s : SemLoc sig) (l : List (GSem nD τ sig × ℕ)) (h : Above s l) :
    (levAts L lv : sProp 𝕄) ⊢ MayWait (c : Thread nD τ) s () (debt l) :=
  MayOwe.of_cut (L := L) (lev := lv) (rank s) (fun p hp => by rw [Finset.mem_singleton.mp hp]; rw [L_tc]; exact Finset.mem_singleton_self _)
    (fun g u hg => by
      obtain ⟨n, hn⟩ := debt_pos hg
      rw [show L g = {()} from if_pos (h _ hn).1]; exact Finset.mem_singleton_self _)
    (fun p hp => by rw [Finset.mem_singleton.mp hp]; exact le_refl _)
    (fun g u hg => by
      obtain ⟨n, hn⟩ := debt_pos hg
      exact (h _ hn).2)

/-! ## The invariants -/

/-- Every cell's invariant, that its round has begun, and the ranks: what every device knows. -/
def known : sProp 𝕄 :=
  iprop((∃ K : Dev nD × Cell → ℕ, bigSep Finset.univ fun ck : Dev nD × Cell => cellInv ER (Rd I) (K ck) (kcell ck))
    ∗ (bigSep Finset.univ fun ck : Dev nD × Cell => reached ER (kcell ck) 0) ∗ levAts L lv)

/-- What every device knows stays known. -/
instance known_persistent : BI.Persistent (known I) := by unfold known; infer_instance

/-- Every device knows every cell's invariant. -/
theorem known_inv (ck : Dev nD × Cell) : known I ⊢ iprop(∃ κ : ℕ, cellInv ER (Rd I) κ (kcell ck)) := by
  unfold known
  iintro ⟨⟨%K, H⟩, -, -⟩
  iexists (K ck)
  iapply (show (bigSep Finset.univ fun ck : Dev nD × Cell => (cellInv ER (Rd I) (K ck) (kcell ck) : sProp 𝕄)) ⊢ cellInv ER (Rd I) (K ck) (kcell ck)
    from bigSep_elim (Finset.mem_univ ck))
  iexact H
/-- Every device knows that every cell's round has begun. -/
theorem known_reached (ck : Dev nD × Cell) : known I ⊢ (reached ER (kcell ck) 0 : sProp 𝕄) := by
  unfold known
  iintro ⟨-, H, -⟩
  iapply (show (bigSep Finset.univ fun ck : Dev nD × Cell => (reached ER (kcell ck) 0 : sProp 𝕄)) ⊢ reached ER (kcell ck) 0
    from bigSep_elim (Finset.mem_univ ck))
  iexact H
/-- Every device knows the ranks. -/
theorem known_lev : known I ⊢ (levAts L lv : sProp 𝕄) := by
  unfold known
  iintro ⟨-, -, H⟩
  iexact H

end Cert.KernelIdeal.Ring
-- ==== Proof.KernelIdeal.Memory.lean ====
/- Loads and stores of the body, said of what a device holds.

   Every rule here reads "holding this, the step may be taken, and afterwards that is held": the continuation
   is whatever the step is followed by. -/
module

public import proofs.«01_k».proof.Proof.KernelIdeal.Cells
public import Idealize.ShloMosaic.Lib.ValueLayout

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The assertions of this proof. -/
local notation "𝕄" => MT nD τ sig Unit (Elt F) ℕ UU ℕ

abbrev 𝒱₀ : Variants := Variants.none

/-- Device `c` may run `p` and then has `Q`. -/
abbrev W {α : Type} (c : Dev nD) (p : Line F α) (Q : α → sProp 𝕄) : sProp 𝕄 :=
  wp frame (wpE (defs₀ (F := F)) 𝒱₀ (c : Thread nD τ) none) Set.univ p Q

/-- Running one line after another. -/
theorem W_bind {α β : Type} (c : Dev nD) (p : Line F α) (k : α → Line F β) (Q : β → sProp 𝕄) :
    W c (p >>= k) Q = W c p fun a => W c (k a) Q := by
  exact wp_bind ..

/-- A program that does nothing ends with its value. -/
theorem W_pure {α : Type} (c : Dev nD) (a : α) (Q : α → sProp 𝕄) : Q a ⊢ W c (pure a : Line F α) Q := by
  unfold W
  rw [Prog.pure_eq_ret, wp_ret]
  exact fupd_intro

variable (c : Dev nD)

/-- A load through a rectangle of a buffer all of which, or more than the rectangle of which, is held. -/
theorem ld_has {s : Shape} {e : EltTy} (A : Memref sig .tc .vmem s e) (r : Rect s) (h : 0 < r.shape.numel) (q : PosShare TreeShare)
    (X : Vec F s e) (Q : Vec F r.shape e → sProp 𝕄) :
    has c A q X ⊢ iprop((has c A q X -∗ Q fun i => X (r.emb i)) -∗ W c (ld A r h) Q) := by
  unfold has owns
  iintro ⟨%f, %hf, H⟩ Hk
  unfold W ld Prog.lift
  iapply (wp_load 𝒱₀ (c : Thread nD τ) none Set.univ (m := A) (View.setOn_subset_set _ _)) $$ H
  iintro H
  rw [wp_ret]
  imodintro
  rw [show A.view.readAt (Elt F) r.toLoadRect f = fun i => X (r.emb i) from by subst hf; rfl]
  iapply Hk
  iexists f
  isplitr
  · ipureintro; exact hf
  iexact H

/-- A load through a rectangle of a buffer whose slice is held. -/
theorem ld_slice {s : Shape} {e : EltTy} (A : Memref sig .tc .vmem s e) (r : Rect s) (hr : ∀ a, r.stride a = 1) (h : 0 < r.shape.numel)
    (q : PosShare TreeShare) (X : Vec F r.shape e) (Q : Vec F r.shape e → sProp 𝕄) :
    has c (A.slice r hr) q X ⊢ iprop((has c (A.slice r hr) q X -∗ Q X) -∗ W c (ld A r h) Q) := by
  unfold has owns
  iintro ⟨%f, %hf, H⟩ Hk
  unfold W ld Prog.lift
  iapply (wp_load_rect 𝒱₀ (c : Thread nD τ) none Set.univ (m := A) (r := r) (Finset.Subset.refl _)) $$ H
  iintro H
  rw [wp_ret]
  imodintro
  rw [show (A.access r).read (Elt F) f = X from hf]
  iapply Hk
  iexists f
  isplitr
  · ipureintro; exact hf
  iexact H

/-- A load through a rectangle that lies in a held slice of which an axis is dropped; `φ` says where. -/
theorem ld_part {s s' : Shape} {e : EltTy} (A : Memref sig .tc .vmem s e) (r : Rect s) (hr : ∀ a, r.stride a = 1) (hs : r.shape.Squeezes s')
    (r₂ : Rect s) (h : 0 < r₂.shape.numel) (q : PosShare TreeShare) (X : Vec F s' e) (φ : r₂.shape.Idx → s'.Idx)
    (hφ : ∀ y, r₂.emb y = r.emb (Shape.reshapeEquiv hs.numel_eq (φ y))) (Q : Vec F r₂.shape e → sProp 𝕄) :
    has c ((A.slice r hr).squeeze s' hs) q X
      ⊢ iprop((has c ((A.slice r hr).squeeze s' hs) q X -∗ Q fun y => X (φ y)) -∗ W c (ld A r₂ h) Q) := by
  unfold has owns
  iintro ⟨%f, %hf, H⟩ Hk
  unfold W ld Prog.lift
  iapply (wp_load_rect 𝒱₀ (c : Thread nD τ) none Set.univ (m := A) (r := r₂) (S := ((A.slice r hr).squeeze s' hs).view.set) (by
    intro i hi
    obtain ⟨y, -, rfl⟩ := Finset.mem_map.mp hi
    have : (A.access r₂).emb y = ((A.slice r hr).squeeze s' hs).view.emb (φ y) := congrArg A.view.emb (hφ y)
    rw [this]
    exact View.emb_mem_set _ _)) $$ H
  iintro H
  rw [wp_ret]
  imodintro
  rw [show (A.access r₂).read (Elt F) f = fun y => X (φ y) from by
    subst hf
    funext y
    show _root_.cast _ (f (A.view.emb (r₂.emb y))) = _root_.cast _ (f (A.view.emb (r.emb (Shape.reshapeEquiv hs.numel_eq (φ y)))))
    rw [hφ y]]
  iapply Hk
  iexists f
  isplitr
  · ipureintro; exact hf
  iexact H

/-- Device `c` holds `A` with `v` stored through `r` over the contents `X`. -/
def stored {s : Shape} {e : EltTy} (c : Dev nD) (A : Memref sig .tc .vmem s e) (X : Vec F s e) (r : Rect s) (v : Vec F r.shape e) : sProp 𝕄 :=
  iprop(∃ Y, ⌜(∀ k, Y (r.emb k) = v k) ∧ ∀ j, j ∉ r.set → Y j = X j⌝ ∗ has c A fullShare Y)

/-- A store through a rectangle of a held buffer. -/
theorem st_has {s : Shape} (A : Memref sig .tc .vmem s .f32) (r : Rect s) (h : 0 < r.shape.numel) (X : Vec F s .f32) (v : Vec F r.shape .f32)
    (Q : PUnit → sProp 𝕄) : has c A fullShare X ⊢ iprop((stored c A X r v -∗ Q ⟨⟩) -∗ W c (st A r h v) Q) := by
  iintro H Hk
  unfold st
  rw [W_bind]
  iapply (ld_has c A r h fullShare X) $$ H
  unfold has owns
  iintro ⟨%f, %hf, H⟩
  unfold W Prog.lift
  iapply (wp_store 𝒱₀ (c : Thread nD τ) none Set.univ (m := A) (r := r) (Mk := Finset.univ) (S := A.view.set)
    (View.set_slice_subset _ r)) $$ H
  iintro H
  rw [wp_ret]
  imodintro
  iapply Hk
  unfold stored has owns
  iexists (A.view.read (Elt F) ((A.access r).write (Elt F) f v Finset.univ))
  isplitr
  · ipureintro
    subst hf
    refine ⟨fun k => View.read_slice_write_emb r f v (Finset.mem_univ k), fun j hj => View.read_slice_write_of_not_mem r f v _ ?_⟩
    rwa [Rect.map_emb_univ]
  iexists _
  isplitr
  · ipureintro; rfl
  iexact H

/-- The store of half a tile of the last hop. -/
theorem stHalf_has (i : Fin 2) (X v : Vec F S128x1024 .bf16) (Q : PUnit → sProp 𝕄) :
    has c (half fbSB i) fullShare X ⊢ iprop((has c (half fbSB i) fullShare v -∗ Q ⟨⟩) -∗ W c (stHalf i v) Q) := by
  iintro H Hk
  unfold stHalf
  rw [W_bind]
  iapply (ld_slice c fbSB (halfR i) (fun _ => rfl) h_S128x1024 fullShare X) $$ H
  unfold has owns
  iintro ⟨%f, %hf, H⟩
  unfold W Prog.lift
  iapply (wp_store 𝒱₀ (c : Thread nD τ) none Set.univ (m := fbSB) (r := halfR i) (w := v) (Mk := Finset.univ) (f := f) (S := (half fbSB i).view.set) (Finset.Subset.refl _)) $$ H
  iintro H
  rw [wp_ret]
  imodintro
  iapply Hk
  iexists _
  isplitr
  · ipureintro; exact View.read_write_univ (v := (half fbSB i).view) f v
  iexact H

/-! ## The tiles and slots -/

/-- Loading a tile of a three-tile buffer, a half of it, or a slot of a key or value buffer. -/
theorem ld_tile (A : Memref sig .tc .vmem S3x256x1024 .f32) (i : Fin 3) (q : PosShare TreeShare) (X : Vec F S256x1024 .f32)
    (Q : Vec F S1x256x1024 .f32 → sProp 𝕄) :
    has c (tile A i) q X ⊢ iprop((has c (tile A i) q X -∗ Q (up256 X)) -∗ W c (ld A (tileR i) h_S1x256x1024) Q) :=
  ld_part c A (tileR i) (fun _ => rfl) squeezes_S1x256x1024_S256x1024 (tileR i) h_S1x256x1024 q X
    (fun y => Shape.reshapeEquiv squeezes_S1x256x1024_S256x1024.numel_eq.symm y)
    (fun y => by rw [Shape.reshapeEquiv_reshapeEquiv, Shape.reshapeEquiv_self]) Q

/-- A load of a whole slot of keys or values. -/
theorem ld_slot (A : Memref sig .tc .vmem S4x2048x128 .f32) (s : Fin 4) (q : PosShare TreeShare) (X : Vec F S2048x128 .f32)
    (Q : KV F → sProp 𝕄) :
    has c (slot A s) q X ⊢ iprop((has c (slot A s) q X -∗ Q (upKV X)) -∗ W c (ld A (slotR s) h_S1x2048x128) Q) :=
  ld_part c A (slotR s) (fun _ => rfl) squeezes_S1x2048x128_S2048x128 (slotR s) h_S1x2048x128 q X
    (fun y => Shape.reshapeEquiv squeezes_S1x2048x128_S2048x128.numel_eq.symm y)
    (fun y => by rw [Shape.reshapeEquiv_reshapeEquiv, Shape.reshapeEquiv_self]) Q

/-- The two shapes of a quarter block have the same number of entries. -/
theorem numel128 : S1x128x1024.numel = S128x1024.numel := by decide

/-- Where half `j` of tile `i` lies: as half `j` of the tile as a matrix. -/
theorem half3_emb (i : Fin 3) (j : Fin 2) (y : S1x128x1024.Idx) :
    (half3R i j).emb y = (tileR i).emb (Shape.reshapeEquiv squeezes_S1x256x1024_S256x1024.numel_eq
      ((halfR j).emb (Shape.reshapeEquiv numel128 y))) := by
  obtain ⟨a, b, d, rfl⟩ : ∃ (a : Fin 1) (b : Fin 128) (d : Fin 1024), y = ix3 a b d := ⟨y 0, y 1, y 2, eq_ix3 y⟩
  have h1 : Shape.reshapeEquiv (s := S1x128x1024) (s' := S128x1024) numel128.symm (ix2 b d) = ix3 (⟨0, Nat.one_pos⟩ : Fin 1) b d :=
    ValueIdx.reshapeEquiv_ix2_1ab _ b d
  have h2 : Shape.reshapeEquiv (s := S128x1024) (s' := S1x128x1024) numel128 (ix3 a b d) = ix2 b d := by
    rw [Subsingleton.elim a ⟨0, Nat.one_pos⟩, ← h1, Shape.reshapeEquiv_reshapeEquiv, Shape.reshapeEquiv_self]
  have hlt : 128 * j.val + b.val < 256 := by have := j.isLt; have := b.isLt; omega
  have h3 : (halfR j).emb (ix2 b d) = (ix2 ⟨128 * j.val + b.val, hlt⟩ d : S256x1024.Idx) := by
    funext x; fin_cases x
    · exact Fin.ext (by show 128 * j.val + 1 * b.val = 128 * j.val + b.val; omega)
    · exact Fin.ext (by show 0 + 1 * d.val = d.val; omega)
  rw [h2, h3, show Shape.reshapeEquiv (s := S1x256x1024) (s' := S256x1024) squeezes_S1x256x1024_S256x1024.numel_eq
    (ix2 ⟨128 * j.val + b.val, hlt⟩ d) = ix3 (⟨0, Nat.one_pos⟩ : Fin 1) ⟨128 * j.val + b.val, hlt⟩ d from ValueIdx.reshapeEquiv_ix2_1ab _ _ _]
  funext x; fin_cases x
  · refine Fin.ext ?_
    show i.val + 1 * a.val = i.val + 1 * 0
    have := a.isLt; omega
  · refine Fin.ext ?_
    show 128 * j.val + 1 * b.val = 0 + 1 * (128 * j.val + b.val)
    omega
  · rfl

/-- A load of one half of a tile. -/
theorem ld_half3 (A : Memref sig .tc .vmem S3x256x1024 .f32) (i : Fin 3) (j : Fin 2) (q : PosShare TreeShare) (X : Vec F S256x1024 .f32)
    (Q : Vec F S1x128x1024 .f32 → sProp 𝕄) :
    has c (tile A i) q X ⊢ iprop((has c (tile A i) q X -∗ Q (up128 (halfOf X j))) -∗ W c (ld A (half3R i j) h_S1x128x1024) Q) :=
  ld_part c A (tileR i) (fun _ => rfl) squeezes_S1x256x1024_S256x1024 (half3R i j) h_S1x128x1024 q X
    (fun y => (halfR j).emb (Shape.reshapeEquiv numel128 y)) (half3_emb i j) Q

end Cert.KernelIdeal.Ring
-- ==== Proof.KernelIdeal.Fetch.lean ====
/- The fetches of keys and values, and one block's eight heads.

   Four slots hold one head's keys and values each. A slot is free, or a fetch into it is under way, or it is
   full; a fetch reads the whole arrays at the slot's own share. The eight heads of a block go round the slots,
   three fetches always being under way, and every head stores its own columns of the block's rows. -/
module

public import proofs.«01_k».proof.Proof.KernelIdeal.Memory

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

/-- The assertions of this proof. -/
local notation "𝕄" => MT nD τ sig Unit (Elt F) ℕ UU ℕ

abbrev EC : UEmb Counters (MT nD τ sig Unit (Elt F) ℕ UU ℕ) := countersEmb

/-- The share of the whole arrays that slot `s` fetches with. -/
def sh : Fin 4 → PosShare TreeShare :=
  ![fullShare.left.left, fullShare.left.right, fullShare.right.left, fullShare.right.right]

/-- A fetch's semaphore is unranked: nobody else counts on it. -/
theorem rank_kv (s : Fin 4) (w : Fin 2) : rank (.dma (kvSem s w)) = 0 := by revert s w; decide

/-- Every payment of `l` is due on a core's cell that is ranked. -/
def Due (l : List (GSem nD τ sig × ℕ)) : Prop := ∀ p ∈ l, p.1.1.2 = .tc ∧ 0 < rank p.1.2
/-- A wait at rank zero is below everything that is due. -/
theorem Due.above {l : List (GSem nD τ sig × ℕ)} (hl : Due l) {s : SemLoc sig} (hs : rank s = 0) : Above s l :=
  fun p hp => ⟨(hl p hp).1, hs ▸ (hl p hp).2⟩
/-- All that a device ever owes is due on ranked cells. -/
theorem due_pays (c : Dev nD) : Due (pays c) := by
  have : ∀ c : Dev nD, Above (.dma (kvSem 0 0)) (pays c) := by decide
  intro p hp
  exact ⟨(this c p hp).1, by have := (this c p hp).2; rwa [rank_kv] at this⟩
/-- And so is what is left after some payments. -/
theorem due_drop (c : Dev nD) (n : ℕ) : Due ((pays c).drop n) := fun p hp => due_pays c p (List.mem_of_mem_drop hp)

variable (c : Dev nD)

/-! ## One array's slot -/

abbrev kvCell (s : Fin 4) (w : Fin 2) : GSem nD τ sig := ((c : Thread nD τ), .dma (kvSem s w))

section Slot

variable (A : Memref sig .tc .hbm S4x2048x32x128 .f32) (B : Memref sig .tc .vmem S4x2048x128 .f32) (w : Fin 2)
  (X : Vec F S4x2048x32x128 .f32)

/-- Slot `s` of `B` is free. -/
def slotFree (s : Fin 4) : sProp 𝕄 :=
  iprop(any (F := F) c (slot B s) ∗ semVal (kvCell c s w) 0 ∗ has c A (sh s) X)
/-- Head `o` of `A` is on its way into slot `s` of `B`. -/
def slotBusy (s : Fin 4) (o : HeadOff) : sProp 𝕄 :=
  iprop(∃ f, ⌜A.view.read (Elt F) f = X⌝
    ∗ Flight EC (c : Thread nD τ) (.dma (kvSem s w)) () (slot B s).view.dmaCredit
        iprop(has c (slot B s) fullShare (headMat X o) ∗ (A.view.loc (c : Thread nD τ) ↦[(headOf A o).view.set]{sh s} f))
    ∗ (A.view.loc (c : Thread nD τ) ↦[A.view.set \ (headOf A o).view.set]{sh s} f))
/-- Slot `s` of `B` holds head `o` of `A`. -/
def slotFull (s : Fin 4) (o : HeadOff) : sProp 𝕄 :=
  iprop(has c (slot B s) fullShare (headMat X o) ∗ semVal (kvCell c s w) 0 ∗ has c A (sh s) X)

/-- A slot that was read may be filled again. -/
theorem slotFull_free (s : Fin 4) (o : HeadOff) : slotFull c A B w X s o ⊢ slotFree c A B w X s := by
  unfold slotFull slotFree
  iintro ⟨H, H2⟩
  isplitl [H]
  · iexists _; iexact H
  iexact H2

omit [FloatOps F] in
/-- A head is part of its array. -/
theorem headOf_subset (o : HeadOff) : (headOf A o).view.set ⊆ A.view.set :=
  (View.set_reshape (v := A.view.slice (Rect.unit (s := S4x2048x32x128) o.1 S1x2048x1x128.size o.2))
    squeezes_S1x2048x1x128_S2048x128.numel_eq).subset.trans (View.set_slice_subset _ _)

/-- Begin the fetch of head `o` into the free slot `s`. -/
theorem enq (s : Fin 4) (o : HeadOff) (h1 : (headOf A o).view.WordExact) (h2 : (slot B s).view.WordExact)
    (h3 : DmaTarget.Typed (nD := nD) (τ := τ) (p := .tc) .hbm (.dma (kvSem s w)) (.here (slot B s))) (Q : PUnit → sProp 𝕄) :
    slotFree c A B w X s ⊢ iprop((slotBusy c A B w X s o -∗ Q ⟨⟩)
      -∗ W c (Prog.lift (.enqueueDma (headOf A o) (.here (slot B s)) (.dma (kvSem s w)) h1 h2 h3)) Q) := by
  unfold slotFree slotBusy any has owns
  iintro ⟨⟨%X0, %fd, -, Hd⟩, Hv, %f, %hf, HA⟩ Hk
  have hsub := headOf_subset A o
  ihave HA' := (pointsTo_split_subset hsub).1 $$ HA
  icases HA' with ⟨Hs, Hr⟩
  unfold W Prog.lift
  iapply (wp_dmaLocal EC 𝒱₀ (c : Thread nD τ) none (src := headOf A o) (dst := slot B s) (sm := .dma (kvSem s w)) () (slot B s).view.dmaCredit rfl
    (View.dmaCredit_pos _ (by decide)) (Finset.Subset.refl _)) $$ [Hs Hd Hv]
  · isplitl [Hs]; · iexact Hs
    isplitl [Hd]; · iexact Hd
    iexact Hv
  iintro Hfl
  rw [wp_ret]
  imodintro
  iapply Hk
  iexists f
  isplitr
  · ipureintro; exact hf
  isplitl [Hfl]
  · iapply (Flight_mono EC (c : Thread nD τ) (by
      iintro ⟨Hd, Hs⟩
      isplitl [Hd]
      · iexists _
        isplitr
        swap
        · iexact Hd
        ipureintro
        refine (View.read_write_univ (v := (slot B s).view) _ _).trans ?_
        subst hf
        rfl
      iexact Hs)) $$ Hfl
  iexact Hr

/-- Wait for the fetch of head `o`. -/
theorem fetched (I : Dev nD → Ins F) (l : List (GSem nD τ sig × ℕ)) (hl : Due l) (s : Fin 4) (o : HeadOff)
    (h1 : (headOf A o).view.WordExact) (h2 : (slot B s).view.WordExact) (Q : PUnit → sProp 𝕄) :
    iprop(known I ∗ slotBusy c A B w X s o ∗ ow (F := F) c l)
      ⊢ iprop((slotFull c A B w X s o ∗ ow (F := F) c l -∗ Q ⟨⟩)
        -∗ W c (Prog.lift (.waitDma2 (kvSem s w) (headOf A o) (slot B s) h1 h2)) Q) := by
  unfold slotBusy slotFull ow
  iintro ⟨#Hk, ⟨%f, %hf, Hfl, Hr⟩, %Ws, HO⟩ Hq
  unfold W Prog.lift
  iapply (wp_waitLocalO EC 𝒱₀ (c : Thread nD τ) none (sem := kvSem s w) (srcw := headOf A o) (dstw := slot B s) () rfl) $$ [Hfl HO]
  · isplitl [Hfl]; · iexact Hfl
    isplitl [HO]; · iexact HO
    iapply (mayWait c (.dma (kvSem s w)) l (hl.above (rank_kv s w)))
    iapply (known_lev I)
    iexact Hk
  iintro ⟨⟨Hd, Hs⟩, Hv, HO⟩
  rw [wp_ret]
  imodintro
  iapply Hq
  isplitr [HO]
  · isplitl [Hd]; · iexact Hd
    isplitl [Hv]; · iexact Hv
    unfold has owns
    iexists f
    isplitr
    · ipureintro; exact hf
    iapply (pointsTo_split_subset (headOf_subset A o)).2
    isplitl [Hs] <;> iassumption
  iexists _
  iexact HO

end Slot

/-! ## A slot of keys and its slot of values -/

variable (I : Dev nD → Ins F)

def kvFree (s : Fin 4) : sProp 𝕄 := iprop(slotFree c kH kB 0 (I c).k s ∗ slotFree c vH vB 1 (I c).v s)
def kvBusy (s : Fin 4) (o : HeadOff) : sProp 𝕄 := iprop(slotBusy c kH kB 0 (I c).k s o ∗ slotBusy c vH vB 1 (I c).v s o)
def kvFull (s : Fin 4) (o : HeadOff) : sProp 𝕄 := iprop(slotFull c kH kB 0 (I c).k s o ∗ slotFull c vH vB 1 (I c).v s o)

/-- The fetch of a head's keys and values starts. -/
theorem kvEnq_has (s : Fin 4) (o : HeadOff) (Q : PUnit → sProp 𝕄) :
    kvFree c I s ⊢ iprop((kvBusy c I s o -∗ Q ⟨⟩) -∗ W c (kvEnq s o) Q) := by
  unfold kvFree kvBusy
  iintro ⟨Hk, Hv⟩ HQ
  unfold kvEnq
  rw [W_bind]
  iapply (enq c kH kB 0 (I c).k s o) $$ Hk
  iintro Hk
  iapply (enq c vH vB 1 (I c).v s o) $$ Hv
  iintro Hv
  iapply HQ
  isplitl [Hk] <;> iassumption

/-- The wait for a head's keys and values. -/
theorem kvWait_has (l : List (GSem nD τ sig × ℕ)) (hl : Due l) (s : Fin 4) (o : HeadOff) (Q : PUnit → sProp 𝕄) :
    iprop(known I ∗ kvBusy c I s o ∗ ow (F := F) c l) ⊢ iprop((kvFull c I s o ∗ ow (F := F) c l -∗ Q ⟨⟩) -∗ W c (kvWait s o) Q) := by
  unfold kvBusy kvFull
  iintro ⟨#Hn, ⟨Hk, Hv⟩, HO⟩ HQ
  unfold kvWait
  rw [W_bind]
  iapply (fetched c kH kB 0 (I c).k I l hl s o) $$ [Hk HO]
  · isplitr; · iexact Hn
    isplitl [Hk] <;> iassumption
  iintro ⟨Hk, HO⟩
  iapply (fetched c vH vB 1 (I c).v I l hl s o) $$ [Hv HO]
  · isplitr; · iexact Hn
    isplitl [Hv] <;> iassumption
  iintro ⟨Hv, HO⟩
  iapply HQ
  isplitr [HO]
  · isplitl [Hk] <;> iassumption
  iexact HO

/-- What the fetch begun within a head needs and leaves. -/
def nextPre : Option (Fin 4 × HeadOff) → sProp 𝕄
  | none => iprop(emp)
  | some (s, _) => kvFree c I s
def nextPost : Option (Fin 4 × HeadOff) → sProp 𝕄
  | none => iprop(emp)
  | some (s, o) => kvBusy c I s o

/-- The fetch of the next head, where there is one. -/
theorem kvNext_has (nx : Option (Fin 4 × HeadOff)) (Q : PUnit → sProp 𝕄) :
    nextPre c I nx ⊢ iprop((nextPost c I nx -∗ Q ⟨⟩) -∗ W c (kvNext nx) Q) := by
  cases nx with
  | none =>
    unfold nextPre nextPost kvNext
    iintro H HQ
    iapply W_pure
    iapply HQ
    iexact H
  | some p => exact kvEnq_has c I p.1 p.2 Q

/-- One head's keys and values. -/
abbrev keys (o : HeadOff) : KV F := upKV (headMat (I c).k o)
abbrev vals (o : HeadOff) : KV F := upKV (headMat (I c).v o)

/-- One head of a block. -/
theorem headStep_has (l : List (GSem nD τ sig × ℕ)) (hl : Due l) (s : Fin 4) (o : HeadOff) (nx : Option (Fin 4 × HeadOff)) (r : Rect S512x1024)
    (h : 0 < r.shape.numel) (f : KV F → KV F → Vec F r.shape .f32) (G : Vec F S512x1024 .f32) (Q : PUnit → sProp 𝕄) :
    iprop(known I ∗ kvBusy c I s o ∗ nextPre c I nx ∗ has c oB fullShare G ∗ ow (F := F) c l)
      ⊢ iprop((kvFree c I s ∗ nextPost c I nx ∗ stored c oB G r (f (keys c I o) (vals c I o)) ∗ ow (F := F) c l -∗ Q ⟨⟩)
        -∗ W c (headStep s o nx r h f) Q) := by
  iintro ⟨#Hn, Hb, Hx, Ho, HO⟩ HQ
  unfold headStep
  rw [W_bind]
  iapply (kvWait_has c I l hl s o) $$ [Hb HO]
  · isplitr; · iexact Hn
    isplitl [Hb] <;> iassumption
  iintro ⟨Hb, HO⟩
  rw [W_bind]
  iapply (kvNext_has c I nx) $$ Hx
  iintro Hx
  unfold kvFull slotFull
  icases Hb with ⟨⟨Hk, Hk2⟩, Hv, Hv2⟩
  rw [W_bind]
  iapply (ld_slot c kB s fullShare) $$ Hk
  iintro Hk
  rw [W_bind]
  iapply (ld_slot c vB s fullShare) $$ Hv
  iintro Hv
  iapply (st_has c oB r h G) $$ Ho
  iintro Ho
  iapply HQ
  isplitl [Hk Hk2 Hv Hv2]
  · unfold kvFree
    isplitl [Hk Hk2]
    · iapply (slotFull_free c kH kB 0 (I c).k s o)
      unfold slotFull
      isplitl [Hk] <;> iassumption
    · iapply (slotFull_free c vH vB 1 (I c).v s o)
      unfold slotFull
      isplitl [Hv] <;> iassumption
  isplitl [Hx]; · iexact Hx
  isplitl [Ho]; · iexact Ho
  iexact HO

/-! ## The eight heads of a block -/

/-- The first `n` heads' columns are in place. -/
def Filled (r : Fin 8 → Rect S512x1024) (v : (j : Fin 8) → Vec F (r j).shape .f32) (n : ℕ) (G : Vec F S512x1024 .f32) : Prop :=
  ∀ j : Fin 8, j.val < n → ∀ k, G ((r j).emb k) = v j k

/-- The heads' output buffer with the first `n` heads' columns in place. -/
def filled (r : Fin 8 → Rect S512x1024) (v : (j : Fin 8) → Vec F (r j).shape .f32) (n : ℕ) : sProp 𝕄 :=
  iprop(∃ G, ⌜Filled r v n G⌝ ∗ has c oB fullShare G)

/-- The columns of different heads do not meet. -/
def Apart (r : Fin 8 → Rect S512x1024) : Prop := ∀ i j, i ≠ j → ∀ k, (r i).emb k ∉ (r j).set

/-- One more head is written. -/
theorem filled_step (r : Fin 8 → Rect S512x1024) (hr : Apart r) (v : (j : Fin 8) → Vec F (r j).shape .f32) (j : Fin 8) (G : Vec F S512x1024 .f32)
    (hG : Filled r v j.val G) : stored c oB G (r j) (v j) ⊢ filled c r v (j.val + 1) := by
  unfold stored filled
  iintro ⟨%Y, %hY, H⟩
  iexists Y
  isplitr
  · ipureintro
    intro i hi k
    by_cases hij : i = j
    · subst hij; exact hY.1 k
    · rw [hY.2 _ (hr i j hij k)]
      exact hG i (by have : i.val ≠ j.val := fun h => hij (Fin.ext h); omega) k
  iexact H

/-- One head, its columns added to those in place. -/
theorem headStep_filled (l : List (GSem nD τ sig × ℕ)) (hl : Due l) (r : Fin 8 → Rect S512x1024) (hr : Apart r) (h : ∀ j, 0 < (r j).shape.numel)
    (o : Fin 8 → HeadOff) (f : (j : Fin 8) → KV F → KV F → Vec F (r j).shape .f32) (j : Fin 8) (s : Fin 4) (nx : Option (Fin 4 × HeadOff))
    (Q : PUnit → sProp 𝕄) :
    iprop(known I ∗ kvBusy c I s (o j) ∗ nextPre c I nx ∗ filled c r (fun j => f j (keys c I (o j)) (vals c I (o j))) j.val ∗ ow (F := F) c l)
      ⊢ iprop((kvFree c I s ∗ nextPost c I nx ∗ filled c r (fun j => f j (keys c I (o j)) (vals c I (o j))) (j.val + 1) ∗ ow (F := F) c l -∗ Q ⟨⟩)
        -∗ W c (headStep s (o j) nx (r j) (h j) (f j)) Q) := by
  iintro ⟨#Hn, Hb, Hx, Hf, HO⟩ HQ
  unfold filled
  icases Hf with ⟨%G, %hG, Ho⟩
  iapply (headStep_has c I l hl s (o j) nx (r j) (h j) (f j) G) $$ [Hb Hx Ho HO]
  · isplitr; · iexact Hn
    isplitl [Hb]; · iexact Hb
    isplitl [Hx]; · iexact Hx
    isplitl [Ho] <;> iassumption
  iintro ⟨Hb, Hx, Ho, HO⟩
  iapply HQ
  isplitl [Hb]; · iexact Hb
  isplitl [Hx]; · iexact Hx
  isplitl [Ho]
  · have hs := filled_step c r hr (fun j => f j (keys c I (o j)) (vals c I (o j))) j G hG
    unfold filled at hs
    iapply hs $$ Ho
  iexact HO

/-- The same with a next fetch, and without one. -/
theorem headStep_next (l : List (GSem nD τ sig × ℕ)) (hl : Due l) (r : Fin 8 → Rect S512x1024) (hr : Apart r) (h : ∀ j, 0 < (r j).shape.numel)
    (o : Fin 8 → HeadOff) (f : (j : Fin 8) → KV F → KV F → Vec F (r j).shape .f32) (j : Fin 8) (s s' : Fin 4) (o' : HeadOff)
    (Q : PUnit → sProp 𝕄) :
    iprop(known I ∗ kvBusy c I s (o j) ∗ kvFree c I s' ∗ filled c r (fun j => f j (keys c I (o j)) (vals c I (o j))) j.val ∗ ow (F := F) c l)
      ⊢ iprop((kvFree c I s ∗ kvBusy c I s' o' ∗ filled c r (fun j => f j (keys c I (o j)) (vals c I (o j))) (j.val + 1) ∗ ow (F := F) c l -∗ Q ⟨⟩)
        -∗ W c (headStep s (o j) (some (s', o')) (r j) (h j) (f j)) Q) :=
  headStep_filled c I l hl r hr h o f j s (some (s', o')) Q
/-- The step of a head after which nothing is fetched. -/
theorem headStep_last (l : List (GSem nD τ sig × ℕ)) (hl : Due l) (r : Fin 8 → Rect S512x1024) (hr : Apart r) (h : ∀ j, 0 < (r j).shape.numel)
    (o : Fin 8 → HeadOff) (f : (j : Fin 8) → KV F → KV F → Vec F (r j).shape .f32) (j : Fin 8) (s : Fin 4) (Q : PUnit → sProp 𝕄) :
    iprop(known I ∗ kvBusy c I s (o j) ∗ emp ∗ filled c r (fun j => f j (keys c I (o j)) (vals c I (o j))) j.val ∗ ow (F := F) c l)
      ⊢ iprop((kvFree c I s ∗ emp ∗ filled c r (fun j => f j (keys c I (o j)) (vals c I (o j))) (j.val + 1) ∗ ow (F := F) c l -∗ Q ⟨⟩)
        -∗ W c (headStep s (o j) none (r j) (h j) (f j)) Q) :=
  headStep_filled c I l hl r hr h o f j s none Q

/-- Before a block: its first three heads are on their way, and the fourth slot is free. -/
def ready (o : Fin 8 → HeadOff) : sProp 𝕄 := iprop(kvBusy c I 0 (o 0) ∗ kvBusy c I 1 (o 1) ∗ kvBusy c I 2 (o 2) ∗ kvFree c I 3)
/-- When no block follows all slots are free. -/
def idle : sProp 𝕄 := iprop(kvFree c I 0 ∗ kvFree c I 1 ∗ kvFree c I 2 ∗ kvFree c I 3)
def readyNext : Option (Fin 8 → HeadOff) → sProp 𝕄
  | none => idle c I
  | some o => ready c I o

/-- The eight heads of a block. -/
theorem heads_has (l : List (GSem nD τ sig × ℕ)) (hl : Due l) (r : Fin 8 → Rect S512x1024) (hr : Apart r) (h : ∀ j, 0 < (r j).shape.numel)
    (o : Fin 8 → HeadOff) (nx : Option (Fin 8 → HeadOff)) (f : (j : Fin 8) → KV F → KV F → Vec F (r j).shape .f32) (Q : PUnit → sProp 𝕄) :
    iprop(known I ∗ ready c I o ∗ any (F := F) c oB ∗ ow (F := F) c l)
      ⊢ iprop((readyNext c I nx ∗ filled c r (fun j => f j (keys c I (o j)) (vals c I (o j))) 8 ∗ ow (F := F) c l -∗ Q ⟨⟩)
        -∗ W c (heads o nx r h f) Q) := by
  unfold ready
  iintro ⟨#Hn, ⟨H0, H1, H2, H3⟩, ⟨%G, Ho⟩, HO⟩ HQ
  ihave Ho := (show has c oB fullShare G ⊢ filled c r (fun j => f j (keys c I (o j)) (vals c I (o j))) 0 from by
    unfold filled
    iintro H
    iexists G
    isplitr
    · ipureintro; exact fun _ hj => absurd hj (Nat.not_lt_zero _)
    iexact H) $$ Ho
  unfold heads
  rw [W_bind]
  iapply (headStep_next c I l hl r hr h o f 0 0 3 (o 3)) $$ [H0 H3 Ho HO]
  · isplitr; · iexact Hn
    isplitl [H0]; · iexact H0
    isplitl [H3]; · iexact H3
    isplitl [Ho]; · iexact Ho
    iexact HO
  iintro ⟨H0, H3, Ho, HO⟩
  rw [W_bind]
  iapply (headStep_next c I l hl r hr h o f 1 1 0 (o 4)) $$ [H1 H0 Ho HO]
  · isplitr; · iexact Hn
    isplitl [H1]; · iexact H1
    isplitl [H0]; · iexact H0
    isplitl [Ho]; · iexact Ho
    iexact HO
  iintro ⟨H1, H0, Ho, HO⟩
  rw [W_bind]
  iapply (headStep_next c I l hl r hr h o f 2 2 1 (o 5)) $$ [H2 H1 Ho HO]
  · isplitr; · iexact Hn
    isplitl [H2]; · iexact H2
    isplitl [H1]; · iexact H1
    isplitl [Ho]; · iexact Ho
    iexact HO
  iintro ⟨H2, H1, Ho, HO⟩
  rw [W_bind]
  iapply (headStep_next c I l hl r hr h o f 3 3 2 (o 6)) $$ [H3 H2 Ho HO]
  · isplitr; · iexact Hn
    isplitl [H3]; · iexact H3
    isplitl [H2]; · iexact H2
    isplitl [Ho]; · iexact Ho
    iexact HO
  iintro ⟨H3, H2, Ho, HO⟩
  rw [W_bind]
  iapply (headStep_next c I l hl r hr h o f 4 0 3 (o 7)) $$ [H0 H3 Ho HO]
  · isplitr; · iexact Hn
    isplitl [H0]; · iexact H0
    isplitl [H3]; · iexact H3
    isplitl [Ho]; · iexact Ho
    iexact HO
  iintro ⟨H0, H3, Ho, HO⟩
  cases nx with
  | none =>
    rw [W_bind]
    iapply (headStep_last c I l hl r hr h o f 5 1) $$ [H1 Ho HO]
    · isplitr; · iexact Hn
      isplitl [H1]; · iexact H1
      isplitr; · iempintro
      isplitl [Ho]; · iexact Ho
      iexact HO
    iintro ⟨H1, -, Ho, HO⟩
    rw [W_bind]
    iapply (headStep_last c I l hl r hr h o f 6 2) $$ [H2 Ho HO]
    · isplitr; · iexact Hn
      isplitl [H2]; · iexact H2
      isplitr; · iempintro
      isplitl [Ho]; · iexact Ho
      iexact HO
    iintro ⟨H2, -, Ho, HO⟩
    iapply (headStep_last c I l hl r hr h o f 7 3) $$ [H3 Ho HO]
    · isplitr; · iexact Hn
      isplitl [H3]; · iexact H3
      isplitr; · iempintro
      isplitl [Ho]; · iexact Ho
      iexact HO
    iintro ⟨H3, -, Ho, HO⟩
    iapply HQ
    isplitl [H0 H1 H2 H3]
    · unfold readyNext idle
      isplitl [H0]; · iexact H0
      isplitl [H1]; · iexact H1
      isplitl [H2] <;> iassumption
    isplitl [Ho]; · iexact Ho
    iexact HO
  | some o' =>
    rw [W_bind]
    iapply (headStep_next c I l hl r hr h o f 5 1 0 (o' 0)) $$ [H1 H0 Ho HO]
    · isplitr; · iexact Hn
      isplitl [H1]; · iexact H1
      isplitl [H0]; · iexact H0
      isplitl [Ho]; · iexact Ho
      iexact HO
    iintro ⟨H1, H0, Ho, HO⟩
    rw [W_bind]
    iapply (headStep_next c I l hl r hr h o f 6 2 1 (o' 1)) $$ [H2 H1 Ho HO]
    · isplitr; · iexact Hn
      isplitl [H2]; · iexact H2
      isplitl [H1]; · iexact H1
      isplitl [Ho]; · iexact Ho
      iexact HO
    iintro ⟨H2, H1, Ho, HO⟩
    iapply (headStep_next c I l hl r hr h o f 7 3 2 (o' 2)) $$ [H3 H2 Ho HO]
    · isplitr; · iexact Hn
      isplitl [H3]; · iexact H3
      isplitl [H2]; · iexact H2
      isplitl [Ho]; · iexact Ho
      iexact HO
    iintro ⟨H3, H2, Ho, HO⟩
    iapply HQ
    isplitl [H0 H1 H2 H3]
    · unfold readyNext ready
      isplitl [H0]; · iexact H0
      isplitl [H1]; · iexact H1
      isplitl [H2] <;> iassumption
    isplitl [Ho]; · iexact Ho
    iexact HO

end Cert.KernelIdeal.Ring
-- ==== Proof.KernelIdeal.Transfer.lean ====
/- The steps that reach across devices: a transfer begun, a transfer waited for, and the two barriers. -/
module

public import proofs.«01_k».proof.Proof.KernelIdeal.Fetch

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

/-- The assertions of this proof. -/
local notation "𝕄" => MT nD τ sig Unit (Elt F) ℕ UU ℕ

variable (c : Dev nD) (I : Dev nD → Ins F)

/-- Device `c` has made its first `n` payments. -/
abbrev paid (n : ℕ) : sProp 𝕄 := ow (F := F) c ((pays c).drop n)

/-- After the two barrier units and the first `t` transfers the next payment is that of transfer `t`. -/
theorem pays_drop (t : Fin 13) (c : Dev nD) :
    (pays c).drop (t.val + 2) = (recvCell t (peer t c), N t) :: (pays c).drop (t.val + 3) := by
  fin_cases t <;> rfl

/-- What device `c` needs to begin transfer `t`: the right to count it on both semaphores; and its place on the send semaphore. -/
def toSend (t : Fin 13) : sProp 𝕄 :=
  iprop(dutyTok ER (sendCell t c) 0 false ∗ dutyTok ER (recvCell t (peer t c)) 0 false ∗ atPos ER (sendCell t c) 0 ∅ 0)
/-- Transfer `t` is begun and not yet waited for. -/
def sent (t : Fin 13) : sProp 𝕄 :=
  iprop(atPos ER (sendCell t c) 0 ∅ 0 ∗ cred (tallyAt (sendCell t c) () (N t)))
/-- What device `c` needs to wait for the transfer `t` that reaches it. -/
def toRecv (t : Fin 13) : sProp 𝕄 :=
  iprop(atPos ER (recvCell t c) 0 ∅ 0 ∗ cred (tallyAt (recvCell t c) () (N t)))
/-- The semaphores at rest, after the waits. -/
abbrev sendZero (t : Fin 13) : sProp 𝕄 := semVal (sendCell t c) 0
abbrev recvZero (t : Fin 13) : sProp 𝕄 := semVal (recvCell t c) 0

/-- Beginning transfer `t`, whatever the buffers' shape. -/
theorem begin_has {s : Shape} {e : EltTy} (t : Fin 13) (n : Dev nD) (hn : n = peer t c) (src dst : Memref sig .tc .vmem s e)
    (h1 : src.view.WordExact) (h2 : dst.view.WordExact)
    (h3 : DmaTarget.Typed (nD := nD) (τ := τ) (p := .tc) .vmem (.dma (sR t)) (.remote (Dev.tc n) dst (.dma (sS t))))
    (q : PosShare TreeShare) (X : Vec F s e) (hs : sendPay I t c = has c src q X) (hr : recvPay I t (peer t c) = has (peer t c) dst fullShare X)
    (hN : dst.view.dmaCredit = N t) (Q : PUnit → sProp 𝕄) :
    iprop(known I ∗ has c src q X ∗ any (F := F) (peer t c) dst ∗ toSend (F := F) c t ∗ paid (F := F) c (t.val + 2))
      ⊢ iprop((sent (F := F) c t ∗ paid (F := F) c (t.val + 3) -∗ Q ⟨⟩)
        -∗ W c (Prog.lift (.enqueueDma src (.remote (Dev.tc n) dst (.dma (sS t))) (.dma (sR t)) h1 h2 h3)) Q) := by
  subst hn
  unfold toSend sent paid ow
  iintro ⟨#Hn, Hs, ⟨%X0, Hd⟩, ⟨Ht1, Ht2, Hat⟩, %Ws, HO⟩ HQ
  ihave #Hi1 := (known_inv I (c, .inr (t, false))) $$ Hn
  ihave #Hi2 := (known_inv I (peer t c, .inr (t, true))) $$ Hn
  icases Hi1 with ⟨%κ₁, #Hi1⟩
  icases Hi2 with ⟨%κ₂, #Hi2⟩
  unfold has owns
  icases Hs with ⟨%fs, %hfs, Hs⟩
  icases Hd with ⟨%fd, -, Hd⟩
  unfold W Prog.lift
  iapply (Rounds.wp_send_pointsTo 𝒱₀ ER (Rd I) (c : Thread nD τ) none (c' := (peer t c : Thread nD τ)) (src := src) (dst := dst)
    (sS := .dma (sS t)) (sem := .dma (sR t)) (κ₁ := κ₁) (κ₂ := κ₂) (q := q) (fs := fs) (fd := fd)
    (r₁ := 0) (r₂ := 0) (d₁ := false) (d₂ := false)
    (by rw [duties_send]; exact Finset.mem_singleton_self _) (by rw [duties_recv]; exact Finset.mem_singleton_self _)
    () () (N t) hN (amount_dma I c t false false) (amount_dma I (peer t c) t true false) (debt ((pays c).drop (t.val + 3)))
    (show debt ((pays c).drop (t.val + 2)) = debt ((pays c).drop (t.val + 3)) + tallyAt (recvCell t (peer t c)) () (N t) from by rw [pays_drop]; rfl)
    (W := Ws)
    (by
      rw [payload_send, hs]; unfold has owns
      iintro H
      iexists fs
      isplitr
      · ipureintro; exact hfs
      iexact H)
    (by
      rw [payload_recv, hr]; unfold has owns
      iintro H
      iexists _
      isplitr
      swap
      · iexact H
      ipureintro
      exact (View.read_write_univ (v := dst.view) _ _).trans hfs)) $$ [Hs Hd Ht1 Ht2 HO]
  · isplitr; · iexact Hi1
    isplitr; · iexact Hi2
    isplitl [Hs]; · iexact Hs
    isplitl [Hd]; · iexact Hd
    isplitl [HO]; · iexact HO
    isplitl [Ht1]; · iexact Ht1
    isplitr; · iapply (known_reached I (c, .inr (t, false))); iexact Hn
    isplitl [Ht2]; · iexact Ht2
    iapply (known_reached I (peer t c, .inr (t, true))); iexact Hn
  iintro ⟨Hc, HO⟩
  rw [wp_ret]
  imodintro
  iapply HQ
  isplitl [Hat Hc]
  · isplitl [Hat] <;> iassumption
  iexists _
  iexact HO

/-- Waiting on either semaphore of transfer `t`, whatever the buffers' shape. -/
theorem awaited {s : Shape} {e : EltTy} (t : Fin 13) (b : Bool) (n : ℕ) (hab : ∀ c : Dev nD, Above (.dma (sX t b)) ((pays c).drop n))
    (src dst : Memref sig .tc .vmem s e) (h1 : src.view.WordExact) (h2 : dst.view.WordExact) (hN : dst.view.dmaCredit = N t) (Q : PUnit → sProp 𝕄) :
    iprop(known I ∗ (atPos ER (kcell (c, .inr (t, b))) 0 ∅ 0 ∗ cred (tallyAt (kcell (c, .inr (t, b))) () (N t))) ∗ paid (F := F) c n)
      ⊢ iprop((bigSep ((Rd I).duties (kcell (c, .inr (t, b))) 0 \ ∅) (fun d => (Rd I).payload (kcell (c, .inr (t, b))) 0 d)
            ∗ semVal (kcell (c, .inr (t, b))) 0 ∗ paid (F := F) c n -∗ Q ⟨⟩)
        -∗ W c (Prog.lift (.waitDma2 (sX t b) src dst h1 h2)) Q) := by
  unfold paid ow
  iintro ⟨#Hn, ⟨Hat, Hc⟩, %Ws, HO⟩ HQ
  ihave #Hi := (known_inv I (c, .inr (t, b))) $$ Hn
  icases Hi with ⟨%κ, #Hi⟩
  unfold W Prog.lift
  rw [← hN]
  iapply (Rounds.wp_wait_rest_token 𝒱₀ ER (Rd I) (c : Thread nD τ) none (κ := κ)
    (wpE_waitDma2_eq 𝒱₀ (c : Thread nD τ) none Set.univ) (Set.mem_univ _) () (O := debt ((pays c).drop n)) (W := Ws) (R := 0) (m := 0) (T := ∅)
    (by rw [Nat.zero_add]; exact hN.trans (expect_dma I c t b).symm)) $$ [Hc HO Hat]
  · isplitr; · iexact Hi
    isplitl [Hc]; · iexact Hc
    isplitl [HO]; · iexact HO
    isplitr
    · iapply (mayWait c (.dma (sX t b)) ((pays c).drop n) (hab c))
      iapply (known_lev I)
      iexact Hn
    iexact Hat
  iintro ⟨HO, Hat, -, Hpay⟩
  rw [wp_ret]
  imod (Rounds.cell_close ER (Rd I) (Set.mem_univ κ) (fun h => h) (R := 0 + 1) (duties_later I (kcell (c, .inr (t, b))))) $$ [Hat] with Hz
  · isplitr; · iexact Hi
    iexact Hat
  imodintro
  iapply HQ
  isplitl [Hpay]; · iexact Hpay
  isplitl [Hz]; · iexact Hz
  iexists _
  iexact HO

/-- A wait on a receive cell gives what arrived. -/
theorem recv_has {s : Shape} {e : EltTy} (t : Fin 13) (n : ℕ) (hab : ∀ c : Dev nD, Above (.dma (sR t)) ((pays c).drop n))
    (src dst : Memref sig .tc .vmem s e) (h1 : src.view.WordExact) (h2 : dst.view.WordExact) (hN : dst.view.dmaCredit = N t) (Q : PUnit → sProp 𝕄) :
    iprop(known I ∗ toRecv (F := F) c t ∗ paid (F := F) c n)
      ⊢ iprop((recvPay I t c ∗ recvZero (F := F) c t ∗ paid (F := F) c n -∗ Q ⟨⟩)
        -∗ W c (Prog.lift (.waitDma2 (sR t) src dst h1 h2)) Q) := by
  rw [← rest_recv]
  exact awaited c I t true n hab src dst h1 h2 hN Q

/-- A wait on a send cell gives the source back. -/
theorem left_has {s : Shape} {e : EltTy} (t : Fin 13) (n : ℕ) (hab : ∀ c : Dev nD, Above (.dma (sS t)) ((pays c).drop n))
    (src dst : Memref sig .tc .vmem s e) (h1 : src.view.WordExact) (h2 : dst.view.WordExact) (hN : dst.view.dmaCredit = N t) (Q : PUnit → sProp 𝕄) :
    iprop(known I ∗ sent (F := F) c t ∗ paid (F := F) c n)
      ⊢ iprop((sendPay I t c ∗ sendZero (F := F) c t ∗ paid (F := F) c n -∗ Q ⟨⟩)
        -∗ W c (Prog.lift (.waitDma2 (sS t) src dst h1 h2)) Q) := by
  rw [← rest_send]
  exact awaited c I t false n hab src dst h1 h2 hN Q

/-! ## The barriers -/

/-- What device `c` needs for the entry barrier, and for the exit barrier. -/
def toEnter : sProp 𝕄 :=
  iprop(dutyTok ER (barCell (lf c)) 0 false ∗ dutyTok ER (barCell (rt c)) 0 true ∗ atPos ER (barCell c) 0 ∅ 0 ∗ cred (tallyAt (barCell c) () 2))
def toLeave : sProp 𝕄 :=
  iprop(dutyTok ER (endCell (lf c)) 0 false ∗ dutyTok ER (endCell (rt c)) 0 true ∗ atPos ER (endCell c) 0 ∅ 0 ∗ cred (tallyAt (endCell c) () 2))

/-- One signal of a barrier. -/
theorem signal_has (b : Bool) (n n' : Dev nD) (hn : n = n') (d : Bool) (k : ℕ) (hk : (pays c).drop k = (kcell (n', .inl b), 1) :: (pays c).drop (k + 1))
    (Q : PUnit → sProp 𝕄) :
    iprop(known I ∗ dutyTok ER (kcell (n', .inl b)) 0 d ∗ (Rd I).payload (kcell (n', .inl b)) 0 d ∗ paid (F := F) c k)
      ⊢ iprop((paid (F := F) c (k + 1) -∗ Q ⟨⟩) -∗ W c (semSignalWord n (if b then bar1 else bar0) 1#32) Q) := by
  subst hn
  unfold paid ow
  iintro ⟨#Hn, Ht, Hp, %Ws, HO⟩ HQ
  ihave #Hi := (known_inv I (n, .inl b)) $$ Hn
  icases Hi with ⟨%κ, #Hi⟩
  unfold W
  simp only [semSignalWord, Prog.lift]
  iapply (Rounds.wp_signal 𝒱₀ ER (Rd I) (c : Thread nD τ) none (dst := (n : Thread nD τ)) (κ := κ) (r := 0) (d := d)
    (by rw [duties_reg]; exact Finset.mem_univ _) ((amount_reg I n _ d).trans (by decide)) () (debt ((pays c).drop (k + 1)))
    (show debt ((pays c).drop k) = debt ((pays c).drop (k + 1)) + tallyAt (kcell (n, .inl b)) () 1 from by rw [hk]; rfl) (W := Ws)) $$ [Ht Hp HO]
  · isplitr; · iexact Hi
    isplitl [HO]; · iexact HO
    isplitl [Ht]; · iexact Ht
    isplitl [Hp]
    · iapply (Entails.of_eq (show (Rd I).payload (kcell (n, .inl b)) 0 d
        = (Rd I).payload ((n : Thread nD τ), SemLoc.reg (if b then bar1 else bar0)) 0 d from rfl)) $$ Hp
    iapply (known_reached I (n, .inl b)); iexact Hn
  iintro HO
  rw [wp_ret]
  imodintro
  iapply HQ
  iexists _
  iexact HO

/-- The wait of a barrier. -/
theorem bar_has (b : Bool) (n : ℕ) (hab : ∀ c : Dev nD, Above (csem (.inl b)) ((pays c).drop n)) (Q : PUnit → sProp 𝕄) :
    iprop(known I ∗ (atPos ER (kcell (c, .inl b)) 0 ∅ 0 ∗ cred (tallyAt (kcell (c, .inl b)) () 2)) ∗ paid (F := F) c n)
      ⊢ iprop((bigSep ((Rd I).duties (kcell (c, .inl b)) 0 \ ∅) (fun d => (Rd I).payload (kcell (c, .inl b)) 0 d)
            ∗ semVal (kcell (c, .inl b)) 0 ∗ paid (F := F) c n -∗ Q ⟨⟩)
        -∗ W c (semWaitWord (if b then bar1 else bar0) 2#32) Q) := by
  unfold paid ow
  iintro ⟨#Hn, ⟨Hat, Hc⟩, %Ws, HO⟩ HQ
  ihave #Hi := (known_inv I (c, .inl b)) $$ Hn
  icases Hi with ⟨%κ, #Hi⟩
  unfold W
  simp only [semWaitWord, Prog.lift]
  iapply (Rounds.wp_wait_rest_token 𝒱₀ ER (Rd I) (c : Thread nD τ) none (κ := κ) (k' := 2)
    (wpE_semWait_eq 𝒱₀ (c : Thread nD τ) none Set.univ) (Set.mem_univ _) () (O := debt ((pays c).drop n)) (W := Ws) (R := 0) (m := 0) (T := ∅)
    (by rw [Nat.zero_add]; exact (expect_reg I c _).symm)) $$ [Hc HO Hat]
  · isplitr; · iexact Hi
    isplitl [Hc]; · iexact Hc
    isplitl [HO]; · iexact HO
    isplitr
    · iapply (mayWait c (csem (.inl b)) ((pays c).drop n) (hab c))
      iapply (known_lev I)
      iexact Hn
    iexact Hat
  iintro ⟨HO, Hat, -, Hpay⟩
  rw [wp_ret]
  imod (Rounds.cell_close ER (Rd I) (Set.mem_univ κ) (fun h => h) (R := 0 + 1) (duties_later I (kcell (c, .inl b)))) $$ [Hat] with Hz
  · isplitr; · iexact Hi
    iexact Hat
  imodintro
  iapply HQ
  isplitl [Hpay]; · iexact Hpay
  isplitl [Hz]; · iexact Hz
  iexists _
  iexact HO

/-- The entry barrier: each neighbour's landing buffers come, and this device's go. -/
theorem enter_has (l r : Dev nD) (hl : l = lf c) (hr : r = rt c) (Q : PUnit → sProp 𝕄) :
    iprop(known I ∗ toEnter (F := F) c ∗ (landR (F := F) c ∗ landL (F := F) c) ∗ paid (F := F) c 0)
      ⊢ iprop(((landR (F := F) (rt c) ∗ landL (F := F) (lf c)) ∗ semVal (barCell c) 0 ∗ paid (F := F) c 2 -∗ Q ⟨⟩) -∗ W c (enter l r) Q) := by
  unfold toEnter
  iintro ⟨#Hn, ⟨Ht1, Ht2, Hat, Hc⟩, ⟨HR, HL⟩, HO⟩ HQ
  unfold enter
  rw [W_bind]
  iapply (signal_has c I false l (lf c) hl false 0 rfl) $$ [Ht1 HR HO]
  · isplitr; · iexact Hn
    isplitl [Ht1]; · iexact Ht1
    isplitl [HR]
    · iapply (Entails.of_eq (show landR c = (Rd I).payload (kcell (lf c, .inl false)) 0 false from
        (congrArg (landR (F := F)) (rt_lf c)).symm.trans (payload_bar_false I (lf c)).symm)) $$ HR
    iexact HO
  iintro HO
  rw [W_bind]
  iapply (signal_has c I false r (rt c) hr true 1 rfl) $$ [Ht2 HL HO]
  · isplitr; · iexact Hn
    isplitl [Ht2]; · iexact Ht2
    isplitl [HL]
    · iapply (Entails.of_eq (show landL c = (Rd I).payload (kcell (rt c, .inl false)) 0 true from
        (congrArg (landL (F := F)) (lf_rt c)).symm.trans (payload_bar_true I (rt c)).symm)) $$ HL
    iexact HO
  iintro HO
  iapply (bar_has c I false 2 (by decide)) $$ [Hat Hc HO]
  · isplitr; · iexact Hn
    isplitl [Hat Hc]
    · isplitl [Hat]
      · iexact Hat
      iexact Hc
    iexact HO
  iintro ⟨Hp, Hz, HO⟩
  iapply HQ
  isplitl [Hp]
  · iapply (Entails.of_eq (show bigSep ((Rd I).duties (kcell (c, .inl false)) 0 \ ∅) (fun d => (Rd I).payload (kcell (c, .inl false)) 0 d)
        = iprop(landR (F := F) (rt c) ∗ landL (F := F) (lf c)) from rest_bar I c)) $$ Hp
  isplitl [Hz]; · iexact Hz
  iexact HO

/-- The exit barrier. -/
theorem leave_has (l r : Dev nD) (hl : l = lf c) (hr : r = rt c) (Q : PUnit → sProp 𝕄) :
    iprop(known I ∗ toLeave (F := F) c ∗ paid (F := F) c 15)
      ⊢ iprop((semVal (endCell c) 0 ∗ paid (F := F) c 17 -∗ Q ⟨⟩) -∗ W c (leave l r) Q) := by
  unfold toLeave
  iintro ⟨#Hn, ⟨Ht1, Ht2, Hat, Hc⟩, HO⟩ HQ
  unfold leave
  rw [W_bind]
  iapply (signal_has c I true l (lf c) hl false 15 rfl) $$ [Ht1 HO]
  · isplitr; · iexact Hn
    isplitl [Ht1]; · iexact Ht1
    isplitr
    · iapply (Entails.of_eq (show iprop(emp) = (Rd I).payload (kcell (lf c, .inl true)) 0 false from (payload_end I (lf c) false).symm)); iempintro
    iexact HO
  iintro HO
  rw [W_bind]
  iapply (signal_has c I true r (rt c) hr true 16 rfl) $$ [Ht2 HO]
  · isplitr; · iexact Hn
    isplitl [Ht2]; · iexact Ht2
    isplitr
    · iapply (Entails.of_eq (show iprop(emp) = (Rd I).payload (kcell (rt c, .inl true)) 0 true from (payload_end I (rt c) true).symm)); iempintro
    iexact HO
  iintro HO
  iapply (bar_has c I true 17 (by decide)) $$ [Hat Hc HO]
  · isplitr; · iexact Hn
    isplitl [Hat Hc]
    · isplitl [Hat]
      · iexact Hat
      iexact Hc
    iexact HO
  iintro ⟨-, Hz, HO⟩
  iapply HQ
  isplitl [Hz]; · iexact Hz
  iexact HO

end Cert.KernelIdeal.Ring
-- ==== Proof.KernelIdeal.Block.lean ====
/- One block of rows, from the tile it arrives in to the accumulator and the send buffers. -/
module

public import proofs.«01_k».proof.Proof.KernelIdeal.Transfer

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

/-- The assertions of this proof. -/
local notation "𝕄" => MT nD τ sig Unit (Elt F) ℕ UU ℕ

/-! ## Where the rectangles lie -/

/-- The whole rectangle of a 1024 by 1024 array moves nothing. -/
theorem whole1024_emb (i : S1024x1024.Idx) : whole1024.emb i = i := by
  funext a; fin_cases a <;> exact Fin.ext (by show 0 + 1 * _ = _; rw [Nat.zero_add, Nat.one_mul])
/-- The same of 512 by 1024. -/
theorem whole512_emb (i : S512x1024.Idx) : whole512.emb i = i := by
  funext a; fin_cases a <;> exact Fin.ext (by show 0 + 1 * _ = _; rw [Nat.zero_add, Nat.one_mul])
/-- The same of 256 by 1024. -/
theorem whole256_emb (i : S256x1024.Idx) : whole256.emb i = i := by
  funext a; fin_cases a <;> exact Fin.ext (by show 0 + 1 * _ = _; rw [Nat.zero_add, Nat.one_mul])

/-- Rectangles whose columns are different stretches of 128 do not meet. -/
theorem apart_of_cols (r : Fin 8 → Rect S512x1024) (h0 : ∀ j, (r j).off 1 = 128 * j.val) (h1 : ∀ j, (r j).stride 1 = 1)
    (h2 : ∀ j, (r j).size 1 = 128) : Apart r := by
  intro i j hij k hk
  obtain ⟨y, hy, h⟩ := (LoadRect.mem_set _).mp hk 1
  rw [h2] at hy
  rw [h0, h1, Nat.one_mul] at h
  have e : ∀ (i : Fin 8) (k : (r i).shape.Idx), ((r i).emb k 1).val = 128 * i.val + (k 1).val := by
    intro i k
    show (r i).off 1 + (r i).stride 1 * (k 1).val = _
    rw [h0, h1, Nat.one_mul]
  have b : ∀ (i : Fin 8) (k : (r i).shape.Idx), (k 1).val < 128 := fun i k => lt_of_lt_of_eq (k 1).isLt (h2 i)
  have := e i k
  have := b i k
  exact hij (Fin.ext (by omega))

/-- The eight heads' columns do not meet. -/
theorem apart512 : Apart col512 := apart_of_cols _ (fun _ => rfl) (fun _ => rfl) (fun _ => rfl)
/-- The same within half of the rows. -/
theorem apart256 (i : Fin 2) : Apart (col256 i) := apart_of_cols _ (fun _ => rfl) (fun _ => rfl) (fun _ => rfl)
/-- The same within a quarter of the rows. -/
theorem apart128 (i : Fin 4) : Apart (col128 i) := apart_of_cols _ (fun _ => rfl) (fun _ => rfl) (fun _ => rfl)

omit [FloatOps F] in
/-- Eight heads' columns in place are the heads side by side. -/
theorem filled512 (v : Fin 8 → Vec F S512x128 .f32) (G : Vec F S512x1024 .f32) (h : Filled col512 v 8 G) : G = glue512 v := by
  funext i
  obtain ⟨a, b, rfl⟩ : ∃ (a : Fin 512) (b : Fin 1024), i = ix2 a b := ⟨i 0, i 1, eq_ix2 i⟩
  refine Eq.trans (congrArg G ?_) (h ⟨b.val / 128, by omega⟩ (by show b.val / 128 < 8; omega) (ix2 a ⟨b.val % 128, Nat.mod_lt _ (by decide)⟩))
  funext x; fin_cases x
  · exact Fin.ext (by show a.val = 0 + 1 * a.val; omega)
  · exact Fin.ext (by show b.val = 128 * (b.val / 128) + 1 * (b.val % 128); omega)
omit [FloatOps F] in
/-- Half of the rows, once all heads are written, are the heads side by side. -/
theorem filled256 (i : Fin 2) (v : Fin 8 → Vec F S256x128 .f32) (G : Vec F S512x1024 .f32) (h : Filled (col256 i) v 8 G) :
    (fun k => G ((topR i).emb k)) = glue256 v := by
  funext k
  obtain ⟨a, b, rfl⟩ : ∃ (a : Fin 256) (b : Fin 1024), k = ix2 a b := ⟨k 0, k 1, eq_ix2 k⟩
  refine Eq.trans (congrArg G ?_) (h ⟨b.val / 128, by omega⟩ (by show b.val / 128 < 8; omega) (ix2 a ⟨b.val % 128, Nat.mod_lt _ (by decide)⟩))
  funext x; fin_cases x
  · rfl
  · exact Fin.ext (by show 0 + 1 * b.val = 128 * (b.val / 128) + 1 * (b.val % 128); omega)
omit [FloatOps F] in
/-- A quarter of the rows, once all heads are written, is the heads side by side. -/
theorem filled128 (i : Fin 4) (v : Fin 8 → Vec F S128x128 .f32) (G : Vec F S512x1024 .f32) (h : Filled (col128 i) v 8 G) :
    (fun k => G ((rowR i).emb k)) = glue128 v := by
  funext k
  obtain ⟨a, b, rfl⟩ : ∃ (a : Fin 128) (b : Fin 1024), k = ix2 a b := ⟨k 0, k 1, eq_ix2 k⟩
  refine Eq.trans (congrArg G ?_) (h ⟨b.val / 128, by omega⟩ (by show b.val / 128 < 8; omega) (ix2 a ⟨b.val % 128, Nat.mod_lt _ (by decide)⟩))
  funext x; fin_cases x
  · rfl
  · exact Fin.ext (by show 0 + 1 * b.val = 128 * (b.val / 128) + 1 * (b.val % 128); omega)

variable (c : Dev nD) (I : Dev nD → Ins F)

/-! ## What is held of a buffer -/

/-- `A` is held, with `v` within `r` and anything elsewhere. -/
def holds {s : Shape} {e : EltTy} (c : Dev nD) (A : Memref sig .tc .vmem s e) (r : Rect s) (v : Vec F r.shape e) : sProp 𝕄 :=
  iprop(∃ Y, ⌜∀ k, Y (r.emb k) = v k⌝ ∗ has c A fullShare Y)

/-- After a store the rectangle holds what was stored. -/
theorem stored_holds {s : Shape} {e : EltTy} (A : Memref sig .tc .vmem s e) (X : Vec F s e) (r : Rect s) (v : Vec F r.shape e) :
    stored c A X r v ⊢ holds c A r v := by
  unfold stored holds
  iintro ⟨%Y, %hY, H⟩
  iexists Y
  isplitr
  · ipureintro; exact hY.1
  iexact H

/-- A buffer whose rectangle is known is held with some contents. -/
theorem holds_any {s : Shape} {e : EltTy} (A : Memref sig .tc .vmem s e) (r : Rect s) (v : Vec F r.shape e) : holds c A r v ⊢ any c A := by
  unfold holds any
  iintro ⟨%Y, -, H⟩
  iexists Y
  iexact H

/-- A buffer whose whole is known is held with those contents. -/
theorem holds_whole512 (A : Memref sig .tc .vmem S512x1024 .f32) (v : Vec F S512x1024 .f32) : holds c A whole512 v ⊢ has c A fullShare v := by
  unfold holds
  iintro ⟨%Y, %hY, H⟩
  obtain rfl : Y = v := funext fun k => (congrArg Y (whole512_emb k)).symm.trans (hY k)
  iexact H
/-- The same of 256 by 1024. -/
theorem holds_whole256 (A : Memref sig .tc .vmem S256x1024 .f32) (v : Vec F S256x1024 .f32) : holds c A whole256 v ⊢ has c A fullShare v := by
  unfold holds
  iintro ⟨%Y, %hY, H⟩
  obtain rfl : Y = v := funext fun k => (congrArg Y (whole256_emb k)).symm.trans (hY k)
  iexact H

/-- Loading a whole weight matrix, or a whole block of rows. -/
theorem ld_whole1024 (A : Memref sig .tc .vmem S1024x1024 .f32) (q : PosShare TreeShare) (X : Vec F S1024x1024 .f32)
    (Q : Vec F S1024x1024 .f32 → sProp 𝕄) :
    has c A q X ⊢ iprop((has c A q X -∗ Q X) -∗ W c (ld A whole1024 h_S1024x1024) Q) := by
  have h := ld_has c A whole1024 h_S1024x1024 q X Q
  rwa [show (fun i => X (whole1024.emb i)) = X from funext fun i => congrArg X (whole1024_emb i)] at h
/-- A load of a whole buffer. -/
theorem ld_whole512 (A : Memref sig .tc .vmem S512x1024 .f32) (q : PosShare TreeShare) (X : Vec F S512x1024 .f32)
    (Q : Vec F S512x1024 .f32 → sProp 𝕄) :
    has c A q X ⊢ iprop((has c A q X -∗ Q X) -∗ W c (ld A whole512 h_S512x1024) Q) := by
  have h := ld_has c A whole512 h_S512x1024 q X Q
  rwa [show (fun i => X (whole512.emb i)) = X from funext fun i => congrArg X (whole512_emb i)] at h

/-- Loading what is held within a rectangle. -/
theorem ld_holds {s : Shape} {e : EltTy} (A : Memref sig .tc .vmem s e) (r : Rect s) (h : 0 < r.shape.numel) (v : Vec F r.shape e)
    (Q : Vec F r.shape e → sProp 𝕄) : holds c A r v ⊢ iprop((any c A -∗ Q v) -∗ W c (ld A r h) Q) := by
  unfold holds any
  iintro ⟨%Y, %hY, H⟩ HQ
  iapply (ld_has c A r h fullShare Y) $$ H
  iintro H
  rw [show (fun i => Y (r.emb i)) = v from funext hY]
  iapply HQ
  iexists Y
  iexact H

/-- Storing into a buffer whose contents do not matter. -/
theorem st_any {s : Shape} (A : Memref sig .tc .vmem s .f32) (r : Rect s) (h : 0 < r.shape.numel) (v : Vec F r.shape .f32)
    (Q : PUnit → sProp 𝕄) : any c A ⊢ iprop((holds c A r v -∗ Q ⟨⟩) -∗ W c (st A r h v) Q) := by
  iintro ⟨%X, H⟩ HQ
  iapply (st_has c A r h X v) $$ H
  iintro H
  iapply HQ
  iapply (stored_holds c A X r v) $$ H

/-! ## A block -/

/-- The weights, held throughout. -/
def weights : sProp 𝕄 := iprop(has c wqB fullShare (I c).wq ∗ has c woB fullShare (I c).wo)
/-- What every block works with: the weights, the heads' output buffer and the accumulator. -/
def desk : sProp 𝕄 := iprop(weights c I ∗ any (F := F) c oB ∗ any (F := F) c accB)

variable (l : List (GSem nD τ sig × ℕ)) (hl : Due l)

include hl in
/-- This device's own rows. -/
theorem own_has (Q : PUnit → sProp 𝕄) :
    iprop(known I ∗ has c xB kept (I c).x ∗ desk c I ∗ any (F := F) c pownB ∗ ready c I (offA c 0) ∗ ow (F := F) c l)
      ⊢ iprop((has c xB kept (I c).x ∗ desk c I ∗ has c pownB fullShare (pown I c) ∗ ready c I (offA c 1) ∗ ow (F := F) c l -∗ Q ⟨⟩)
        -∗ W c (own c) Q) := by
  unfold desk weights
  iintro ⟨#Hn, Hx, ⟨⟨Hwq, Hwo⟩, Ho, Ha⟩, Hp, Hr, HO⟩ HQ
  unfold own
  rw [W_bind]
  iapply (ld_whole512 c xB kept (I c).x) $$ Hx
  iintro Hx
  rw [W_bind]
  iapply (ld_whole1024 c wqB fullShare (I c).wq) $$ Hwq
  iintro Hwq
  rw [W_bind]
  iapply (heads_has c I l hl col512 apart512 (fun _ => h_S512x128) (offA c 0) (some (offA c 1)) (head512 (q512 (I c).x (I c).wq))) $$ [Hr Ho HO]
  · isplitr; · iexact Hn
    isplitl [Hr]; · iexact Hr
    isplitl [Ho]; · iexact Ho
    iexact HO
  unfold filled
  iintro ⟨Hr, ⟨%G, %hG, Ho⟩, HO⟩
  rw [W_bind]
  iapply (ld_whole512 c oB fullShare G) $$ Ho
  iintro Ho
  obtain rfl := filled512 _ G hG
  rw [W_bind]
  iapply (ld_whole1024 c woB fullShare (I c).wo) $$ Hwo
  iintro Hwo
  iapply (st_any c pownB whole512 h_S512x1024) $$ Hp
  iintro Hp
  iapply HQ
  isplitl [Hx]; · iexact Hx
  isplitl [Hwq Hwo Ho Ha]
  · isplitl [Hwq Hwo]
    · isplitl [Hwq]
      · iexact Hwq
      iexact Hwo
    isplitl [Ho]
    · iexists _; iexact Ho
    iexact Ha
  isplitl [Hp]
  · iapply (Entails.of_eq (show has c pownB fullShare (proj512 (glue512 fun j => head512 (q512 (I c).x (I c).wq) j (keys c I (offA c 0 j)) (vals c I (offA c 0 j))) (I c).wo)
      = has c pownB fullShare (pown I c) from rfl))
    iapply (holds_whole512 c pownB) $$ Hp
  isplitl [Hr]
  · iapply (Entails.of_eq (show readyNext c I (some (offA c 1)) = ready c I (offA c 1) from rfl)) $$ Hr
  iexact HO

include hl in
/-- A block of 256 rows. -/
theorem block_has (A : Memref sig .tc .vmem S3x256x1024 .f32) (i : Fin 3) (j : Fin 2) (o : Fin 8 → HeadOff) (nx : Option (Fin 8 → HeadOff))
    (q : PosShare TreeShare) (X : Vec F S256x1024 .f32) (Q : PUnit → sProp 𝕄) :
    iprop(known I ∗ has c (tile A i) q X ∗ desk c I ∗ ready c I o ∗ ow (F := F) c l)
      ⊢ iprop((has c (tile A i) q X ∗ (weights c I ∗ any (F := F) c oB ∗ holds c accB (topR j) (part256 I c X o)) ∗ readyNext c I nx
          ∗ ow (F := F) c l -∗ Q ⟨⟩) -∗ W c (block A i j o nx) Q) := by
  unfold desk weights
  iintro ⟨#Hn, Hx, ⟨⟨Hwq, Hwo⟩, Ho, Ha⟩, Hr, HO⟩ HQ
  unfold block
  rw [W_bind]
  iapply (ld_tile c A i q X) $$ Hx
  iintro Hx
  rw [W_bind]
  iapply (ld_whole1024 c wqB fullShare (I c).wq) $$ Hwq
  iintro Hwq
  rw [W_bind]
  iapply (heads_has c I l hl (col256 j) (apart256 j) (fun _ => h_S256x128) o nx (head256 (q256 (up256 X) (I c).wq))) $$ [Hr Ho HO]
  · isplitr; · iexact Hn
    isplitl [Hr]; · iexact Hr
    isplitl [Ho]; · iexact Ho
    iexact HO
  unfold filled
  iintro ⟨Hr, ⟨%G, %hG, Ho⟩, HO⟩
  rw [W_bind]
  iapply (ld_has c oB (topR j) h_S256x1024 fullShare G) $$ Ho
  iintro Ho
  rw [filled256 j _ G hG]
  rw [W_bind]
  iapply (ld_whole1024 c woB fullShare (I c).wo) $$ Hwo
  iintro Hwo
  iapply (st_any c accB (topR j) h_S256x1024) $$ Ha
  iintro Ha
  iapply HQ
  isplitl [Hx]; · iexact Hx
  isplitl [Hwq Hwo Ho Ha]
  · isplitl [Hwq Hwo]
    · isplitl [Hwq]
      · iexact Hwq
      iexact Hwo
    isplitl [Ho]
    · iexists _; iexact Ho
    iexact Ha
  isplitl [Hr]; · iexact Hr
  iexact HO

include hl in
/-- A block of 128 rows, half `i` of the last tile. -/
theorem blockH_has (i : Fin 2) (o : Fin 8 → HeadOff) (nx : Option (Fin 8 → HeadOff))
    (q : PosShare TreeShare) (X : Vec F S256x1024 .f32) (Q : PUnit → sProp 𝕄) :
    iprop(known I ∗ has c (tile xgbB 2) q X ∗ desk c I ∗ ready c I o ∗ ow (F := F) c l)
      ⊢ iprop((has c (tile xgbB 2) q X ∗ (weights c I ∗ any (F := F) c oB ∗ holds c accB (rowR (qtr i)) (part128 I c (halfOf X i) o))
          ∗ readyNext c I nx ∗ ow (F := F) c l -∗ Q ⟨⟩) -∗ W c (blockH i o nx) Q) := by
  unfold desk weights
  iintro ⟨#Hn, Hx, ⟨⟨Hwq, Hwo⟩, Ho, Ha⟩, Hr, HO⟩ HQ
  unfold blockH
  rw [W_bind]
  iapply (ld_half3 c xgbB 2 i q X) $$ Hx
  iintro Hx
  rw [W_bind]
  iapply (ld_whole1024 c wqB fullShare (I c).wq) $$ Hwq
  iintro Hwq
  rw [W_bind]
  iapply (heads_has c I l hl (col128 (qtr i)) (apart128 (qtr i)) (fun _ => h_S128x128) o nx (head128 (q128 (up128 (halfOf X i)) (I c).wq))) $$ [Hr Ho HO]
  · isplitr; · iexact Hn
    isplitl [Hr]; · iexact Hr
    isplitl [Ho]; · iexact Ho
    iexact HO
  unfold filled
  iintro ⟨Hr, ⟨%G, %hG, Ho⟩, HO⟩
  rw [W_bind]
  iapply (ld_has c oB (rowR (qtr i)) h_S128x1024 fullShare G) $$ Ho
  iintro Ho
  rw [filled128 (qtr i) _ G hG]
  rw [W_bind]
  iapply (ld_whole1024 c woB fullShare (I c).wo) $$ Hwo
  iintro Hwo
  iapply (st_any c accB (rowR (qtr i)) h_S128x1024) $$ Ha
  iintro Ha
  iapply HQ
  isplitl [Hx]; · iexact Hx
  isplitl [Hwq Hwo Ho Ha]
  · isplitl [Hwq Hwo]
    · isplitl [Hwq]
      · iexact Hwq
      iexact Hwo
    isplitl [Ho]
    · iexists _; iexact Ho
    iexact Ha
  isplitl [Hr]; · iexact Hr
  iexact HO

/-! ## The send buffers -/

/-- The accumulator's half goes into a send buffer as it is. -/
theorem copyAcc_has (j : Fin 2) (B : Memref sig .tc .vmem S256x1024 .f32) (a : Vec F S256x1024 .f32) (Q : PUnit → sProp 𝕄) :
    iprop((weights c I ∗ any (F := F) c oB ∗ holds c accB (topR j) a) ∗ any (F := F) c B)
      ⊢ iprop((desk c I ∗ has c B fullShare (first256 a) -∗ Q ⟨⟩) -∗ W c (copyAcc j B) Q) := by
  unfold desk
  iintro ⟨⟨Hw, Ho, Ha⟩, HB⟩ HQ
  unfold copyAcc
  rw [W_bind]
  iapply (ld_holds c accB (topR j) h_S256x1024 a) $$ Ha
  iintro Ha
  iapply (st_any c B whole256 h_S256x1024) $$ HB
  iintro HB
  iapply HQ
  isplitl [Hw Ho Ha]
  · isplitl [Hw]; · iexact Hw
    isplitl [Ho]; · iexact Ho
    iexact Ha
  iapply (holds_whole256 c B (first256 a)) $$ HB

/-- The accumulator's half and what arrived are added into a send buffer. -/
theorem addAcc_has (j : Fin 2) (R : Memref sig .tc .vmem S3x256x1024 .f32) (i : Fin 3) (B : Memref sig .tc .vmem S256x1024 .f32)
    (q : PosShare TreeShare) (a b : Vec F S256x1024 .f32) (Q : PUnit → sProp 𝕄) :
    iprop((weights c I ∗ any (F := F) c oB ∗ holds c accB (topR j) a) ∗ has c (tile R i) q b ∗ any (F := F) c B)
      ⊢ iprop((desk c I ∗ has c (tile R i) q b ∗ has c B fullShare (add256 a (up256 b)) -∗ Q ⟨⟩) -∗ W c (addAcc j R i B) Q) := by
  unfold desk
  iintro ⟨⟨Hw, Ho, Ha⟩, HR, HB⟩ HQ
  unfold addAcc
  rw [W_bind]
  iapply (ld_holds c accB (topR j) h_S256x1024 a) $$ Ha
  iintro Ha
  rw [W_bind]
  iapply (ld_tile c R i q b) $$ HR
  iintro HR
  iapply (st_any c B whole256 h_S256x1024) $$ HB
  iintro HB
  iapply HQ
  isplitl [Hw Ho Ha]
  · isplitl [Hw]; · iexact Hw
    isplitl [Ho]; · iexact Ho
    iexact Ha
  isplitl [HR]; · iexact HR
  iapply (holds_whole256 c B (add256 a (up256 b))) $$ HB

/-- The same of half a tile of the last hop. -/
theorem addHalf_has (i : Fin 2) (q : PosShare TreeShare) (a : Vec F S128x1024 .f32) (b : Vec F S256x1024 .f32) (Q : PUnit → sProp 𝕄) :
    iprop((weights c I ∗ any (F := F) c oB ∗ holds c accB (rowR (qtr i)) a) ∗ has c (tile rsbRB 1) q b ∗ any (F := F) c (half fbSB i))
      ⊢ iprop((desk c I ∗ has c (tile rsbRB 1) q b ∗ has c (half fbSB i) fullShare (add128 a (up128 (halfOf b i))) -∗ Q ⟨⟩)
        -∗ W c (addHalf i) Q) := by
  unfold desk
  iintro ⟨⟨Hw, Ho, Ha⟩, HR, ⟨%X, HB⟩⟩ HQ
  unfold addHalf
  rw [W_bind]
  iapply (ld_holds c accB (rowR (qtr i)) h_S128x1024 a) $$ Ha
  iintro Ha
  rw [W_bind]
  iapply (ld_half3 c rsbRB 1 i q b) $$ HR
  iintro HR
  iapply (stHalf_has c i X) $$ HB
  iintro HB
  iapply HQ
  isplitl [Hw Ho Ha]
  · isplitl [Hw]; · iexact Hw
    isplitl [Ho]; · iexact Ho
    iexact Ha
  isplitl [HR]; · iexact HR
  iexact HB

end Cert.KernelIdeal.Ring
-- ==== Proof.KernelIdeal.Hops.lean ====
/- The hops of the rows and of the partial results round the ring. -/
module

public import proofs.«01_k».proof.Proof.KernelIdeal.Block

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]
local notation "𝕄" => MT nD τ sig Unit (Elt F) ℕ UU ℕ

variable (c : Dev nD) (I : Dev nD → Ins F)

/-! ## Shares of a buffer -/

/-- A buffer held at a share is held at two shares that make it up, and taken together again. -/
theorem has_share {sp : Space} {s : Shape} {e : EltTy} (m : Memref sig .tc sp s e) (X : Vec F s e) {q q₁ q₂ : PosShare TreeShare}
    (h : q ∈ PCS.op q₁ q₂) : has c m q X ⊢ iprop(has c m q₁ X ∗ has c m q₂ X) := by
  unfold has owns
  iintro ⟨%f, %hf, H⟩
  icases (pointsTo_share h).1 $$ H with ⟨H1, H2⟩
  isplitl [H1]
  · iexists f
    isplitr
    · ipureintro; exact hf
    iexact H1
  iexists f
  isplitr
  · ipureintro; exact hf
  iexact H2
/-- Two shares of a buffer join, and the contents agree. -/
theorem has_unshare {sp : Space} {s : Shape} {e : EltTy} (m : Memref sig .tc sp s e) (X Y : Vec F s e) {q q₁ q₂ : PosShare TreeShare}
    (h : q ∈ PCS.op q₁ q₂) : iprop(has c m q₁ X ∗ has c m q₂ Y) ⊢ has c m q X := by
  unfold has owns
  iintro ⟨⟨%f, %hf, H1⟩, ⟨%g, -, H2⟩⟩
  ihave %ha := pointsTo_agree $$ [H1 H2]
  · isplitl [H1]
    · iexact H1
    iexact H2
  iexists f
  isplitr
  · ipureintro; exact hf
  iapply (pointsTo_share h).2 $$ [H1 H2]
  isplitl [H1]
  · iexact H1
  iapply (Entails.of_eq (pointsTo_congr (f := g) (g := f) fun i hi => (ha i (Finset.mem_inter.mpr ⟨hi, hi⟩)).1.symm)) $$ H2

/-- A buffer is split into a lent and a kept share. -/
theorem has_split {sp : Space} {s : Shape} {e : EltTy} (m : Memref sig .tc sp s e) (X : Vec F s e) :
    has c m fullShare X ⊢ iprop(has c m lent X ∗ has c m kept X) := has_share c m X (PosShare.mem_left_op_right fullShare)
/-- The lent and the kept share join. -/
theorem has_join {sp : Space} {s : Shape} {e : EltTy} (m : Memref sig .tc sp s e) (X Y : Vec F s e) :
    iprop(has c m lent X ∗ has c m kept Y) ⊢ has c m fullShare X := has_unshare c m X Y (PosShare.mem_left_op_right fullShare)

/-- A buffer with known contents is a buffer with some contents. -/
theorem has_any {sp : Space} {s : Shape} {e : EltTy} (m : Memref sig .tc sp s e) (X : Vec F s e) : has c m fullShare X ⊢ any c m := by
  unfold any
  iintro H
  iexists X
  iexact H

/-! ## Hops -/

/-- The arrival of a tile of rows, and its sending on. -/
theorem relay_has (t u : Fin 13) (n : Dev nD) (hn : n = peer u c) (A : Memref sig .tc .vmem S3x256x1024 .f32) (i i' : Fin 3)
    (X : Vec F S256x1024 .f32) (hr : recvPay I t c = has c (tile A i) fullShare X) (hs : sendPay I u c = has c (tile A i) lent X)
    (hd : recvPay I u (peer u c) = has (peer u c) (tile A i') fullShare X)
    (hab : ∀ c : Dev nD, Above (.dma (sR t)) ((pays c).drop (u.val + 2)))
    (hNt : (tile A i).view.dmaCredit = N t) (hNu : (tile A i').view.dmaCredit = N u) (Q : PUnit → sProp 𝕄) :
    iprop(known I ∗ toRecv (F := F) c t ∗ toSend (F := F) c u ∗ any (F := F) (peer u c) (tile A i') ∗ paid (F := F) c (u.val + 2))
      ⊢ iprop((recvZero (F := F) c t ∗ has c (tile A i) kept X ∗ sent (F := F) c u ∗ paid (F := F) c (u.val + 3) -∗ Q ⟨⟩)
        -∗ W c (await (tile A i) (tile A i) (sR t) >>= fun _ => send n (tile A i) (tile A i') (sS u) (sR u)) Q) := by
  iintro ⟨#Hn, Hr, Hs, Hl, HO⟩ HQ
  rw [W_bind]
  unfold await send
  iapply (recv_has c I t (u.val + 2) hab _ _ _ _ hNt) $$ [Hr HO]
  · isplitr; · iexact Hn
    isplitl [Hr]; · iexact Hr
    iexact HO
  rw [hr]
  iintro ⟨Hx, Hz, HO⟩
  icases (has_split c (tile A i) X) $$ Hx with ⟨H1, H2⟩
  iapply (begin_has c I u n hn (tile A i) (tile A i') _ _ _ lent X hs hd hNu) $$ [H1 Hl Hs HO]
  · isplitr; · iexact Hn
    isplitl [H1]; · iexact H1
    isplitl [Hl]; · iexact Hl
    isplitl [Hs]; · iexact Hs
    iexact HO
  iintro ⟨Hs, HO⟩
  iapply HQ
  isplitl [Hz]; · iexact Hz
  isplitl [H2]; · iexact H2
  isplitl [Hs]; · iexact Hs
  iexact HO

/-- The first block of a direction: its partial result starts round the ring. -/
theorem first_has (t u w : Fin 13) (hw : u.val + 3 = w.val + 2) (n m : Dev nD) (hn : n = peer u c) (hm : m = peer w c)
    (A R : Memref sig .tc .vmem S3x256x1024 .f32) (B : Memref sig .tc .vmem S256x1024 .f32) (j : Fin 2) (o o' : Fin 8 → HeadOff)
    (X : Vec F S256x1024 .f32) (hr : recvPay I t c = has c (tile A 0) fullShare X) (hs : sendPay I u c = has c (tile A 0) lent X)
    (hd : recvPay I u (peer u c) = has (peer u c) (tile A 1) fullShare X)
    (hs' : sendPay I w c = has c B fullShare (first256 (part256 I c X o)))
    (hd' : recvPay I w (peer w c) = has (peer w c) (tile R 0) fullShare (first256 (part256 I c X o)))
    (hab : ∀ c : Dev nD, Above (.dma (sR t)) ((pays c).drop (u.val + 2)))
    (hNt : (tile A 0).view.dmaCredit = N t) (hNu : (tile A 1).view.dmaCredit = N u) (hNw : (tile R 0).view.dmaCredit = N w)
    (Q : PUnit → sProp 𝕄) :
    iprop(known I ∗ (toRecv (F := F) c t ∗ toSend (F := F) c u ∗ any (F := F) (peer u c) (tile A 1) ∗ toSend (F := F) c w
        ∗ any (F := F) (peer w c) (tile R 0) ∗ any (F := F) c B) ∗ desk c I ∗ ready c I o ∗ paid (F := F) c (u.val + 2))
      ⊢ iprop(((recvZero (F := F) c t ∗ has c (tile A 0) kept X ∗ sent (F := F) c u ∗ sent (F := F) c w) ∗ desk c I ∗ ready c I o'
          ∗ paid (F := F) c (w.val + 3) -∗ Q ⟨⟩)
        -∗ W c (await (tile A 0) (tile A 0) (sR t) >>= fun _ => send n (tile A 0) (tile A 1) (sS u) (sR u) >>= fun _ =>
          block A 0 j o (some o') >>= fun _ => copyAcc j B >>= fun _ => send m B (tile R 0) (sS w) (sR w)) Q) := by
  iintro ⟨#Hn, ⟨Hr, Hs, Hl, Hs', Hl', HB⟩, HD, HK, HO⟩ HQ
  rw [← bind_assoc, W_bind]
  iapply (relay_has c I t u n hn A 0 1 X hr hs hd hab hNt hNu) $$ [Hr Hs Hl HO]
  · isplitr; · iexact Hn
    isplitl [Hr]; · iexact Hr
    isplitl [Hs]; · iexact Hs
    isplitl [Hl]; · iexact Hl
    iexact HO
  iintro ⟨Hz, Hx, Hs, HO⟩
  rw [W_bind]
  iapply (block_has c I ((pays c).drop (u.val + 3)) (due_drop c _) A 0 j o (some o') kept X) $$ [Hx HD HK HO]
  · isplitr; · iexact Hn
    isplitl [Hx]; · iexact Hx
    isplitl [HD]; · iexact HD
    isplitl [HK]; · iexact HK
    iexact HO
  iintro ⟨Hx, HD, HK, HO⟩
  rw [W_bind]
  iapply (copyAcc_has c I j B (part256 I c X o)) $$ [HD HB]
  · isplitl [HD]; · iexact HD
    iexact HB
  iintro ⟨HD, HB⟩
  unfold send
  rw [hw]
  iapply (begin_has c I w m hm B (tile R 0) _ _ _ fullShare _ hs' hd' hNw) $$ [HB Hl' Hs' HO]
  · isplitr; · iexact Hn
    isplitl [HB]; · iexact HB
    isplitl [Hl']; · iexact Hl'
    isplitl [Hs']; · iexact Hs'
    iexact HO
  iintro ⟨Hs', HO⟩
  iapply HQ
  isplitl [Hz Hx Hs Hs']
  · isplitl [Hz]; · iexact Hz
    isplitl [Hx]; · iexact Hx
    isplitl [Hs]; · iexact Hs
    iexact Hs'
  isplitl [HD]; · iexact HD
  isplitl [HK]
  · iapply (Entails.of_eq (show readyNext c I (some o') = ready c I o' from rfl)) $$ HK
  iexact HO

/-- After a block, the partial result that arrived is added and the sum is sent on. -/
theorem pass_has (v w : Fin 13) (m : Dev nD) (hm : m = peer w c) (R : Memref sig .tc .vmem S3x256x1024 .f32)
    (B : Memref sig .tc .vmem S256x1024 .f32) (i i' : Fin 3) (j : Fin 2) (a b b' : Vec F S256x1024 .f32)
    (hr : recvPay I v c = has c (tile R i) fullShare b) (hb : sendPay I v c = has c B fullShare b')
    (hs : sendPay I w c = has c B fullShare (add256 a (up256 b)))
    (hd : recvPay I w (peer w c) = has (peer w c) (tile R i') fullShare (add256 a (up256 b)))
    (hab : ∀ c : Dev nD, Above (.dma (sR v)) ((pays c).drop (w.val + 2))) (hab' : ∀ c : Dev nD, Above (.dma (sS v)) ((pays c).drop (w.val + 2)))
    (hNv : (tile R i).view.dmaCredit = N v) (hNv' : B.view.dmaCredit = N v) (hNw : (tile R i').view.dmaCredit = N w) (Q : PUnit → sProp 𝕄) :
    iprop(known I ∗ (toRecv (F := F) c v ∗ sent (F := F) c v ∗ toSend (F := F) c w ∗ any (F := F) (peer w c) (tile R i'))
        ∗ (weights c I ∗ any (F := F) c oB ∗ holds c accB (topR j) a) ∗ paid (F := F) c (w.val + 2))
      ⊢ iprop(((recvZero (F := F) c v ∗ has c (tile R i) fullShare b ∗ sendZero (F := F) c v ∗ sent (F := F) c w) ∗ desk c I
          ∗ paid (F := F) c (w.val + 3) -∗ Q ⟨⟩)
        -∗ W c (await B (tile R i) (sR v) >>= fun _ => await (tile R i) B (sS v) >>= fun _ => addAcc j R i B >>= fun _ =>
          send m B (tile R i') (sS w) (sR w)) Q) := by
  iintro ⟨#Hn, ⟨Hr, Hv, Hs, Hl⟩, HD, HO⟩ HQ
  unfold await send
  rw [W_bind]
  iapply (recv_has c I v (w.val + 2) hab _ _ _ _ hNv) $$ [Hr HO]
  · isplitr; · iexact Hn
    isplitl [Hr]; · iexact Hr
    iexact HO
  rw [hr]
  iintro ⟨HR, Hz, HO⟩
  rw [W_bind]
  iapply (left_has c I v (w.val + 2) hab' _ _ _ _ hNv') $$ [Hv HO]
  · isplitr; · iexact Hn
    isplitl [Hv]; · iexact Hv
    iexact HO
  rw [hb]
  iintro ⟨HB, Hz', HO⟩
  rw [W_bind]
  iapply (addAcc_has c I j R i B fullShare a b) $$ [HD HR HB]
  · isplitl [HD]; · iexact HD
    isplitl [HR]; · iexact HR
    iapply (has_any c B b') $$ HB
  iintro ⟨HD, HR, HB⟩
  iapply (begin_has c I w m hm B (tile R i') _ _ _ fullShare _ hs hd hNw) $$ [HB Hl Hs HO]
  · isplitr; · iexact Hn
    isplitl [HB]; · iexact HB
    isplitl [Hl]; · iexact Hl
    isplitl [Hs]; · iexact Hs
    iexact HO
  iintro ⟨Hs, HO⟩
  iapply HQ
  isplitl [Hz HR Hz' Hs]
  · isplitl [Hz]; · iexact Hz
    isplitl [HR]; · iexact HR
    isplitl [Hz']; · iexact Hz'
    iexact Hs
  isplitl [HD]; · iexact HD
  iexact HO

/-- The second block of a direction. -/
theorem second_has (t u v w : Fin 13) (hw : u.val + 3 = w.val + 2) (n m : Dev nD) (hn : n = peer u c) (hm : m = peer w c)
    (A R : Memref sig .tc .vmem S3x256x1024 .f32) (B : Memref sig .tc .vmem S256x1024 .f32) (j : Fin 2) (o o' : Fin 8 → HeadOff)
    (X b b' : Vec F S256x1024 .f32) (hr : recvPay I t c = has c (tile A 1) fullShare X) (hs : sendPay I u c = has c (tile A 1) lent X)
    (hd : recvPay I u (peer u c) = has (peer u c) (tile A 2) fullShare X)
    (hr' : recvPay I v c = has c (tile R 0) fullShare b) (hb : sendPay I v c = has c B fullShare b')
    (hs' : sendPay I w c = has c B fullShare (add256 (part256 I c X o) (up256 b)))
    (hd' : recvPay I w (peer w c) = has (peer w c) (tile R 1) fullShare (add256 (part256 I c X o) (up256 b)))
    (hab : ∀ c : Dev nD, Above (.dma (sR t)) ((pays c).drop (u.val + 2)))
    (habv : ∀ c : Dev nD, Above (.dma (sR v)) ((pays c).drop (w.val + 2))) (habv' : ∀ c : Dev nD, Above (.dma (sS v)) ((pays c).drop (w.val + 2)))
    (hNt : (tile A 1).view.dmaCredit = N t) (hNu : (tile A 2).view.dmaCredit = N u) (hNv : (tile R 0).view.dmaCredit = N v)
    (hNv' : B.view.dmaCredit = N v) (hNw : (tile R 1).view.dmaCredit = N w) (Q : PUnit → sProp 𝕄) :
    iprop(known I ∗ (toRecv (F := F) c t ∗ toSend (F := F) c u ∗ any (F := F) (peer u c) (tile A 2) ∗ toRecv (F := F) c v ∗ sent (F := F) c v
        ∗ toSend (F := F) c w ∗ any (F := F) (peer w c) (tile R 1)) ∗ desk c I ∗ ready c I o ∗ paid (F := F) c (u.val + 2))
      ⊢ iprop(((recvZero (F := F) c t ∗ has c (tile A 1) kept X ∗ sent (F := F) c u)
          ∗ (recvZero (F := F) c v ∗ has c (tile R 0) fullShare b ∗ sendZero (F := F) c v ∗ sent (F := F) c w) ∗ desk c I ∗ ready c I o'
          ∗ paid (F := F) c (w.val + 3) -∗ Q ⟨⟩)
        -∗ W c (await (tile A 1) (tile A 1) (sR t) >>= fun _ => send n (tile A 1) (tile A 2) (sS u) (sR u) >>= fun _ =>
          block A 1 j o (some o') >>= fun _ => await B (tile R 0) (sR v) >>= fun _ => await (tile R 0) B (sS v) >>= fun _ =>
          addAcc j R 0 B >>= fun _ => send m B (tile R 1) (sS w) (sR w)) Q) := by
  iintro ⟨#Hn, ⟨Hr, Hs, Hl, Hr', Hv, Hs', Hl'⟩, HD, HK, HO⟩ HQ
  rw [← bind_assoc, W_bind]
  iapply (relay_has c I t u n hn A 1 2 X hr hs hd hab hNt hNu) $$ [Hr Hs Hl HO]
  · isplitr; · iexact Hn
    isplitl [Hr]; · iexact Hr
    isplitl [Hs]; · iexact Hs
    isplitl [Hl]; · iexact Hl
    iexact HO
  iintro ⟨Hz, Hx, Hs, HO⟩
  rw [W_bind]
  iapply (block_has c I ((pays c).drop (u.val + 3)) (due_drop c _) A 1 j o (some o') kept X) $$ [Hx HD HK HO]
  · isplitr; · iexact Hn
    isplitl [Hx]; · iexact Hx
    isplitl [HD]; · iexact HD
    isplitl [HK]; · iexact HK
    iexact HO
  iintro ⟨Hx, HD, HK, HO⟩
  rw [hw]
  iapply (pass_has c I v w m hm R B 0 1 j _ b b' hr' hb hs' hd' habv habv' hNv hNv' hNw) $$ [Hr' Hv Hs' Hl' HD HO]
  · isplitr; · iexact Hn
    isplitl [Hr' Hv Hs' Hl']
    · isplitl [Hr']; · iexact Hr'
      isplitl [Hv]; · iexact Hv
      isplitl [Hs']; · iexact Hs'
      iexact Hl'
    isplitl [HD]; · iexact HD
    iexact HO
  iintro ⟨Hp, HD, HO⟩
  iapply HQ
  isplitl [Hz Hx Hs]
  · isplitl [Hz]; · iexact Hz
    isplitl [Hx]; · iexact Hx
    iexact Hs
  isplitl [Hp]; · iexact Hp
  isplitl [HD]; · iexact HD
  isplitl [HK]
  · iapply (Entails.of_eq (show readyNext c I (some o') = ready c I o' from rfl)) $$ HK
  iexact HO

end Cert.KernelIdeal.Ring
-- ==== Proof.KernelIdeal.Segments.lean ====
/- The segments of the body, one by one. -/
module

public import proofs.«01_k».proof.Proof.KernelIdeal.Hops

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]
local notation "𝕄" => MT nD τ sig Unit (Elt F) ℕ UU ℕ

variable (c : Dev nD) (I : Dev nD → Ins F)

/-- What the receive cell of the transfer's target hands over, by its sender. -/
theorem recv_at {s : Shape} {e : EltTy} (t : Fin 13) (m : Memref sig .tc .vmem s e) (f : Dev nD → Vec F s e)
    (h : ∀ d, recvPay I t d = has d m fullShare (f (from' t d))) : recvPay I t (peer t c) = has (peer t c) m fullShare (f c) := by
  rw [h, from_peer]

/-- The send of one tile. -/
theorem send_has (t : Fin 13) (n : Dev nD) (hn : n = peer t c) (src dst : Memref sig .tc .vmem S256x1024 .f32)
    (q : PosShare TreeShare) (X : Vec F S256x1024 .f32) (hs : sendPay I t c = has c src q X)
    (hr : recvPay I t (peer t c) = has (peer t c) dst fullShare X) (hN : dst.view.dmaCredit = N t) (Q : PUnit → sProp 𝕄) :
    iprop(known I ∗ has c src q X ∗ any (F := F) (peer t c) dst ∗ toSend (F := F) c t ∗ paid (F := F) c (t.val + 2))
      ⊢ iprop((sent (F := F) c t ∗ paid (F := F) c (t.val + 3) -∗ Q ⟨⟩) -∗ W c (send n src dst (sS t) (sR t)) Q) := by
  unfold send
  exact begin_has c I t n hn src dst _ _ _ q X hs hr hN Q

/-- The sends of the two halves of this device's rows. -/
theorem sendX0 (Q : PUnit → sProp 𝕄) :
    iprop(known I ∗ has c (xHalf 0) lent (xRows I c 0) ∗ landing (F := F) 0 (peer 0 c) ∗ toSend (F := F) c 0 ∗ paid (F := F) c 2)
      ⊢ iprop((sent (F := F) c 0 ∗ paid (F := F) c 3 -∗ Q ⟨⟩)
        -∗ W c (send ⟨k0_dev3 c, k0_dev3_lt c⟩ (xHalf 0) (tile xgaB 0) (agaS 0) (agaR 0)) Q) :=
  send_has c I 0 ⟨k0_dev3 c, k0_dev3_lt c⟩ (by revert c; decide) (xHalf 0) (tile xgaB 0) lent (xRows I c 0) rfl
    (recv_at c I 0 (tile xgaB 0) (agaX I 0) fun _ => rfl) rfl Q
/-- The send of the lower half, to the left. -/
theorem sendX1 (Q : PUnit → sProp 𝕄) :
    iprop(known I ∗ has c (xHalf 1) lent (xRows I c 1) ∗ landing (F := F) 1 (peer 1 c) ∗ toSend (F := F) c 1 ∗ paid (F := F) c 3)
      ⊢ iprop((sent (F := F) c 1 ∗ paid (F := F) c 4 -∗ Q ⟨⟩)
        -∗ W c (send ⟨k0_dev4 c, k0_dev4_lt c⟩ (xHalf 1) (tile xgbB 0) (agbS 0) (agbR 0)) Q) :=
  send_has c I 1 ⟨k0_dev4 c, k0_dev4_lt c⟩ (by revert c; decide) (xHalf 1) (tile xgbB 0) lent (xRows I c 1) rfl
    (recv_at c I 1 (tile xgbB 0) (agbX I 0) fun _ => rfl) rfl Q

/-- The first fetches and the two halves of this device's rows. -/
theorem start_has (Q : PUnit → sProp 𝕄) :
    iprop(known I ∗ idle c I ∗ has c (xHalf 0) lent (xRows I c 0) ∗ has c (xHalf 1) lent (xRows I c 1)
        ∗ (toSend (F := F) c 0 ∗ landing (F := F) 0 (peer 0 c) ∗ toSend (F := F) c 1 ∗ landing (F := F) 1 (peer 1 c)) ∗ paid (F := F) c 2)
      ⊢ iprop((ready c I (offA c 0) ∗ sent (F := F) c 0 ∗ sent (F := F) c 1 ∗ paid (F := F) c 4 -∗ Q ⟨⟩) -∗ W c (start c) Q) := by
  unfold idle ready
  iintro ⟨#Hn, ⟨H0, H1, H2, H3⟩, Hx0, Hx1, ⟨Ht0, Hl0, Ht1, Hl1⟩, HO⟩ HQ
  unfold start
  rw [W_bind]
  iapply (kvEnq_has c I 0 (offA c 0 0)) $$ H0
  iintro H0
  rw [W_bind]
  iapply (kvEnq_has c I 1 (offA c 0 1)) $$ H1
  iintro H1
  rw [W_bind]
  iapply (kvEnq_has c I 2 (offA c 0 2)) $$ H2
  iintro H2
  rw [W_bind]
  iapply (sendX0 c I) $$ [Hx0 Hl0 Ht0 HO]
  · isplitr; · iexact Hn
    isplitl [Hx0]; · iexact Hx0
    isplitl [Hl0]; · iexact Hl0
    isplitl [Ht0]; · iexact Ht0
    iexact HO
  iintro ⟨Hs0, HO⟩
  iapply (sendX1 c I) $$ [Hx1 Hl1 Ht1 HO]
  · isplitr; · iexact Hn
    isplitl [Hx1]; · iexact Hx1
    isplitl [Hl1]; · iexact Hl1
    isplitl [Ht1]; · iexact Ht1
    iexact HO
  iintro ⟨Hs1, HO⟩
  iapply HQ
  isplitl [H0 H1 H2 H3]
  · isplitl [H0]; · iexact H0
    isplitl [H1]; · iexact H1
    isplitl [H2]; · iexact H2
    iexact H3
  isplitl [Hs0]; · iexact Hs0
  isplitl [Hs1]; · iexact Hs1
  iexact HO

/-- The first block of the ring to the right: rows on, attention, the first partial sum sent. -/
theorem blockA1_has (Q : PUnit → sProp 𝕄) :
    iprop(known I ∗ (toRecv (F := F) c 0 ∗ toSend (F := F) c 2 ∗ landing (F := F) 2 (peer 2 c) ∗ toSend (F := F) c 3
        ∗ landing (F := F) 3 (peer 3 c) ∗ any (F := F) c rsaSB) ∗ desk c I ∗ ready c I (offA c 1) ∗ paid (F := F) c 4)
      ⊢ iprop(((recvZero (F := F) c 0 ∗ has c (tile xgaB 0) kept (agaX I 1 c) ∗ sent (F := F) c 2 ∗ sent (F := F) c 3) ∗ desk c I
          ∗ ready c I (offB c 0) ∗ paid (F := F) c 6 -∗ Q ⟨⟩) -∗ W c (blockA1 c) Q) :=
  first_has c I 0 2 3 rfl ⟨k0_dev5 c, k0_dev5_lt c⟩ ⟨k0_dev6 c, k0_dev6_lt c⟩ (by revert c; decide) (by revert c; decide) xgaB rsaRB rsaSB 0
    (offA c 1) (offB c 0) (agaX I 1 c) rfl rfl (recv_at c I 2 (tile xgaB 1) (agaX I 1) fun _ => rfl) rfl
    (recv_at c I 3 (tile rsaRB 0) (rsa0 I) fun _ => rfl) (by decide) rfl rfl rfl Q

/-- The first block of the ring to the left. -/
theorem blockB1_has (Q : PUnit → sProp 𝕄) :
    iprop(known I ∗ (toRecv (F := F) c 1 ∗ toSend (F := F) c 4 ∗ landing (F := F) 4 (peer 4 c) ∗ toSend (F := F) c 5
        ∗ landing (F := F) 5 (peer 5 c) ∗ any (F := F) c rsbSB) ∗ desk c I ∗ ready c I (offB c 0) ∗ paid (F := F) c 6)
      ⊢ iprop(((recvZero (F := F) c 1 ∗ has c (tile xgbB 0) kept (agbX I 1 c) ∗ sent (F := F) c 4 ∗ sent (F := F) c 5) ∗ desk c I
          ∗ ready c I (offA c 2) ∗ paid (F := F) c 8 -∗ Q ⟨⟩) -∗ W c (blockB1 c) Q) :=
  first_has c I 1 4 5 rfl ⟨k0_dev7 c, k0_dev7_lt c⟩ ⟨k0_dev8 c, k0_dev8_lt c⟩ (by revert c; decide) (by revert c; decide) xgbB rsbRB rsbSB 1
    (offB c 0) (offA c 2) (agbX I 1 c) rfl rfl (recv_at c I 4 (tile xgbB 1) (agbX I 1) fun _ => rfl) rfl
    (recv_at c I 5 (tile rsbRB 0) (rsb0 I) fun _ => rfl) (by decide) rfl rfl rfl Q

/-- The second block of the ring to the right: the neighbour's partial sum is added before the send. -/
theorem blockA2_has (Q : PUnit → sProp 𝕄) :
    iprop(known I ∗ (toRecv (F := F) c 2 ∗ toSend (F := F) c 6 ∗ landing (F := F) 6 (peer 6 c) ∗ toRecv (F := F) c 3 ∗ sent (F := F) c 3
        ∗ toSend (F := F) c 7 ∗ landing (F := F) 7 (peer 7 c)) ∗ desk c I ∗ ready c I (offA c 2) ∗ paid (F := F) c 8)
      ⊢ iprop(((recvZero (F := F) c 2 ∗ has c (tile xgaB 1) kept (agaX I 2 c) ∗ sent (F := F) c 6)
          ∗ (recvZero (F := F) c 3 ∗ has c (tile rsaRB 0) fullShare (rsa0 I (lf c)) ∗ sendZero (F := F) c 3 ∗ sent (F := F) c 7) ∗ desk c I
          ∗ ready c I (offB c 1) ∗ paid (F := F) c 10 -∗ Q ⟨⟩) -∗ W c (blockA2 c) Q) :=
  second_has c I 2 6 3 7 rfl ⟨k0_dev9 c, k0_dev9_lt c⟩ ⟨k0_dev10 c, k0_dev10_lt c⟩ (by revert c; decide) (by revert c; decide) xgaB rsaRB rsaSB 0
    (offA c 2) (offB c 1) (agaX I 2 c) (rsa0 I (lf c)) (rsa0 I c) rfl rfl (recv_at c I 6 (tile xgaB 2) (agaX I 2) fun _ => rfl) rfl rfl rfl
    (recv_at c I 7 (tile rsaRB 1) (rsa1 I) fun _ => rfl) (by decide) (by decide) (by decide) rfl rfl rfl rfl rfl Q

/-- The second block of the ring to the left. -/
theorem blockB2_has (Q : PUnit → sProp 𝕄) :
    iprop(known I ∗ (toRecv (F := F) c 4 ∗ toSend (F := F) c 8 ∗ landing (F := F) 8 (peer 8 c) ∗ toRecv (F := F) c 5 ∗ sent (F := F) c 5
        ∗ toSend (F := F) c 9 ∗ landing (F := F) 9 (peer 9 c)) ∗ desk c I ∗ ready c I (offB c 1) ∗ paid (F := F) c 10)
      ⊢ iprop(((recvZero (F := F) c 4 ∗ has c (tile xgbB 1) kept (agbX I 2 c) ∗ sent (F := F) c 8)
          ∗ (recvZero (F := F) c 5 ∗ has c (tile rsbRB 0) fullShare (rsb0 I (rt c)) ∗ sendZero (F := F) c 5 ∗ sent (F := F) c 9) ∗ desk c I
          ∗ ready c I (offA c 3) ∗ paid (F := F) c 12 -∗ Q ⟨⟩) -∗ W c (blockB2 c) Q) :=
  second_has c I 4 8 5 9 rfl ⟨k0_dev11 c, k0_dev11_lt c⟩ ⟨k0_dev12 c, k0_dev12_lt c⟩ (by revert c; decide) (by revert c; decide) xgbB rsbRB rsbSB 1
    (offB c 1) (offA c 3) (agbX I 2 c) (rsb0 I (rt c)) (rsb0 I c) rfl rfl (recv_at c I 8 (tile xgbB 2) (agbX I 2) fun _ => rfl) rfl rfl rfl
    (recv_at c I 9 (tile rsbRB 1) (rsb1 I) fun _ => rfl) (by decide) (by decide) (by decide) rfl rfl rfl rfl rfl Q

/-- The third block of the ring to the right: no rows go on. -/
theorem blockA3_has (Q : PUnit → sProp 𝕄) :
    iprop(known I ∗ (toRecv (F := F) c 6 ∗ toRecv (F := F) c 7 ∗ sent (F := F) c 7 ∗ toSend (F := F) c 10 ∗ landing (F := F) 10 (peer 10 c))
        ∗ desk c I ∗ ready c I (offA c 3) ∗ paid (F := F) c 12)
      ⊢ iprop(((recvZero (F := F) c 6 ∗ has c (tile xgaB 2) fullShare (agaX I 3 c))
          ∗ (recvZero (F := F) c 7 ∗ has c (tile rsaRB 1) fullShare (rsa1 I (lf c)) ∗ sendZero (F := F) c 7 ∗ sent (F := F) c 10) ∗ desk c I
          ∗ ready c I (offB c 2) ∗ paid (F := F) c 13 -∗ Q ⟨⟩) -∗ W c (blockA3 c) Q) := by
  rw [show landing (F := F) 10 (peer 10 c) = any (F := F) (peer 10 c) (tile rsaRB 2) from rfl]
  iintro ⟨#Hn, ⟨Hr, Hr', Hv, Hs', Hl'⟩, HD, HK, HO⟩ HQ
  unfold blockA3
  rw [W_bind]
  iapply (recv_has c I 6 12 (by decide) (tile xgaB 2) (tile xgaB 2) (View.wordExact_bits rfl) (View.wordExact_bits rfl) rfl) $$ [Hr HO]
  · isplitr; · iexact Hn
    isplitl [Hr]; · iexact Hr
    iexact HO
  rw [show recvPay I 6 c = has c (tile xgaB 2) fullShare (agaX I 3 c) from rfl]
  iintro ⟨Hx, Hz, HO⟩
  rw [W_bind]
  iapply (block_has c I ((pays c).drop 12) (due_drop c _) xgaB 2 0 (offA c 3) (some (offB c 2)) fullShare (agaX I 3 c)) $$ [Hx HD HK HO]
  · isplitr; · iexact Hn
    isplitl [Hx]; · iexact Hx
    isplitl [HD]; · iexact HD
    isplitl [HK]; · iexact HK
    iexact HO
  iintro ⟨Hx, HD, HK, HO⟩
  iapply (pass_has c I 7 10 ⟨k0_dev13 c, k0_dev13_lt c⟩ (by revert c; decide) rsaRB rsaSB 1 2 0 (part256 I c (agaX I 3 c) (offA c 3)) (rsa1 I (lf c))
    (rsa1 I c) rfl rfl rfl (recv_at c I 10 (tile rsaRB 2) (rsa2 I) fun _ => rfl) (by decide) (by decide) rfl rfl rfl) $$ [Hr' Hv Hs' Hl' HD HO]
  · isplitr; · iexact Hn
    isplitl [Hr' Hv Hs' Hl']
    · isplitl [Hr']; · iexact Hr'
      isplitl [Hv]; · iexact Hv
      isplitl [Hs']; · iexact Hs'
      iexact Hl'
    isplitl [HD]; · iexact HD
    iexact HO
  iintro ⟨Hp, HD, HO⟩
  iapply HQ
  isplitl [Hz Hx]
  · isplitl [Hz]; · iexact Hz
    iexact Hx
  isplitl [Hp]; · iexact Hp
  isplitl [HD]; · iexact HD
  isplitl [HK]
  · iapply (Entails.of_eq (show readyNext c I (some (offB c 2)) = ready c I (offB c 2) from rfl)) $$ HK
  iexact HO

/-- Half `i` of the last block, its sum sent on. -/
theorem lastHalf_has (i : Fin 2) (t : Fin 13) (n : Dev nD) (hn : n = peer t c) (a : Vec F S128x1024 .f32) (b : Vec F S256x1024 .f32)
    (hs : sendPay I t c = has c (half fbSB i) fullShare (add128 a (up128 (halfOf b i))))
    (hd : recvPay I t (peer t c) = has (peer t c) (half fbRB i) fullShare (add128 a (up128 (halfOf b i))))
    (hN : (half fbRB i).view.dmaCredit = N t) (Q : PUnit → sProp 𝕄) :
    iprop(known I ∗ (toSend (F := F) c t ∗ any (F := F) (peer t c) (half fbRB i))
        ∗ (weights c I ∗ any (F := F) c oB ∗ holds c accB (rowR (qtr i)) a) ∗ has c (tile rsbRB 1) fullShare b ∗ any (F := F) c (half fbSB i)
        ∗ paid (F := F) c (t.val + 2))
      ⊢ iprop((desk c I ∗ has c (tile rsbRB 1) fullShare b ∗ sent (F := F) c t ∗ paid (F := F) c (t.val + 3) -∗ Q ⟨⟩)
        -∗ W c (addHalf i >>= fun _ => sendHalf n i (sS t) (sR t)) Q) := by
  iintro ⟨#Hn, ⟨Hs, Hl⟩, HD, HR, HB, HO⟩ HQ
  rw [W_bind]
  iapply (addHalf_has c I i fullShare a b) $$ [HD HR HB]
  · isplitl [HD]; · iexact HD
    isplitl [HR]; · iexact HR
    iexact HB
  iintro ⟨HD, HR, HB⟩
  unfold sendHalf
  iapply (begin_has c I t n hn (half fbSB i) (half fbRB i) _ _ _ fullShare _ hs hd hN) $$ [HB Hl Hs HO]
  · isplitr; · iexact Hn
    isplitl [HB]; · iexact HB
    isplitl [Hl]; · iexact Hl
    isplitl [Hs]; · iexact Hs
    iexact HO
  iintro ⟨Hs, HO⟩
  iapply HQ
  isplitl [HD]; · iexact HD
  isplitl [HR]; · iexact HR
  isplitl [Hs]; · iexact Hs
  iexact HO

/-- The first half of the third block of the ring to the left, narrowed to bfloat16 and sent. -/
theorem blockB3_has (Q : PUnit → sProp 𝕄) :
    iprop(known I ∗ (toRecv (F := F) c 8 ∗ toRecv (F := F) c 9 ∗ toSend (F := F) c 11 ∗ landing (F := F) 11 (peer 11 c) ∗ any (F := F) c (half fbSB 0))
        ∗ desk c I ∗ ready c I (offB c 2) ∗ paid (F := F) c 13)
      ⊢ iprop(((recvZero (F := F) c 8 ∗ has c (tile xgbB 2) fullShare (agbX I 3 c))
          ∗ (recvZero (F := F) c 9 ∗ has c (tile rsbRB 1) fullShare (rsb1 I (rt c)) ∗ sent (F := F) c 11) ∗ desk c I
          ∗ ready c I (offB c 2) ∗ paid (F := F) c 14 -∗ Q ⟨⟩) -∗ W c (blockB3 c) Q) := by
  rw [show landing (F := F) 11 (peer 11 c) = any (F := F) (peer 11 c) (half fbRB 0) from rfl]
  iintro ⟨#Hn, ⟨Hr, Hr', Hs', Hl', HB⟩, HD, HK, HO⟩ HQ
  unfold blockB3
  rw [W_bind]
  iapply (recv_has c I 8 13 (by decide) (tile xgbB 2) (tile xgbB 2) (View.wordExact_bits rfl) (View.wordExact_bits rfl) rfl) $$ [Hr HO]
  · isplitr; · iexact Hn
    isplitl [Hr]; · iexact Hr
    iexact HO
  rw [show recvPay I 8 c = has c (tile xgbB 2) fullShare (agbX I 3 c) from rfl]
  iintro ⟨Hx, Hz, HO⟩
  rw [W_bind]
  iapply (blockH_has c I ((pays c).drop 13) (due_drop c _) 0 (offB c 2) (some (offB c 2)) fullShare (agbX I 3 c)) $$ [Hx HD HK HO]
  · isplitr; · iexact Hn
    isplitl [Hx]; · iexact Hx
    isplitl [HD]; · iexact HD
    isplitl [HK]; · iexact HK
    iexact HO
  iintro ⟨Hx, HD, HK, HO⟩
  rw [W_bind]
  iapply (recv_has c I 9 13 (by decide) rsbSB (tile rsbRB 1) (View.wordExact_bits rfl) (View.wordExact_bits rfl) rfl) $$ [Hr' HO]
  · isplitr; · iexact Hn
    isplitl [Hr']; · iexact Hr'
    iexact HO
  rw [show recvPay I 9 c = has c (tile rsbRB 1) fullShare (rsb1 I (rt c)) from rfl]
  iintro ⟨HR, Hz', HO⟩
  iapply (lastHalf_has c I 0 11 ⟨k0_dev14 c, k0_dev14_lt c⟩ (by revert c; decide) (part128 I c (halfOf (agbX I 3 c) 0) (offB c 2)) (rsb1 I (rt c))
    rfl (recv_at c I 11 (half fbRB 0) (fbX I 0) fun _ => rfl) rfl) $$ [Hs' Hl' HD HR HB HO]
  · isplitr; · iexact Hn
    isplitl [Hs' Hl']
    · isplitl [Hs']; · iexact Hs'
      iexact Hl'
    isplitl [HD]; · iexact HD
    isplitl [HR]; · iexact HR
    isplitl [HB]; · iexact HB
    iexact HO
  iintro ⟨HD, HR, Hs, HO⟩
  iapply HQ
  isplitl [Hz Hx]
  · isplitl [Hz]; · iexact Hz
    iexact Hx
  isplitl [Hz' HR Hs]
  · isplitl [Hz']; · iexact Hz'
    isplitl [HR]; · iexact HR
    iexact Hs
  isplitl [HD]; · iexact HD
  isplitl [HK]
  · iapply (Entails.of_eq (show readyNext c I (some (offB c 2)) = ready c I (offB c 2) from rfl)) $$ HK
  iexact HO

/-- The second half of that block. -/
theorem blockB4_has (Q : PUnit → sProp 𝕄) :
    iprop(known I ∗ (has c (tile xgbB 2) fullShare (agbX I 3 c) ∗ has c (tile rsbRB 1) fullShare (rsb1 I (rt c)) ∗ toSend (F := F) c 12
        ∗ landing (F := F) 12 (peer 12 c) ∗ any (F := F) c (half fbSB 1)) ∗ desk c I ∗ ready c I (offB c 2) ∗ paid (F := F) c 14)
      ⊢ iprop(((has c (tile xgbB 2) fullShare (agbX I 3 c)) ∗ (has c (tile rsbRB 1) fullShare (rsb1 I (rt c)) ∗ sent (F := F) c 12) ∗ desk c I
          ∗ idle c I ∗ paid (F := F) c 15 -∗ Q ⟨⟩) -∗ W c (blockB4 c) Q) := by
  rw [show landing (F := F) 12 (peer 12 c) = any (F := F) (peer 12 c) (half fbRB 1) from rfl]
  iintro ⟨#Hn, ⟨Hx, HR, Hs', Hl', HB⟩, HD, HK, HO⟩ HQ
  unfold blockB4
  rw [W_bind]
  iapply (blockH_has c I ((pays c).drop 14) (due_drop c _) 1 (offB c 2) none fullShare (agbX I 3 c)) $$ [Hx HD HK HO]
  · isplitr; · iexact Hn
    isplitl [Hx]; · iexact Hx
    isplitl [HD]; · iexact HD
    isplitl [HK]; · iexact HK
    iexact HO
  iintro ⟨Hx, HD, HK, HO⟩
  iapply (lastHalf_has c I 1 12 ⟨k0_dev15 c, k0_dev15_lt c⟩ (by revert c; decide) (part128 I c (halfOf (agbX I 3 c) 1) (offB c 2)) (rsb1 I (rt c))
    rfl (recv_at c I 12 (half fbRB 1) (fbX I 1) fun _ => rfl) rfl) $$ [Hs' Hl' HD HR HB HO]
  · isplitr; · iexact Hn
    isplitl [Hs' Hl']
    · isplitl [Hs']; · iexact Hs'
      iexact Hl'
    isplitl [HD]; · iexact HD
    isplitl [HR]; · iexact HR
    isplitl [HB]; · iexact HB
    iexact HO
  iintro ⟨HD, HR, Hs, HO⟩
  iapply HQ
  isplitl [Hx]; · iexact Hx
  isplitl [HR Hs]
  · isplitl [HR]; · iexact HR
    iexact Hs
  isplitl [HD]; · iexact HD
  isplitl [HK]
  · iapply (Entails.of_eq (show readyNext c I none = idle c I from rfl)) $$ HK
  iexact HO

end Cert.KernelIdeal.Ring
-- ==== Proof.KernelIdeal.Finish.lean ====
/- The end of the body - the result, the waits for what was sent - and the body as a whole. -/
module

public import proofs.«01_k».proof.Proof.KernelIdeal.Segments

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]
local notation "𝕄" => MT nD τ sig Unit (Elt F) ℕ UU ℕ

variable (c : Dev nD) (I : Dev nD → Ins F)

/-! ## The waits -/

/-- A wait for a block of 256 rows to arrive. -/
theorem awaitR_has (t : Fin 13) (src dst : Memref sig .tc .vmem S256x1024 .f32) (hN : dst.view.dmaCredit = N t)
    (hab : ∀ c : Dev nD, Above (.dma (sR t)) ((pays c).drop 15)) (Q : PUnit → sProp 𝕄) :
    iprop(known I ∗ toRecv (F := F) c t ∗ paid (F := F) c 15)
      ⊢ iprop((recvPay I t c ∗ recvZero (F := F) c t ∗ paid (F := F) c 15 -∗ Q ⟨⟩) -∗ W c (await src dst (sR t)) Q) := by
  unfold await
  exact recv_has c I t 15 hab src dst _ _ hN Q
/-- A wait for a block of 256 rows to have left. -/
theorem awaitS_has (t : Fin 13) (src dst : Memref sig .tc .vmem S256x1024 .f32) (hN : dst.view.dmaCredit = N t)
    (hab : ∀ c : Dev nD, Above (.dma (sS t)) ((pays c).drop 15)) (Q : PUnit → sProp 𝕄) :
    iprop(known I ∗ sent (F := F) c t ∗ paid (F := F) c 15)
      ⊢ iprop((sendPay I t c ∗ sendZero (F := F) c t ∗ paid (F := F) c 15 -∗ Q ⟨⟩) -∗ W c (await src dst (sS t)) Q) := by
  unfold await
  exact left_has c I t 15 hab src dst _ _ hN Q
/-- A wait for half a block to arrive. -/
theorem awaitHR_has (t : Fin 13) (i : Fin 2) (hN : (half fbRB i).view.dmaCredit = N t)
    (hab : ∀ c : Dev nD, Above (.dma (sR t)) ((pays c).drop 15)) (Q : PUnit → sProp 𝕄) :
    iprop(known I ∗ toRecv (F := F) c t ∗ paid (F := F) c 15)
      ⊢ iprop((recvPay I t c ∗ recvZero (F := F) c t ∗ paid (F := F) c 15 -∗ Q ⟨⟩) -∗ W c (awaitHalfR i (sR t)) Q) := by
  unfold awaitHalfR
  exact recv_has c I t 15 hab (half fbSB i) (half fbRB i) _ _ hN Q
/-- A wait for half a block to have left. -/
theorem awaitHS_has (t : Fin 13) (i : Fin 2) (hN : (half fbSB i).view.dmaCredit = N t)
    (hab : ∀ c : Dev nD, Above (.dma (sS t)) ((pays c).drop 15)) (Q : PUnit → sProp 𝕄) :
    iprop(known I ∗ sent (F := F) c t ∗ paid (F := F) c 15)
      ⊢ iprop((sendPay I t c ∗ sendZero (F := F) c t ∗ paid (F := F) c 15 -∗ Q ⟨⟩) -∗ W c (awaitHalfS i (sS t)) Q) := by
  unfold awaitHalfS
  exact left_has c I t 15 hab (half fbRB i) (half fbSB i) _ _ hN Q

/-! ## The result -/

omit [FloatOps F] in
/-- Three stores, of the upper half of the rows and of the two lower quarters, leave nothing of what was there. -/
theorem three_stores (Y0 Y1 Y2 : Vec F S512x1024 .f32) (v0 : Vec F S256x1024 .f32) (v1 v2 : Vec F S128x1024 .f32)
    (h0 : ∀ k, Y0 ((topR 0).emb k) = v0 k) (h1 : (∀ k, Y1 ((rowR (qtr 0)).emb k) = v1 k) ∧ ∀ j, j ∉ (rowR (qtr 0)).set → Y1 j = Y0 j)
    (h2 : (∀ k, Y2 ((rowR (qtr 1)).emb k) = v2 k) ∧ ∀ j, j ∉ (rowR (qtr 1)).set → Y2 j = Y1 j) (a : Fin 512) (b : Fin 1024) :
    Y2 (ix2 a b) = if h : a.val < 256 then v0 (ix2 ⟨a.val, h⟩ b) else if h' : a.val < 384 then v1 (ix2 ⟨a.val - 256, by omega⟩ b)
      else v2 (ix2 ⟨a.val - 384, by omega⟩ b) := by
  have off : ∀ (i : Fin 4), ¬(128 * i.val ≤ a.val ∧ a.val < 128 * i.val + 128) → (ix2 a b : S512x1024.Idx) ∉ (rowR i).set := by
    intro i hi hm
    exact hi ((Rect.mem_set_unit.mp hm) 0)
  by_cases h : a.val < 256
  · rw [dif_pos h, h2.2 _ (off _ (by show ¬(128 * 3 ≤ _ ∧ _); omega)), h1.2 _ (off _ (by show ¬(128 * 2 ≤ _ ∧ _); omega)), ← h0]
    refine congrArg Y0 ?_
    funext x; fin_cases x
    · exact Fin.ext (by show a.val = 0 + 1 * a.val; omega)
    · exact Fin.ext (by show b.val = 0 + 1 * b.val; omega)
  · rw [dif_neg h]
    by_cases h' : a.val < 384
    · rw [dif_pos h', h2.2 _ (off _ (by show ¬(128 * 3 ≤ _ ∧ _); omega)), ← h1.1]
      refine congrArg Y1 ?_
      funext x; fin_cases x
      · exact Fin.ext (by show a.val = 128 * 2 + 1 * (a.val - 256); omega)
      · exact Fin.ext (by show b.val = 0 + 1 * b.val; omega)
    · rw [dif_neg h', ← h2.1]
      refine congrArg Y2 ?_
      funext x; fin_cases x
      · exact Fin.ext (by show a.val = 128 * 3 + 1 * (a.val - 384); omega)
      · exact Fin.ext (by show b.val = 0 + 1 * b.val; omega)

/-- Half `i` of the lower rows. -/
theorem outHalf_has (i : Fin 2) (P : Vec F S512x1024 .f32) (X : Vec F S128x1024 .bf16) (Y : Vec F S512x1024 .f32) (Q : PUnit → sProp 𝕄) :
    iprop(has c (half fbRB i) fullShare X ∗ has c pownB fullShare P ∗ has c outB fullShare Y)
      ⊢ iprop((has c (half fbRB i) fullShare X ∗ has c pownB fullShare P
          ∗ stored c outB Y (rowR (qtr i)) (out128 X (fun j => P ((rowR (qtr i)).emb j))) -∗ Q ⟨⟩) -∗ W c (outHalf i) Q) := by
  iintro ⟨HX, HP, HY⟩ HQ
  unfold outHalf
  rw [W_bind]
  iapply (ld_slice c fbRB (halfR i) (fun _ => rfl) h_S128x1024 fullShare X) $$ HX
  iintro HX
  rw [W_bind]
  iapply (ld_has c pownB (rowR (qtr i)) h_S128x1024 fullShare P) $$ HP
  iintro HP
  iapply (st_has c outB (rowR (qtr i)) h_S128x1024 Y) $$ HY
  iintro HY
  iapply HQ
  isplitl [HX]; · iexact HX
  isplitl [HP]; · iexact HP
  iexact HY

/-- The result is written. -/
theorem finish_has (Q : PUnit → sProp 𝕄) :
    iprop(known I ∗ (toRecv (F := F) c 10 ∗ toRecv (F := F) c 11 ∗ toRecv (F := F) c 12) ∗ has c pownB fullShare (pown I c) ∗ any (F := F) c outB
        ∗ paid (F := F) c 15)
      ⊢ iprop(((recvZero (F := F) c 10 ∗ recvZero (F := F) c 11 ∗ recvZero (F := F) c 12)
          ∗ (landing (F := F) 10 c ∗ landing (F := F) 11 c ∗ landing (F := F) 12 c) ∗ any (F := F) c pownB ∗ has c outB fullShare (outV I c)
          ∗ paid (F := F) c 15 -∗ Q ⟨⟩) -∗ W c finish Q) := by
  rw [show landing (F := F) 10 c = any (F := F) c (tile rsaRB 2) from rfl, show landing (F := F) 11 c = any (F := F) c (half fbRB 0) from rfl,
    show landing (F := F) 12 c = any (F := F) c (half fbRB 1) from rfl]
  iintro ⟨#Hn, ⟨Hr0, Hr1, Hr2⟩, HP, ⟨%X0, HY⟩, HO⟩ HQ
  unfold finish
  rw [W_bind]
  iapply (awaitR_has c I 10 rsaSB (tile rsaRB 2) rfl (by decide)) $$ [Hr0 HO]
  · isplitr; · iexact Hn
    isplitl [Hr0]; · iexact Hr0
    iexact HO
  rw [show recvPay I 10 c = has c (tile rsaRB 2) fullShare (rsa2 I (lf c)) from rfl]
  iintro ⟨HA, Hz0, HO⟩
  rw [W_bind]
  iapply (ld_tile c rsaRB 2 fullShare (rsa2 I (lf c))) $$ HA
  iintro HA
  rw [W_bind]
  iapply (ld_has c pownB (topR 0) h_S256x1024 fullShare (pown I c)) $$ HP
  iintro HP
  rw [W_bind]
  iapply (st_has c outB (topR 0) h_S256x1024 X0) $$ HY
  iintro HY
  unfold stored
  icases HY with ⟨%Y0, %h0, HY⟩
  rw [W_bind]
  iapply (awaitHR_has c I 11 0 rfl (by decide)) $$ [Hr1 HO]
  · isplitr; · iexact Hn
    isplitl [Hr1]; · iexact Hr1
    iexact HO
  rw [show recvPay I 11 c = has c (half fbRB 0) fullShare (fbX I 0 (rt c)) from rfl]
  iintro ⟨HB, Hz1, HO⟩
  rw [W_bind]
  iapply (outHalf_has c 0 (pown I c) (fbX I 0 (rt c)) Y0) $$ [HB HP HY]
  · isplitl [HB]; · iexact HB
    isplitl [HP]; · iexact HP
    iexact HY
  iintro ⟨HB, HP, HY⟩
  unfold stored
  icases HY with ⟨%Y1, %h1, HY⟩
  rw [W_bind]
  iapply (awaitHR_has c I 12 1 rfl (by decide)) $$ [Hr2 HO]
  · isplitr; · iexact Hn
    isplitl [Hr2]; · iexact Hr2
    iexact HO
  rw [show recvPay I 12 c = has c (half fbRB 1) fullShare (fbX I 1 (rt c)) from rfl]
  iintro ⟨HC, Hz2, HO⟩
  iapply (outHalf_has c 1 (pown I c) (fbX I 1 (rt c)) Y1) $$ [HC HP HY]
  · isplitl [HC]; · iexact HC
    isplitl [HP]; · iexact HP
    iexact HY
  iintro ⟨HC, HP, HY⟩
  unfold stored
  icases HY with ⟨%Y2, %h2, HY⟩
  obtain rfl : Y2 = outV I c := by
    funext i
    obtain ⟨a, b, rfl⟩ : ∃ (a : Fin 512) (b : Fin 1024), i = ix2 a b := ⟨i 0, i 1, eq_ix2 i⟩
    exact three_stores Y0 Y1 Y2 (outTop I c) (outQtr I 0 c) (outQtr I 1 c) h0.1 h1 h2 a b
  iapply HQ
  isplitl [Hz0 Hz1 Hz2]
  · isplitl [Hz0]; · iexact Hz0
    isplitl [Hz1]; · iexact Hz1
    iexact Hz2
  isplitl [HA HB HC]
  · isplitl [HA]
    · iexists _; iexact HA
    isplitl [HB]
    · iexists _; iexact HB
    iexists _; iexact HC
  isplitl [HP]
  · iexists _; iexact HP
  isplitl [HY]; · iexact HY
  iexact HO

/-- The closing waits, in the body's order. -/
theorem drain_has (Q : PUnit → sProp 𝕄) :
    iprop(known I ∗ (sent (F := F) c 10 ∗ sent (F := F) c 9 ∗ sent (F := F) c 11 ∗ sent (F := F) c 12 ∗ sent (F := F) c 0 ∗ sent (F := F) c 1
        ∗ sent (F := F) c 2 ∗ sent (F := F) c 4 ∗ sent (F := F) c 6 ∗ sent (F := F) c 8) ∗ paid (F := F) c 15)
      ⊢ iprop(((sendPay I 10 c ∗ sendPay I 9 c ∗ sendPay I 11 c ∗ sendPay I 12 c ∗ sendPay I 0 c ∗ sendPay I 1 c ∗ sendPay I 2 c ∗ sendPay I 4 c
            ∗ sendPay I 6 c ∗ sendPay I 8 c)
          ∗ (sendZero (F := F) c 10 ∗ sendZero (F := F) c 9 ∗ sendZero (F := F) c 11 ∗ sendZero (F := F) c 12 ∗ sendZero (F := F) c 0
            ∗ sendZero (F := F) c 1 ∗ sendZero (F := F) c 2 ∗ sendZero (F := F) c 4 ∗ sendZero (F := F) c 6 ∗ sendZero (F := F) c 8)
          ∗ paid (F := F) c 15 -∗ Q ⟨⟩) -∗ W c drain Q) := by
  iintro ⟨#Hn, ⟨H10, H9, H11, H12, H0, H1, H2, H4, H6, H8⟩, HO⟩ HQ
  unfold drain
  rw [W_bind]
  iapply (awaitS_has c I 10 (tile rsaRB 2) rsaSB rfl (by decide)) $$ [H10 HO]
  · isplitr; · iexact Hn
    isplitl [H10]; · iexact H10
    iexact HO
  iintro ⟨P10, H10, HO⟩
  rw [W_bind]
  iapply (awaitS_has c I 9 (tile rsbRB 1) rsbSB rfl (by decide)) $$ [H9 HO]
  · isplitr; · iexact Hn
    isplitl [H9]; · iexact H9
    iexact HO
  iintro ⟨P9, H9, HO⟩
  rw [W_bind]
  iapply (awaitHS_has c I 11 0 rfl (by decide)) $$ [H11 HO]
  · isplitr; · iexact Hn
    isplitl [H11]; · iexact H11
    iexact HO
  iintro ⟨P11, H11, HO⟩
  rw [W_bind]
  iapply (awaitHS_has c I 12 1 rfl (by decide)) $$ [H12 HO]
  · isplitr; · iexact Hn
    isplitl [H12]; · iexact H12
    iexact HO
  iintro ⟨P12, H12, HO⟩
  rw [W_bind]
  iapply (awaitS_has c I 0 (tile xgaB 0) (xHalf 0) rfl (by decide)) $$ [H0 HO]
  · isplitr; · iexact Hn
    isplitl [H0]; · iexact H0
    iexact HO
  iintro ⟨P0, H0, HO⟩
  rw [W_bind]
  iapply (awaitS_has c I 1 (tile xgbB 0) (xHalf 1) rfl (by decide)) $$ [H1 HO]
  · isplitr; · iexact Hn
    isplitl [H1]; · iexact H1
    iexact HO
  iintro ⟨P1, H1, HO⟩
  rw [W_bind]
  iapply (awaitS_has c I 2 (tile xgaB 1) (tile xgaB 0) rfl (by decide)) $$ [H2 HO]
  · isplitr; · iexact Hn
    isplitl [H2]; · iexact H2
    iexact HO
  iintro ⟨P2, H2, HO⟩
  rw [W_bind]
  iapply (awaitS_has c I 4 (tile xgbB 1) (tile xgbB 0) rfl (by decide)) $$ [H4 HO]
  · isplitr; · iexact Hn
    isplitl [H4]; · iexact H4
    iexact HO
  iintro ⟨P4, H4, HO⟩
  rw [W_bind]
  iapply (awaitS_has c I 6 (tile xgaB 2) (tile xgaB 1) rfl (by decide)) $$ [H6 HO]
  · isplitr; · iexact Hn
    isplitl [H6]; · iexact H6
    iexact HO
  iintro ⟨P6, H6, HO⟩
  iapply (awaitS_has c I 8 (tile xgbB 2) (tile xgbB 1) rfl (by decide)) $$ [H8 HO]
  · isplitr; · iexact Hn
    isplitl [H8]; · iexact H8
    iexact HO
  iintro ⟨P8, H8, HO⟩
  iapply HQ
  isplitl [P0 P1 P2 P4 P6 P8 P9 P10 P11 P12]
  · isplitl [P10]; · iexact P10
    isplitl [P9]; · iexact P9
    isplitl [P11]; · iexact P11
    isplitl [P12]; · iexact P12
    isplitl [P0]; · iexact P0
    isplitl [P1]; · iexact P1
    isplitl [P2]; · iexact P2
    isplitl [P4]; · iexact P4
    isplitl [P6]; · iexact P6
    iexact P8
  isplitl [H0 H1 H2 H4 H6 H8 H9 H10 H11 H12]
  · isplitl [H10]; · iexact H10
    isplitl [H9]; · iexact H9
    isplitl [H11]; · iexact H11
    isplitl [H12]; · iexact H12
    isplitl [H0]; · iexact H0
    isplitl [H1]; · iexact H1
    isplitl [H2]; · iexact H2
    isplitl [H4]; · iexact H4
    isplitl [H6]; · iexact H6
    iexact H8
  iexact HO

end Cert.KernelIdeal.Ring
-- ==== Proof.KernelIdeal.Body.lean ====
/- The body as a whole: what a device needs to run it, and what it leaves. -/
module

public import proofs.«01_k».proof.Proof.KernelIdeal.Finish

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]
local notation "𝕄" => MT nD τ sig Unit (Elt F) ℕ UU ℕ

variable (c : Dev nD) (I : Dev nD → Ins F)

/-- What every transfer needs, at its sender and at its receiver. -/
def sends : sProp 𝕄 :=
  iprop(toSend (F := F) c 0 ∗ toSend (F := F) c 1 ∗ toSend (F := F) c 2 ∗ toSend (F := F) c 3 ∗ toSend (F := F) c 4 ∗ toSend (F := F) c 5 ∗ toSend (F := F) c 6 ∗ toSend (F := F) c 7 ∗ toSend (F := F) c 8 ∗ toSend (F := F) c 9 ∗ toSend (F := F) c 10 ∗ toSend (F := F) c 11 ∗ toSend (F := F) c 12)
def recvs : sProp 𝕄 :=
  iprop(toRecv (F := F) c 0 ∗ toRecv (F := F) c 1 ∗ toRecv (F := F) c 2 ∗ toRecv (F := F) c 3 ∗ toRecv (F := F) c 4 ∗ toRecv (F := F) c 5 ∗ toRecv (F := F) c 6 ∗ toRecv (F := F) c 7 ∗ toRecv (F := F) c 8 ∗ toRecv (F := F) c 9 ∗ toRecv (F := F) c 10 ∗ toRecv (F := F) c 11 ∗ toRecv (F := F) c 12)
/-- Every semaphore at rest. -/
def sendsZero : sProp 𝕄 :=
  iprop(sendZero (F := F) c 0 ∗ sendZero (F := F) c 1 ∗ sendZero (F := F) c 2 ∗ sendZero (F := F) c 3 ∗ sendZero (F := F) c 4 ∗ sendZero (F := F) c 5 ∗ sendZero (F := F) c 6 ∗ sendZero (F := F) c 7 ∗ sendZero (F := F) c 8 ∗ sendZero (F := F) c 9 ∗ sendZero (F := F) c 10 ∗ sendZero (F := F) c 11 ∗ sendZero (F := F) c 12)
def recvsZero : sProp 𝕄 :=
  iprop(recvZero (F := F) c 0 ∗ recvZero (F := F) c 1 ∗ recvZero (F := F) c 2 ∗ recvZero (F := F) c 3 ∗ recvZero (F := F) c 4 ∗ recvZero (F := F) c 5 ∗ recvZero (F := F) c 6 ∗ recvZero (F := F) c 7 ∗ recvZero (F := F) c 8 ∗ recvZero (F := F) c 9 ∗ recvZero (F := F) c 10 ∗ recvZero (F := F) c 11 ∗ recvZero (F := F) c 12)

/-- The scratch buffers that are not fetched into, with some contents. -/
def scratch : sProp 𝕄 :=
  iprop((any (F := F) c pownB ∗ any (F := F) c rsaSB ∗ any (F := F) c rsbSB ∗ any (F := F) c (half fbSB 0) ∗ any (F := F) c (half fbSB 1))
    ∗ landR (F := F) c ∗ landL (F := F) c)
/-- This device's rows, half of the share kept and half lent to the first two sends. -/
def rowsHeld : sProp 𝕄 := iprop(has c xB kept (I c).x ∗ has c (xHalf 0) lent (xRows I c 0) ∗ has c (xHalf 1) lent (xRows I c 1))

def bodyNeeds : sProp 𝕄 :=
  iprop(known I ∗ (toEnter (F := F) c ∗ toLeave (F := F) c ∗ sends (F := F) c ∗ recvs (F := F) c) ∗ rowsHeld c I ∗ desk c I ∗ idle c I
    ∗ scratch (F := F) c ∗ any (F := F) c outB ∗ paid (F := F) c 0)
def bodyLeaves : sProp 𝕄 :=
  iprop((semVal (barCell c) 0 ∗ semVal (endCell c) 0 ∗ sendsZero (F := F) c ∗ recvsZero (F := F) c) ∗ rowsHeld c I ∗ desk c I ∗ idle c I
    ∗ scratch (F := F) c ∗ has c outB fullShare (outV I c) ∗ paid (F := F) c 17)

/-- The landing buffers on the right, and on the left, by the transfers that go there. -/
theorem landR_peer : landR (F := F) (rt c) ⊢ iprop(landing (F := F) 0 (peer 0 c) ∗ landing (F := F) 2 (peer 2 c) ∗ landing (F := F) 3 (peer 3 c)
    ∗ landing (F := F) 6 (peer 6 c) ∗ landing (F := F) 7 (peer 7 c) ∗ landing (F := F) 10 (peer 10 c)) := Entails.of_eq rfl
/-- The landing buffers at the left neighbour, each at the peer of its transfer. -/
theorem landL_peer : landL (F := F) (lf c) ⊢ iprop(landing (F := F) 1 (peer 1 c) ∗ landing (F := F) 4 (peer 4 c) ∗ landing (F := F) 5 (peer 5 c)
    ∗ landing (F := F) 8 (peer 8 c) ∗ landing (F := F) 9 (peer 9 c) ∗ landing (F := F) 11 (peer 11 c) ∗ landing (F := F) 12 (peer 12 c)) :=
  Entails.of_eq rfl

/-- A tile lent to a send and kept for the loads is whole again. -/
theorem tile_back (A : Memref sig .tc .vmem S3x256x1024 .f32) (i : Fin 3) (X Y : Vec F S256x1024 .f32) :
    iprop(has c (tile A i) lent X ∗ has c (tile A i) kept Y) ⊢ any (F := F) c (tile A i) :=
  (has_join c (tile A i) X Y).trans (has_any c (tile A i) X)

/-- Running the body of device `c`. -/
theorem body_has (Q : PUnit → sProp 𝕄) : bodyNeeds c I ⊢ iprop((bodyLeaves c I -∗ Q ⟨⟩) -∗ W c (body c) Q) := by
  unfold bodyNeeds bodyLeaves sends recvs scratch rowsHeld
  iintro ⟨#Hn, ⟨HE, HX, ⟨S0, S1, S2, S3, S4, S5, S6, S7, S8, S9, S10, S11, S12⟩, ⟨R0, R1, R2, R3, R4, R5, R6, R7, R8, R9, R10, R11, R12⟩⟩, ⟨Hx, Hx0, Hx1⟩, HD, HK, ⟨⟨HP, HA, HB, HF0, HF1⟩, HLR, HLL⟩, HY, HO⟩ HQ
  unfold body
  rw [W_bind]
  iapply (enter_has c I _ _ (by revert c; decide) (by revert c; decide)) $$ [HE HLR HLL HO]
  · isplitr; · iexact Hn
    isplitl [HE]; · iexact HE
    isplitl [HLR HLL]
    · isplitl [HLR]; · iexact HLR
      iexact HLL
    iexact HO
  iintro ⟨⟨HLR, HLL⟩, HZ0, HO⟩
  icases (landR_peer (F := F) c) $$ HLR with ⟨L0, L2, L3, L6, L7, L10⟩
  icases (landL_peer (F := F) c) $$ HLL with ⟨L1, L4, L5, L8, L9, L11, L12⟩
  rw [W_bind]
  iapply (start_has c I) $$ [HK Hx0 Hx1 S0 L0 S1 L1 HO]
  · isplitr; · iexact Hn
    isplitl [HK]; · iexact HK
    isplitl [Hx0]; · iexact Hx0
    isplitl [Hx1]; · iexact Hx1
    isplitl [S0 L0 S1 L1]
    · isplitl [S0]; · iexact S0
      isplitl [L0]; · iexact L0
      isplitl [S1]; · iexact S1
      iexact L1
    iexact HO
  iintro ⟨HK, S0, S1, HO⟩
  rw [W_bind]
  iapply (own_has c I ((pays c).drop 4) (due_drop c _)) $$ [Hx HD HP HK HO]
  · isplitr; · iexact Hn
    isplitl [Hx]; · iexact Hx
    isplitl [HD]; · iexact HD
    isplitl [HP]; · iexact HP
    isplitl [HK]; · iexact HK
    iexact HO
  iintro ⟨Hx, HD, HP, HK, HO⟩
  rw [W_bind]
  iapply (blockA1_has c I) $$ [R0 S2 L2 S3 L3 HA HD HK HO]
  · isplitr; · iexact Hn
    isplitl [R0 S2 L2 S3 L3 HA]
    · isplitl [R0]; · iexact R0
      isplitl [S2]; · iexact S2
      isplitl [L2]; · iexact L2
      isplitl [S3]; · iexact S3
      isplitl [L3]; · iexact L3
      iexact HA
    isplitl [HD]; · iexact HD
    isplitl [HK]; · iexact HK
    iexact HO
  iintro ⟨⟨R0, L0, S2, S3⟩, HD, HK, HO⟩
  rw [W_bind]
  iapply (blockB1_has c I) $$ [R1 S4 L4 S5 L5 HB HD HK HO]
  · isplitr; · iexact Hn
    isplitl [R1 S4 L4 S5 L5 HB]
    · isplitl [R1]; · iexact R1
      isplitl [S4]; · iexact S4
      isplitl [L4]; · iexact L4
      isplitl [S5]; · iexact S5
      isplitl [L5]; · iexact L5
      iexact HB
    isplitl [HD]; · iexact HD
    isplitl [HK]; · iexact HK
    iexact HO
  iintro ⟨⟨R1, L1, S4, S5⟩, HD, HK, HO⟩
  rw [W_bind]
  iapply (blockA2_has c I) $$ [R2 S6 L6 R3 S3 S7 L7 HD HK HO]
  · isplitr; · iexact Hn
    isplitl [R2 S6 L6 R3 S3 S7 L7]
    · isplitl [R2]; · iexact R2
      isplitl [S6]; · iexact S6
      isplitl [L6]; · iexact L6
      isplitl [R3]; · iexact R3
      isplitl [S3]; · iexact S3
      isplitl [S7]; · iexact S7
      iexact L7
    isplitl [HD]; · iexact HD
    isplitl [HK]; · iexact HK
    iexact HO
  iintro ⟨⟨R2, L2, S6⟩, ⟨R3, L3, S3, S7⟩, HD, HK, HO⟩
  rw [W_bind]
  iapply (blockB2_has c I) $$ [R4 S8 L8 R5 S5 S9 L9 HD HK HO]
  · isplitr; · iexact Hn
    isplitl [R4 S8 L8 R5 S5 S9 L9]
    · isplitl [R4]; · iexact R4
      isplitl [S8]; · iexact S8
      isplitl [L8]; · iexact L8
      isplitl [R5]; · iexact R5
      isplitl [S5]; · iexact S5
      isplitl [S9]; · iexact S9
      iexact L9
    isplitl [HD]; · iexact HD
    isplitl [HK]; · iexact HK
    iexact HO
  iintro ⟨⟨R4, L4, S8⟩, ⟨R5, L5, S5, S9⟩, HD, HK, HO⟩
  rw [W_bind]
  iapply (blockA3_has c I) $$ [R6 R7 S7 S10 L10 HD HK HO]
  · isplitr; · iexact Hn
    isplitl [R6 R7 S7 S10 L10]
    · isplitl [R6]; · iexact R6
      isplitl [R7]; · iexact R7
      isplitl [S7]; · iexact S7
      isplitl [S10]; · iexact S10
      iexact L10
    isplitl [HD]; · iexact HD
    isplitl [HK]; · iexact HK
    iexact HO
  iintro ⟨⟨R6, L6⟩, ⟨R7, L7, S7, S10⟩, HD, HK, HO⟩
  rw [W_bind]
  iapply (blockB3_has c I) $$ [R8 R9 S11 L11 HF0 HD HK HO]
  · isplitr; · iexact Hn
    isplitl [R8 R9 S11 L11 HF0]
    · isplitl [R8]; · iexact R8
      isplitl [R9]; · iexact R9
      isplitl [S11]; · iexact S11
      isplitl [L11]; · iexact L11
      iexact HF0
    isplitl [HD]; · iexact HD
    isplitl [HK]; · iexact HK
    iexact HO
  iintro ⟨⟨R8, L8⟩, ⟨R9, L9, S11⟩, HD, HK, HO⟩
  rw [W_bind]
  iapply (blockB4_has c I) $$ [L8 L9 S12 L12 HF1 HD HK HO]
  · isplitr; · iexact Hn
    isplitl [L8 L9 S12 L12 HF1]
    · isplitl [L8]; · iexact L8
      isplitl [L9]; · iexact L9
      isplitl [S12]; · iexact S12
      isplitl [L12]; · iexact L12
      iexact HF1
    isplitl [HD]; · iexact HD
    isplitl [HK]; · iexact HK
    iexact HO
  iintro ⟨L8, ⟨L9, S12⟩, HD, HK, HO⟩
  rw [W_bind]
  iapply (finish_has c I) $$ [R10 R11 R12 HP HY HO]
  · isplitr; · iexact Hn
    isplitl [R10 R11 R12]
    · isplitl [R10]; · iexact R10
      isplitl [R11]; · iexact R11
      iexact R12
    isplitl [HP]; · iexact HP
    isplitl [HY]; · iexact HY
    iexact HO
  iintro ⟨⟨R10, R11, R12⟩, ⟨L10, L11, L12⟩, HP, HY, HO⟩
  rw [W_bind]
  iapply (drain_has c I) $$ [S10 S9 S11 S12 S0 S1 S2 S4 S6 S8 HO]
  · isplitr; · iexact Hn
    isplitl [S10 S9 S11 S12 S0 S1 S2 S4 S6 S8]
    · isplitl [S10]; · iexact S10
      isplitl [S9]; · iexact S9
      isplitl [S11]; · iexact S11
      isplitl [S12]; · iexact S12
      isplitl [S0]; · iexact S0
      isplitl [S1]; · iexact S1
      isplitl [S2]; · iexact S2
      isplitl [S4]; · iexact S4
      isplitl [S6]; · iexact S6
      iexact S8
    iexact HO
  iintro ⟨⟨P10, P9, P11, P12, P0, P1, P2, P4, P6, P8⟩, ⟨S10, S9, S11, S12, S0, S1, S2, S4, S6, S8⟩, HO⟩
  iapply (leave_has c I _ _ (by revert c; decide) (by revert c; decide)) $$ [HX HO]
  · isplitr; · iexact Hn
    isplitl [HX]; · iexact HX
    iexact HO
  iintro ⟨HZ1, HO⟩
  iapply HQ
  unfold sendsZero recvsZero landR landL
  isplitl [HZ0 HZ1 S0 S1 S2 S3 S4 S5 S6 S7 S8 S9 S10 S11 S12 R0 R1 R2 R3 R4 R5 R6 R7 R8 R9 R10 R11 R12]
  · isplitl [HZ0]; · iexact HZ0
    isplitl [HZ1]; · iexact HZ1
    isplitl [S0 S1 S2 S3 S4 S5 S6 S7 S8 S9 S10 S11 S12]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      iexact S12
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    iexact R12
  isplitl [Hx P0 P1]
  · isplitl [Hx]; · iexact Hx
    isplitl [P0]; · iapply (show sendPay I 0 c ⊢ has c (xHalf 0) lent (xRows I c 0) from Entails.of_eq rfl) $$ P0
    iapply (show sendPay I 1 c ⊢ has c (xHalf 1) lent (xRows I c 1) from Entails.of_eq rfl) $$ P1
  isplitl [HD]; · iexact HD
  isplitl [HK]; · iexact HK
  isplitl [HP P9 P10 P11 P12 P2 P4 P6 P8 L0 L1 L2 L3 L4 L5 L6 L7 L8 L9 L10 L11 L12]
  · isplitl [HP P9 P10 P11 P12]
    · isplitl [HP]; · iexact HP
      isplitl [P10]
      · iapply (show sendPay I 10 c ⊢ any (F := F) c rsaSB from has_any c rsaSB (rsa2 I c)) $$ P10
      isplitl [P9]
      · iapply (show sendPay I 9 c ⊢ any (F := F) c rsbSB from has_any c rsbSB (rsb1 I c)) $$ P9
      isplitl [P11]
      · iapply (show sendPay I 11 c ⊢ any (F := F) c (half fbSB 0) from has_any c (half fbSB 0) (fbX I 0 c)) $$ P11
      iapply (show sendPay I 12 c ⊢ any (F := F) c (half fbSB 1) from has_any c (half fbSB 1) (fbX I 1 c)) $$ P12
    isplitl [P2 L0 P6 L2 L3 L6 L7 L10]
    · isplitl [P2 L0]
      · iapply (show iprop(sendPay I 2 c ∗ has c (tile xgaB 0) kept (agaX I 1 c)) ⊢ landing (F := F) 0 c from
        tile_back c xgaB 0 (agaX I 1 c) (agaX I 1 c)) $$ [P2 L0]
        isplitl [P2]
        · iexact P2
        iexact L0
      isplitl [P6 L2]
      · iapply (show iprop(sendPay I 6 c ∗ has c (tile xgaB 1) kept (agaX I 2 c)) ⊢ landing (F := F) 2 c from
        tile_back c xgaB 1 (agaX I 2 c) (agaX I 2 c)) $$ [P6 L2]
        isplitl [P6]
        · iexact P6
        iexact L2
      isplitl [L3]
      · iapply (show has c (tile rsaRB 0) fullShare (rsa0 I (lf c)) ⊢ landing (F := F) 3 c from has_any c _ _) $$ L3
      isplitl [L6]
      · iapply (show has c (tile xgaB 2) fullShare (agaX I 3 c) ⊢ landing (F := F) 6 c from has_any c _ _) $$ L6
      isplitl [L7]
      · iapply (show has c (tile rsaRB 1) fullShare (rsa1 I (lf c)) ⊢ landing (F := F) 7 c from has_any c _ _) $$ L7
      iexact L10
    isplitl [P4 L1]
    · iapply (show iprop(sendPay I 4 c ∗ has c (tile xgbB 0) kept (agbX I 1 c)) ⊢ landing (F := F) 1 c from
        tile_back c xgbB 0 (agbX I 1 c) (agbX I 1 c)) $$ [P4 L1]
      isplitl [P4]
      · iexact P4
      iexact L1
    isplitl [P8 L4]
    · iapply (show iprop(sendPay I 8 c ∗ has c (tile xgbB 1) kept (agbX I 2 c)) ⊢ landing (F := F) 4 c from
        tile_back c xgbB 1 (agbX I 2 c) (agbX I 2 c)) $$ [P8 L4]
      isplitl [P8]
      · iexact P8
      iexact L4
    isplitl [L5]
    · iapply (show has c (tile rsbRB 0) fullShare (rsb0 I (rt c)) ⊢ landing (F := F) 5 c from has_any c _ _) $$ L5
    isplitl [L8]
    · iapply (show has c (tile xgbB 2) fullShare (agbX I 3 c) ⊢ landing (F := F) 8 c from has_any c _ _) $$ L8
    isplitl [L9]
    · iapply (show has c (tile rsbRB 1) fullShare (rsb1 I (rt c)) ⊢ landing (F := F) 9 c from has_any c _ _) $$ L9
    isplitl [L11]
    · iexact L11
    iexact L12
  isplitl [HY]; · iexact HY
  iexact HO

end Cert.KernelIdeal.Ring
-- ==== Proof.KernelIdeal.Buffers.lean ====
/- The scratch buffers in parts: tiles, slots and halves taken apart at the start and put together at the end. -/
module

public import proofs.«01_k».proof.Proof.KernelIdeal.Body

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]
local notation "𝕄" => MT nD τ sig Unit (Elt F) ℕ UU ℕ

variable (c : Dev nD)

/-! ## Cutting a rectangle's coordinates into parts -/

/-- Rectangles that cut one axis into equal lengths and take the others whole. -/
structure Cuts {s : Shape} {n : ℕ} (r : Fin n → Rect s) (a₀ : Fin s.rank) (k : ℕ) : Prop where
  stride : ∀ t a, (r t).stride a = 1
  off : ∀ t, (r t).off a₀ = k * t.val
  size : ∀ t, (r t).size a₀ = k
  all : n * k = s.size a₀
  off' : ∀ t a, a ≠ a₀ → (r t).off a = 0
  size' : ∀ t a, a ≠ a₀ → (r t).size a = s.size a

/-- An index lies in piece `t` when its coordinate along the cut does. -/
theorem Cuts.mem {s : Shape} {n : ℕ} {r : Fin n → Rect s} {a₀ : Fin s.rank} {k : ℕ} (h : Cuts r a₀ k) (t : Fin n) (i : s.Idx) :
    i ∈ (r t).set ↔ k * t.val ≤ (i a₀).val ∧ (i a₀).val < k * t.val + k := by
  rw [LoadRect.mem_set]
  constructor
  · intro hi
    obtain ⟨j, hj, he⟩ := hi a₀
    rw [h.size] at hj
    rw [h.off, h.stride, Nat.one_mul] at he
    omega
  · intro hi a
    by_cases ha : a = a₀
    · subst ha
      exact ⟨(i a).val - k * t.val, by rw [h.size]; omega, by rw [h.off, h.stride, Nat.one_mul]; omega⟩
    · exact ⟨(i a).val, by rw [h.size' t a ha]; exact (i a).isLt, by rw [h.off' t a ha, h.stride, Nat.one_mul, Nat.zero_add]⟩

/-- Two pieces do not meet. -/
theorem Cuts.apart {s : Shape} {n : ℕ} {r : Fin n → Rect s} {a₀ : Fin s.rank} {k : ℕ} (h : Cuts r a₀ k) (t t' : Fin n) (ht : t ≠ t') :
    Disjoint (r t).set (r t').set := Finset.disjoint_left.mpr fun i hi hi' => ht (by
  have h1 := (h.mem t i).mp hi
  have h2 := (h.mem t' i).mp hi'
  refine Fin.ext (le_antisymm ?_ ?_)
  · by_contra hc
    have : k * (t'.val + 1) ≤ k * t.val := Nat.mul_le_mul_left k (by omega)
    rw [Nat.mul_succ] at this; omega
  · by_contra hc
    have : k * (t.val + 1) ≤ k * t'.val := Nat.mul_le_mul_left k (by omega)
    rw [Nat.mul_succ] at this; omega)

/-- The pieces cover the array. -/
theorem Cuts.cover {s : Shape} {n : ℕ} {r : Fin n → Rect s} {a₀ : Fin s.rank} {k : ℕ} (h : Cuts r a₀ k) :
    (Finset.univ : Finset (Fin n)).biUnion (fun t => (r t).set) = Finset.univ := by
  ext i
  simp only [Finset.mem_biUnion, Finset.mem_univ, true_and, iff_true]
  have hi : (i a₀).val < n * k := by rw [h.all]; exact (i a₀).isLt
  have hk : 0 < k := by
    rcases Nat.eq_zero_or_pos k with h0 | h0
    · rw [h0, Nat.mul_zero] at hi; omega
    · exact h0
  refine ⟨⟨(i a₀).val / k, Nat.div_lt_of_lt_mul (by rw [Nat.mul_comm]; exact hi)⟩, (h.mem _ i).mpr ⟨Nat.mul_div_le _ _, ?_⟩⟩
  exact Nat.lt_mul_div_succ _ hk

/-- The slots cut the fetch buffer. -/
theorem cuts_slot : Cuts slotR 0 1 := ⟨fun _ _ => rfl, fun t => (Nat.one_mul _).symm, fun _ => rfl, rfl,
  fun t a ha => by fin_cases a <;> first | rfl | exact absurd rfl ha, fun t a ha => by fin_cases a <;> first | rfl | exact absurd rfl ha⟩
/-- The tiles cut a gather buffer. -/
theorem cuts_tile : Cuts tileR 0 1 := ⟨fun _ _ => rfl, fun t => (Nat.one_mul _).symm, fun _ => rfl, rfl,
  fun t a ha => by fin_cases a <;> first | rfl | exact absurd rfl ha, fun t a ha => by fin_cases a <;> first | rfl | exact absurd rfl ha⟩
/-- The two halves cut a block of 256 rows. -/
theorem cuts_half : Cuts halfR 0 128 := ⟨fun _ _ => rfl, fun _ => rfl, fun _ => rfl, rfl,
  fun t a ha => by fin_cases a <;> first | rfl | exact absurd rfl ha, fun t a ha => by fin_cases a <;> first | rfl | exact absurd rfl ha⟩
/-- The two halves cut the 512 rows. -/
theorem cuts_top : Cuts topR 0 256 := ⟨fun _ _ => rfl, fun _ => rfl, fun _ => rfl, rfl,
  fun t a ha => by fin_cases a <;> first | rfl | exact absurd rfl ha, fun t a ha => by fin_cases a <;> first | rfl | exact absurd rfl ha⟩

/-! ## A buffer held with some contents, whole and in parts -/

/-- Device `c` holds the elements `S` of the buffer under `A`, with some contents. -/
def anyOn {sp : Space} {s : Shape} {e : EltTy} (A : Memref sig .tc sp s e) (S : Finset (Idx (A.view.loc (c : Thread nD τ)))) : sProp 𝕄 :=
  iprop(∃ f : Buf (Elt F) (A.view.loc (c : Thread nD τ)), A.view.loc (c : Thread nD τ) ↦[S]{fullShare} f)

/-- A buffer held with some contents, as cells of memory. -/
theorem any_on {sp : Space} {s : Shape} {e : EltTy} (A : Memref sig .tc sp s e) : any (F := F) c A ⊢ anyOn (F := F) c A A.view.set := by
  unfold any has owns anyOn
  iintro ⟨%X, %f, -, H⟩
  iexists f
  iexact H
/-- And back. -/
theorem on_any {sp : Space} {s : Shape} {e : EltTy} (A : Memref sig .tc sp s e) : anyOn (F := F) c A A.view.set ⊢ any (F := F) c A := by
  unfold any has owns anyOn
  iintro ⟨%f, H⟩
  iexists (A.view.read (Elt F) f)
  iexists f
  isplitr
  · ipureintro; rfl
  iexact H

/-- A part of a buffer held with some contents, as cells of memory. -/
theorem part_on {sp : Space} {s s' : Shape} {e : EltTy} (A : Memref sig .tc sp s e) (r : Rect s) (hr : ∀ a, r.stride a = 1)
    (hs : r.shape.Squeezes s') : any (F := F) c ((A.slice r hr).squeeze s' hs) ⊢ anyOn (F := F) c A (A.view.slice r).set := by
  refine (any_on c _).trans ?_
  rw [show ((A.slice r hr).squeeze s' hs).view.set = (A.view.slice r).set from View.set_reshape (v := A.view.slice r) hs.numel_eq]
  exact Entails.of_eq rfl
/-- And back. -/
theorem on_part {sp : Space} {s s' : Shape} {e : EltTy} (A : Memref sig .tc sp s e) (r : Rect s) (hr : ∀ a, r.stride a = 1)
    (hs : r.shape.Squeezes s') : anyOn (F := F) c A (A.view.slice r).set ⊢ any (F := F) c ((A.slice r hr).squeeze s' hs) := by
  refine BIBase.Entails.trans ?_ (on_any c _)
  rw [show ((A.slice r hr).squeeze s' hs).view.set = (A.view.slice r).set from View.set_reshape (v := A.view.slice r) hs.numel_eq]
  exact Entails.of_eq rfl

/-- A buffer's cells are its pieces' cells together. -/
theorem slices_set {sp : Space} {s : Shape} {e : EltTy} {n : ℕ} {r : Fin n → Rect s} {a₀ : Fin s.rank} {k : ℕ} (h : Cuts r a₀ k)
    (A : Memref sig .tc sp s e) : A.view.set = (Finset.univ : Finset (Fin n)).biUnion fun t => (A.view.slice (r t)).set := by
  ext i; constructor
  · intro hi
    rw [View.set, Finset.mem_map] at hi
    obtain ⟨x, -, rfl⟩ := hi
    obtain ⟨t, -, hx⟩ := Finset.mem_biUnion.mp (h.cover.symm ▸ Finset.mem_univ x)
    exact Finset.mem_biUnion.mpr ⟨t, Finset.mem_univ _, by rw [View.set_slice]; exact Finset.mem_map_of_mem _ hx⟩
  · intro hi
    obtain ⟨t, -, hi⟩ := Finset.mem_biUnion.mp hi
    exact View.set_slice_subset _ _ hi
/-- The pieces' cells do not meet. -/
theorem slices_apart {sp : Space} {s : Shape} {e : EltTy} {n : ℕ} {r : Fin n → Rect s} {a₀ : Fin s.rank} {k : ℕ} (h : Cuts r a₀ k)
    (A : Memref sig .tc sp s e) : ∀ t ∈ (Finset.univ : Finset (Fin n)), ∀ t' ∈ (Finset.univ : Finset (Fin n)), t ≠ t' →
      Disjoint (A.view.slice (r t)).set (A.view.slice (r t')).set := fun t _ t' _ ht => by
  rw [View.set_slice, View.set_slice]; exact (Finset.disjoint_map _).mpr (h.apart t t' ht)

/-- A buffer taken apart. -/
theorem any_parts {sp : Space} {s : Shape} {e : EltTy} {n : ℕ} {r : Fin n → Rect s} {a₀ : Fin s.rank} {k : ℕ} (h : Cuts r a₀ k)
    (A : Memref sig .tc sp s e) : any (F := F) c A ⊢ bigSep Finset.univ fun t => anyOn (F := F) c A (A.view.slice (r t)).set := by
  refine (any_on c A).trans ?_
  unfold anyOn
  iintro ⟨%f, H⟩
  iapply (show (A.view.loc (c : Thread nD τ) ↦[A.view.set]{fullShare} f : sProp 𝕄)
      ⊢ bigSep Finset.univ fun t => iprop(∃ f : Buf (Elt F) (A.view.loc (c : Thread nD τ)), A.view.loc (c : Thread nD τ) ↦[(A.view.slice (r t)).set]{fullShare} f) from by
    rw [slices_set h A, pointsTo_biUnion _ _ (slices_apart h A)]
    exact bigSep_mono fun t _ => show (A.view.loc (c : Thread nD τ) ↦[(A.view.slice (r t)).set]{fullShare} f : sProp 𝕄)
        ⊢ iprop(∃ f : Buf (Elt F) (A.view.loc (c : Thread nD τ)), A.view.loc (c : Thread nD τ) ↦[(A.view.slice (r t)).set]{fullShare} f) from by
      iintro H
      iexists f
      iexact H) $$ H
/-- The parts put together. -/
theorem parts_any {sp : Space} {s : Shape} {e : EltTy} {n : ℕ} {r : Fin n → Rect s} {a₀ : Fin s.rank} {k : ℕ} (h : Cuts r a₀ k)
    (A : Memref sig .tc sp s e) (f₀ : Buf (Elt F) (A.view.loc (c : Thread nD τ))) :
    (bigSep Finset.univ fun t => anyOn (F := F) c A (A.view.slice (r t)).set) ⊢ any (F := F) c A := by
  refine BIBase.Entails.trans ?_ (on_any c A)
  unfold anyOn
  have : ∀ t : Fin n, Nonempty (Buf (Elt F) (A.view.loc (c : Thread nD τ))) := fun _ => ⟨f₀⟩
  refine (BI.bigSep_exists_pi Finset.univ (fun (t : Fin n) (f : Buf (Elt F) (A.view.loc (c : Thread nD τ))) =>
    (A.view.loc (c : Thread nD τ) ↦[(A.view.slice (r t)).set]{fullShare} f : sProp 𝕄))).trans ?_
  iintro ⟨%fs, H⟩
  icases (pointsTo_biUnion_join Finset.univ (fun t => (A.view.slice (r t)).set) fs f₀ (slices_apart h A)) $$ H with ⟨%g, -, H⟩
  iexists g
  rw [slices_set h A]
  iexact H

/-! ## The buffers of the kernel -/

/-- A product over three. -/
theorem split3 (Φ : Fin 3 → sProp 𝕄) : bigSep Finset.univ Φ = iprop(Φ 0 ∗ Φ 1 ∗ Φ 2) := bigSep_univ_eq_bigSepL [0, 1, 2] (by decide) (by decide) Φ
/-- A product over four. -/
theorem split4 (Φ : Fin 4 → sProp 𝕄) : bigSep Finset.univ Φ = iprop(Φ 0 ∗ Φ 1 ∗ Φ 2 ∗ Φ 3) := bigSep_univ_eq_bigSepL [0, 1, 2, 3] (by decide) (by decide) Φ
/-- A product over two. -/
theorem split2 (Φ : Fin 2 → sProp 𝕄) : bigSep Finset.univ Φ = iprop(Φ 0 ∗ Φ 1) := bigSep_univ_eq_bigSepL [0, 1] (by decide) (by decide) Φ

/-- A three-tile buffer and its tiles. -/
theorem tiles_split (A : Memref sig .tc .vmem S3x256x1024 .f32) :
    any (F := F) c A ⊢ iprop(any (F := F) c (tile A 0) ∗ any (F := F) c (tile A 1) ∗ any (F := F) c (tile A 2)) := by
  rw [← split3 (fun t => any (F := F) c (tile A t))]
  exact (any_parts c cuts_tile A).trans (bigSep_mono fun t _ => on_part c A (tileR t) _ _)
/-- The three tiles make the whole gather buffer. -/
theorem tiles_join (A : Memref sig .tc .vmem S3x256x1024 .f32) (f₀ : Buf (Elt F) (A.view.loc (c : Thread nD τ))) :
    iprop(any (F := F) c (tile A 0) ∗ any (F := F) c (tile A 1) ∗ any (F := F) c (tile A 2)) ⊢ any (F := F) c A := by
  rw [← split3 (fun t => any (F := F) c (tile A t))]
  exact (bigSep_mono fun t _ => part_on c A (tileR t) _ _).trans (parts_any c cuts_tile A f₀)
/-- A ring of four slots and its slots. -/
theorem slots_split (A : Memref sig .tc .vmem S4x2048x128 .f32) :
    any (F := F) c A ⊢ iprop(any (F := F) c (slot A 0) ∗ any (F := F) c (slot A 1) ∗ any (F := F) c (slot A 2) ∗ any (F := F) c (slot A 3)) := by
  rw [← split4 (fun t => any (F := F) c (slot A t))]
  exact (any_parts c cuts_slot A).trans (bigSep_mono fun t _ => on_part c A (slotR t) _ _)
/-- The four slots make the whole fetch buffer. -/
theorem slots_join (A : Memref sig .tc .vmem S4x2048x128 .f32) (f₀ : Buf (Elt F) (A.view.loc (c : Thread nD τ))) :
    iprop(any (F := F) c (slot A 0) ∗ any (F := F) c (slot A 1) ∗ any (F := F) c (slot A 2) ∗ any (F := F) c (slot A 3)) ⊢ any (F := F) c A := by
  rw [← split4 (fun t => any (F := F) c (slot A t))]
  exact (bigSep_mono fun t _ => part_on c A (slotR t) _ _).trans (parts_any c cuts_slot A f₀)
/-- A buffer of the last hop and its halves. -/
theorem halves_split (A : Memref sig .tc .vmem S256x1024 .bf16) :
    any (F := F) c A ⊢ iprop(any (F := F) c (half A 0) ∗ any (F := F) c (half A 1)) := by
  rw [← split2 (fun t => any (F := F) c (half A t))]
  exact (any_parts c cuts_half A).trans (bigSep_mono fun t _ => on_any c (half A t))
/-- The two halves make the whole block. -/
theorem halves_join (A : Memref sig .tc .vmem S256x1024 .bf16) (f₀ : Buf (Elt F) (A.view.loc (c : Thread nD τ))) :
    iprop(any (F := F) c (half A 0) ∗ any (F := F) c (half A 1)) ⊢ any (F := F) c A := by
  rw [← split2 (fun t => any (F := F) c (half A t))]
  exact (bigSep_mono fun t _ => any_on c (half A t)).trans (parts_any c cuts_half A f₀)

/-- A device's rows, kept and lent. -/
theorem rows_split (I : Dev nD → Ins F) : has c xB fullShare (I c).x ⊢ rowsHeld c I := by
  unfold rowsHeld
  iintro H
  icases (has_split c xB (I c).x) $$ H with ⟨H1, H2⟩
  isplitl [H2]; · iexact H2
  iapply (show has c xB lent (I c).x ⊢ iprop(has c (xHalf 0) lent (xRows I c 0) ∗ has c (xHalf 1) lent (xRows I c 1)) from by
    rw [← split2 (fun t => has c (xHalf t) lent (xRows I c t))]
    exact owns_rects (c : Thread nD τ) xB lent topR (fun _ _ => rfl) cuts_top.apart cuts_top.cover (I c).x) $$ H1
/-- The rows of `x`, lent and kept, make the whole of it. -/
theorem rows_join [∀ e, Nonempty (Elt F e)] (I : Dev nD → Ins F) : rowsHeld c I ⊢ has c xB fullShare (I c).x := by
  unfold rowsHeld
  iintro ⟨H, H01⟩
  iapply (has_join c xB (I c).x (I c).x)
  isplitr [H]
  · iapply (show iprop(has c (xHalf 0) lent (xRows I c 0) ∗ has c (xHalf 1) lent (xRows I c 1)) ⊢ has c xB lent (I c).x from by
      rw [← split2 (fun t => has c (xHalf t) lent (xRows I c t))]
      exact owns_of_rects (c : Thread nD τ) xB lent topR (fun _ _ => rfl) cuts_top.apart cuts_top.cover (I c).x) $$ H01
  iexact H

/-- One whole array, and its four shares. -/
theorem shares_split (A : Memref sig .tc .hbm S4x2048x32x128 .f32) (X : Vec F S4x2048x32x128 .f32) :
    has c A fullShare X ⊢ iprop(has c A (sh 0) X ∗ has c A (sh 1) X ∗ has c A (sh 2) X ∗ has c A (sh 3) X) := by
  iintro H
  icases (has_share c A X (PosShare.mem_left_op_right fullShare)) $$ H with ⟨HL, HR⟩
  icases (has_share c A X (PosShare.mem_left_op_right fullShare.left)) $$ HL with ⟨H0, H1⟩
  icases (has_share c A X (PosShare.mem_left_op_right fullShare.right)) $$ HR with ⟨H2, H3⟩
  isplitl [H0]; · iexact H0
  isplitl [H1]; · iexact H1
  isplitl [H2]; · iexact H2
  iexact H3
/-- The four slots' shares of an array make the whole of it. -/
theorem shares_join (A : Memref sig .tc .hbm S4x2048x32x128 .f32) (X : Vec F S4x2048x32x128 .f32) :
    iprop(has c A (sh 0) X ∗ has c A (sh 1) X ∗ has c A (sh 2) X ∗ has c A (sh 3) X) ⊢ has c A fullShare X := by
  iintro ⟨H0, H1, H2, H3⟩
  iapply (has_unshare c A X X (PosShare.mem_left_op_right fullShare))
  isplitl [H0 H1]
  · iapply (has_unshare c A X X (PosShare.mem_left_op_right fullShare.left))
    isplitl [H0]; · iexact H0
    iexact H1
  iapply (has_unshare c A X X (PosShare.mem_left_op_right fullShare.right))
  isplitl [H2]; · iexact H2
  iexact H3

end Cert.KernelIdeal.Ring
-- ==== Proof.KernelIdeal.Ghost.lean ====
/- What the devices' bodies start from: every cell's invariant set up with nothing counted, the rights to count dealt
   to the devices that count, and the credits of what the neighbours owe. -/
module

public import proofs.«01_k».proof.Proof.KernelIdeal.Buffers

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

/-- The assertions of this proof. -/
local notation "𝕄" => MT nD τ sig Unit (Elt F) ℕ UU ℕ

/-! ## The cells and the rights to count on them -/

/-- Different cells of a device are different semaphores. -/
theorem csem_injective : Function.Injective csem := by decide
/-- Different cells of the whole mesh are different semaphores. -/
theorem kcell_injective : Function.Injective (kcell : Dev nD × Cell → GSem nD τ sig) := by
  rintro ⟨c, k⟩ ⟨c', k'⟩ h
  have h1 : c = c' := congrArg (fun g : GSem nD τ sig => g.1.1) h
  have h2 : csem k = csem k' := congrArg Prod.snd h
  rw [h1, csem_injective h2]
def ringCells : Finset (GSem nD τ sig) := Finset.univ.map ⟨kcell, kcell_injective⟩

/-- A device's rights: two on each barrier, one on each cell of a transfer. -/
abbrev Right : Type := (Bool × Bool) ⊕ (Fin 13 × Bool)
def rightCell : Right → Cell × Bool
  | .inl (b, d) => (.inl b, d)
  | .inr tb => (.inr tb, false)
/-- A right is told by its cell and its duty. -/
theorem rightCell_injective : Function.Injective rightCell := by decide
def rightOf (cj : Dev nD × Right) : GSem nD τ sig × ℕ × Bool := (kcell (cj.1, (rightCell cj.2).1), 0, (rightCell cj.2).2)
/-- The same over all devices. -/
theorem rightOf_injective : Function.Injective rightOf := by
  rintro ⟨c, j⟩ ⟨c', j'⟩ h
  have h1 : (c, (rightCell j).1) = (c', (rightCell j').1) := kcell_injective (congrArg (fun x : GSem nD τ sig × ℕ × Bool => x.1) h)
  have h2 : (rightCell j).2 = (rightCell j').2 := congrArg (fun x : GSem nD τ sig × ℕ × Bool => x.2.2) h
  have h3 : c = c' := congrArg Prod.fst h1
  have h4 : j = j' := rightCell_injective (Prod.ext (congrArg Prod.snd h1) h2)
  rw [h3, h4]
def ringRights : Finset (GSem nD τ sig × ℕ × Bool) := Finset.univ.map ⟨rightOf, rightOf_injective⟩

/-- The ghost state the run starts with. -/
def u₀ : UU :=
  (initOf (Pipeline.cells cfgs cellOf_inj) (Pipeline.launchToks cfgs cellOf_inj), (initOf ringCells ringRights, 1))

/-- The kernel's own semaphores: the exit barrier, the transfers' and the fetches'. -/
abbrev Own : Type := Unit ⊕ ((Fin 13 × Bool) ⊕ (Fin 4 × Fin 2))
def osem : Own → SemLoc sig
  | .inl _ => .reg bar1
  | .inr (.inl (t, b)) => .dma (sX t b)
  | .inr (.inr (s, w)) => .dma (kvSem s w)
/-- The kernel's own semaphores are listed once each, and are those that the launch declares. -/
theorem ownSemFacts : Pipeline.OwnSemFacts cfg0.spec osem := by decide

variable (I : Dev nD → Ins F)

/-- The rights on device `c`'s own cells. -/
def rights (c : Dev nD) : sProp 𝕄 := bigSep Finset.univ fun j : Right => dutyTok ER (rightOf (c, j)).1 (rightOf (c, j)).2.1 (rightOf (c, j)).2.2
/-- The fetches' semaphores at rest. -/
def kvZero (c : Dev nD) : sProp 𝕄 := bigSep Finset.univ fun sw : Fin 4 × Fin 2 => semVal (kvCell c sw.1 sw.2) 0

/-- What the starting ghost state gives device `c`. -/
def dealt (c : Dev nD) : sProp 𝕄 :=
  iprop((bigSep Finset.univ fun k : Cell => roundState ER (Rd I) (kcell (c, k)) 0)
    ∗ (bigSep Finset.univ fun k : Cell => iprop(atPos ER (kcell (c, k)) 0 ∅ 0 ∗ reached ER (kcell (c, k)) 0)) ∗ rights (F := F) c)

/-- The starting ghost state of the ring is dealt out to the devices. -/
theorem fund_ring : BI.own (ER (initOf ringCells ringRights)) ⊢ (|==> bigSep Finset.univ (dealt I) : sProp 𝕄) := by
  have hX (Φ : GSem nD τ sig → sProp 𝕄) : bigSep ringCells Φ = bigSep Finset.univ fun c : Dev nD => bigSep Finset.univ fun k : Cell => Φ (kcell (c, k)) := by
    unfold ringCells; rw [bigSep_map, bigSep_univ_prod]; rfl
  have hT : bigSep ringRights (fun x => (dutyTok ER x.1 x.2.1 x.2.2 : sProp 𝕄)) = bigSep Finset.univ fun c : Dev nD => rights c := by
    unfold ringRights; rw [bigSep_map, bigSep_univ_prod]; rfl
  iintro HX
  imod (Rounds.fund ER (Rd I) ringCells ringRights) $$ HX with ⟨Hst, Hr, Hat, Htok⟩
  imodintro
  ihave Hst' := (Entails.of_eq (hX fun g => roundState ER (Rd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

/-! ## The cells set up -/

/-- A product over two truth values. -/
theorem splitBool (Φ : Bool → sProp 𝕄) : bigSep Finset.univ Φ = iprop(Φ false ∗ Φ true) := bigSep_univ_eq_bigSepL [false, true] (by decide) (by decide) Φ

/-- Over a choice of two kinds, what there is of each. -/
theorem splitSum {A B : Type} [Fintype A] [Fintype B] (Φ : A ⊕ B → sProp 𝕄) :
    bigSep Finset.univ Φ = iprop((bigSep Finset.univ fun a => Φ (.inl a)) ∗ (bigSep Finset.univ fun b => Φ (.inr b))) := bigSep_univ_sum Φ

/-- The kernel's own semaphores at zero, sorted: the exit barrier, the transfers', the fetches'. -/
theorem ownSems0_eq (c : Dev nD) : (Pipeline.ownSems0 (Ix := Unit) (Name := ℕ) (U := UU) (Lvl := ℕ) (Val := Elt F) (τ := τ) osem c : sProp 𝕄)
    = iprop(semVal (endCell c) 0 ∗ (bigSep Finset.univ fun tb : Fin 13 × Bool => semVal ((c : Thread nD τ), SemLoc.dma (sX tb.1 tb.2)) 0) ∗ kvZero (F := F) c) := by
  unfold Pipeline.ownSems0
  rw [splitSum, splitSum]
  unfold kvZero
  rw [show (Finset.univ : Finset Unit) = {()} from rfl, bigSep_singleton]
  rfl
/-- The one semaphore that outlives the kernel is the entry barrier. -/
theorem unscopedSems0_eq (c : Dev nD) : (unscopedSems0 c : sProp 𝕄) = semVal (barCell c) 0 := by
  unfold unscopedSems0; rw [bigSep_eq_bigSepL_of_eq [SemLoc.reg bar0] (by decide) (by decide)]; rfl

/-- All of a device's cells at zero, and the fetches' semaphores. -/
theorem sems0 (c : Dev nD) :
    iprop(Pipeline.ownSems0 (Ix := Unit) (Name := ℕ) (U := UU) (Lvl := ℕ) (Val := Elt F) (τ := τ) osem c ∗ unscopedSems0 c)
      ⊢ iprop((bigSep Finset.univ fun k : Cell => semVal (kcell (c, k)) 0) ∗ kvZero (F := F) c) := by
  rw [ownSems0_eq, unscopedSems0_eq, splitSum, splitBool]
  iintro ⟨⟨HE, HX, HK⟩, HB⟩
  isplitr [HK]
  · isplitl [HB HE]
    · isplitl [HB]
      · iexact HB
      iexact HE
    iexact HX
  iexact HK

/-- One device's cells get their invariants. -/
theorem core_alloc (c : Dev nD) :
    iprop(Pipeline.ownSems0 (Ix := Unit) (Name := ℕ) (U := UU) (Lvl := ℕ) (Val := Elt F) (τ := τ) osem c ∗ unscopedSems0 c ∗ dealt I c)
      ⊢ |={Set.univ}=> iprop((bigSep Finset.univ fun k => iprop(∃ κ : ℕ, cellInv ER (Rd I) κ (kcell (c, k))))
          ∗ (bigSep Finset.univ fun k => iprop(atPos ER (kcell (c, k)) 0 ∅ 0 ∗ reached ER (kcell (c, k)) 0)) ∗ rights (F := F) c ∗ kvZero (F := F) c) := by
  unfold dealt
  iintro ⟨Hos, Hus, Hst, Hat, Htok⟩
  ihave Hv := (sems0 (F := F) c) $$ [Hos Hus]
  · isplitl [Hos] <;> iassumption
  icases Hv with ⟨Hv, HK⟩
  imod (show iprop((bigSep Finset.univ fun k : Cell => semVal (kcell (c, k)) 0) ∗ bigSep Finset.univ fun k : Cell => roundState ER (Rd I) (kcell (c, k)) 0)
      ⊢ (|={Set.univ}=> bigSep Finset.univ fun k => iprop(∃ κ : ℕ, cellInv ER (Rd I) κ (kcell (c, k))) : sProp 𝕄) from by
        rw [← bigSep_sep']
        exact BIBase.Entails.trans (bigSep_mono fun k _ => BIBase.Entails.trans (Rounds.body_intro ER (Rd I) (kcell (c, k))) inv_alloc) (bigSep_fupd _ _)) $$ [Hv Hst] with Hinv
  · isplitl [Hv] <;> iassumption
  imodintro
  isplitl [Hinv]; · iexact Hinv
  isplitl [Hat]; · iexact Hat
  isplitl [Htok]; · iexact Htok
  iexact HK

/-! ## The rights dealt around the ring -/

/-- The rights device `c` counts with. -/
def mine (c : Dev nD) : sProp 𝕄 :=
  iprop((dutyTok ER (barCell (lf c)) 0 false ∗ dutyTok ER (barCell (rt c)) 0 true)
    ∗ (dutyTok ER (endCell (lf c)) 0 false ∗ dutyTok ER (endCell (rt c)) 0 true)
    ∗ (bigSep Finset.univ fun t : Fin 13 => iprop(dutyTok ER (sendCell t c) 0 false ∗ dutyTok ER (recvCell t (peer t c)) 0 false)))

/-- Where each transfer goes, as a rearrangement of the devices. -/
def peers (t : Fin 13) : Dev nD ≃ Dev nD := ⟨peer t, from' t, from_peer t, peer_from t⟩

/-- A device's rights, sorted by barrier and transfer. -/
theorem rights_eq (c : Dev nD) : (rights c : sProp 𝕄) =
    iprop((dutyTok ER (barCell c) 0 false ∗ dutyTok ER (barCell c) 0 true) ∗ (dutyTok ER (endCell c) 0 false ∗ dutyTok ER (endCell c) 0 true)
      ∗ (bigSep Finset.univ fun t : Fin 13 => iprop(dutyTok ER (sendCell t c) 0 false ∗ dutyTok ER (recvCell t c) 0 false))) := by
  unfold rights
  rw [splitSum, bigSep_univ_prod, bigSep_univ_prod, splitBool]
  rw [bigSep_congr (s := Finset.univ) fun (t : Fin 13) _ => splitBool (F := F) fun b => dutyTok ER (rightOf (c, Sum.inr (t, b))).1 (rightOf (c, Sum.inr (t, b))).2.1 (rightOf (c, Sum.inr (t, b))).2.2]
  rw [splitBool]
  rw [show (bigSep Finset.univ fun b : Bool => dutyTok ER (rightOf (c, Sum.inl (true, b))).1 (rightOf (c, Sum.inl (true, b))).2.1 (rightOf (c, Sum.inl (true, b))).2.2 : sProp 𝕄) = _ from splitBool _]
  exact equiv_iff.mp ⟨BI.sep_assoc, BI.sep_assoc'⟩

/-- The same on pairs of a device and a transfer. -/
def peerEquiv : Dev nD × Fin 13 ≃ Dev nD × Fin 13 :=
  ⟨fun ct => (peer ct.2 ct.1, ct.2), fun ct => (from' ct.2 ct.1, ct.2), fun ct => Prod.ext (from_peer ct.2 ct.1) rfl, fun ct => Prod.ext (peer_from ct.2 ct.1) rfl⟩

/-- The rights on the receive cells, dealt to the devices that send to them. -/
theorem recv_around : (bigSep Finset.univ fun c : Dev nD => bigSep Finset.univ fun t : Fin 13 => (dutyTok ER (recvCell t c) 0 false : sProp 𝕄))
    = bigSep Finset.univ fun c : Dev nD => bigSep Finset.univ fun t : Fin 13 => dutyTok ER (recvCell t (peer t c)) 0 false := by
  rw [← bigSep_univ_prod (fun ct : Dev nD × Fin 13 => (dutyTok ER (recvCell ct.2 ct.1) 0 false : sProp 𝕄)),
    bigSep_univ_equiv peerEquiv, bigSep_univ_prod]
  rfl

/-- All rights, dealt to the devices that use them. -/
theorem rights_around : (bigSep Finset.univ fun c : Dev nD => (rights c : sProp 𝕄)) ⊢ bigSep Finset.univ fun c : Dev nD => mine c := by
  rw [bigSep_congr (s := Finset.univ) fun (c : Dev nD) _ => rights_eq (F := F) c]
  unfold mine
  simp only [bigSep_sep']
  rw [recv_around, bigSep_univ_equiv ring.symm (fun c : Dev nD => (dutyTok ER (barCell c) 0 false : sProp 𝕄)),
    bigSep_univ_equiv ring (fun c : Dev nD => (dutyTok ER (barCell c) 0 true : sProp 𝕄)),
    bigSep_univ_equiv ring.symm (fun c : Dev nD => (dutyTok ER (endCell c) 0 false : sProp 𝕄)),
    bigSep_univ_equiv ring (fun c : Dev nD => (dutyTok ER (endCell c) 0 true : sProp 𝕄))]
  exact Entails.of_eq rfl

/-! ## What every device has after the set-up -/

/-- The cells' invariants under the names `K`, and that their round has begun. -/
def records (K : Dev nD × Cell → ℕ) : sProp 𝕄 :=
  iprop((bigSep Finset.univ fun ck : Dev nD × Cell => cellInv ER (Rd I) (K ck) (kcell ck))
    ∗ bigSep Finset.univ fun ck : Dev nD × Cell => reached ER (kcell ck) 0)
instance records_persistent (K : Dev nD × Cell → ℕ) : BI.Persistent (records I K) := by unfold records; infer_instance

/-- Device `c`'s places on its cells, its rights, and its fetches' semaphores. -/
def linear (c : Dev nD) : sProp 𝕄 :=
  iprop((bigSep Finset.univ fun k : Cell => atPos ER (kcell (c, k)) 0 ∅ 0) ∗ mine (F := F) c ∗ kvZero (F := F) c)

/-- What the set-up gives device `c`. -/
def begun (c : Dev nD) : sProp 𝕄 := iprop((∃ K, records I K) ∗ linear (F := F) c)

/-- A known fact may be used for every member of a product. -/
theorem with_persistent {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  BIBase.Entails.trans (sep_mono_left (BI.bigSep_of_persistent S R)) (by rw [← bigSep_sep']; exact bigSep_mono h)

/-- Each device learns every cell's invariant, and gets its own rights. -/
theorem regroup :
    (bigSep Finset.univ fun c : Dev nD => iprop((bigSep Finset.univ fun k => iprop(∃ κ : ℕ, cellInv ER (Rd I) κ (kcell (c, k))))
          ∗ (bigSep Finset.univ fun k => iprop(atPos ER (kcell (c, k)) 0 ∅ 0 ∗ reached ER (kcell (c, k)) 0)) ∗ rights (F := F) c ∗ kvZero (F := F) c) : sProp 𝕄)
      ⊢ bigSep Finset.univ (begun I) := by
  rw [bigSep_sep', bigSep_sep', bigSep_sep', ← bigSep_univ_prod (fun ck : Dev nD × Cell => iprop(∃ κ : ℕ, cellInv ER (Rd I) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄))]
  iintro ⟨HI, ⟨Hat, #HR⟩, Htok, HK⟩
  ihave HN := (BI.bigSep_exists_pi Finset.univ (fun (ck : Dev nD × Cell) (κ : ℕ) => (cellInv ER (Rd I) κ (kcell ck) : sProp 𝕄))) $$ HI
  icases HN with ⟨%K, #HI⟩
  ihave Htk := (rights_around (F := F)) $$ Htok
  iapply (with_persistent (R := records I K) (Φ := linear (F := F)) fun c _ => show iprop(records I K ∗ linear (F := F) c) ⊢ begun I c from by
    unfold begun
    iintro ⟨H1, H2⟩
    isplitl [H1]
    · iexists K; iexact H1
    iexact H2)
  isplitr
  · unfold records; isplitl; · iexact HI
    iexact HR
  · unfold linear
    rw [bigSep_sep', bigSep_sep']
    isplitl [Hat]; · iexact Hat
    isplitl [Htk]; · iexact Htk
    iexact HK

/-- The set-up, on all devices at once. -/
theorem glob : (bigSep Finset.univ fun c => iprop(Pipeline.ownSems0 (Ix := Unit) (Name := ℕ) (U := UU) (Lvl := ℕ) (Val := Elt F) (τ := τ) osem c ∗ unscopedSems0 c ∗ dealt I c) : sProp 𝕄)
    ⊢ |={Set.univ}=> bigSep Finset.univ (begun I) :=
  BIBase.Entails.trans (BIBase.Entails.trans (bigSep_mono fun c _ => core_alloc I c) (bigSep_fupd _ _)) (BI.fupd_mono (regroup I))

/-! ## The credits -/

/-- The payments of every device alike: on which semaphore, to whom, how much. -/
def plan : List (SemLoc sig × (Dev nD ≃ Dev nD) × ℕ) :=
  [(.reg bar0, ring.symm, 1), (.reg bar0, ring, 1)] ++ (List.finRange 13).map (fun t => (SemLoc.dma (sR t), peers t, N t))
    ++ [(.reg bar1, ring.symm, 1), (.reg bar1, ring, 1)]

/-- A device's payments follow the plan. -/
theorem pays_plan (c : Dev nD) : pays c = plan.map fun p => (((p.2.1 c : Thread nD τ), p.1), p.2.2) := by
  unfold pays plan
  rw [List.map_append, List.map_append, List.map_map]
  rfl

/-- The credits of a list of payments. -/
def creds (c : Dev nD) : List (SemLoc sig × (Dev nD ≃ Dev nD) × ℕ) → sProp 𝕄
  | [] => iprop(emp)
  | p :: l => iprop(cred (tallyAt ((c : Thread nD τ), p.1) () p.2.2) ∗ creds c l)

/-- The credits of a list of payments that every device makes alike. -/
theorem creds_intro (c : Dev nD) (l : List (SemLoc sig × (Dev nD ≃ Dev nD) × ℕ)) :
    (Pipeline.launchCred (fun d => debt (l.map fun p => (((p.2.1 d : Thread nD τ), p.1), p.2.2))) c : sProp 𝕄) ⊢ creds c l := by
  induction l with
  | nil => unfold creds; iintro -; iempintro
  | cons p l ih =>
    unfold creds
    refine BIBase.Entails.trans (Entails.of_eq (Pipeline.launchCred_add (fun d => debt (l.map fun p => (((p.2.1 d : Thread nD τ), p.1), p.2.2)))
      (fun d => tallyAt ((p.2.1 d : Thread nD τ), p.1) () p.2.2) c)) ?_
    iintro ⟨H1, H2⟩
    isplitl [H2]
    · iapply (Pipeline.launchCred_tallyAt p.1 p.2.1 p.2.1.symm p.2.1.apply_symm_apply p.2.1.symm_apply_apply () p.2.2 c)
      iexact H2
    · iapply ih
      iexact H1

/-- What device `c` owes at the start. -/
def O₀ (c : Dev nD) : CellTallies nD τ sig Unit := debt (pays c)

/-- The debts at the start follow the plan. -/
theorem O₀_plan : O₀ = fun d => debt (plan.map fun p => (((p.2.1 d : Thread nD τ), p.1), p.2.2)) := funext fun d => by
  unfold O₀; rw [pays_plan]

/-- Two credits of one unit are one credit of two. -/
theorem two (g : GSem nD τ sig) : iprop(cred (tallyAt g () 1) ∗ cred (tallyAt g () 1)) ⊢ (cred (tallyAt g () 2) : sProp 𝕄) :=
  BIBase.Entails.trans (cred_add _ _).2 (Entails.of_eq (by rw [tallyAt_add]))

/-- A product over the thirteen transfers. -/
theorem split13 (Φ : Fin 13 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ

/-- A device's credits: two units on each barrier, and each transfer's on its receive cell. -/
theorem credits (c : Dev nD) : (Pipeline.launchCred O₀ c : sProp 𝕄) ⊢
    iprop(cred (tallyAt (barCell c) () 2) ∗ (bigSep Finset.univ fun t : Fin 13 => cred (tallyAt (recvCell t c) () (N t))) ∗ cred (tallyAt (endCell c) () 2)) := by
  rw [O₀_plan, split13]
  refine BIBase.Entails.trans (creds_intro c plan) ?_
  iintro H
  ihave H' := (show (creds (F := F) c plan : sProp 𝕄) ⊢ iprop(cred (tallyAt (barCell c) () 1) ∗ cred (tallyAt (barCell c) () 1)
    ∗ cred (tallyAt (recvCell 0 c) () (N 0)) ∗ cred (tallyAt (recvCell 1 c) () (N 1)) ∗ cred (tallyAt (recvCell 2 c) () (N 2))
    ∗ cred (tallyAt (recvCell 3 c) () (N 3)) ∗ cred (tallyAt (recvCell 4 c) () (N 4)) ∗ cred (tallyAt (recvCell 5 c) () (N 5))
    ∗ cred (tallyAt (recvCell 6 c) () (N 6)) ∗ cred (tallyAt (recvCell 7 c) () (N 7)) ∗ cred (tallyAt (recvCell 8 c) () (N 8))
    ∗ cred (tallyAt (recvCell 9 c) () (N 9)) ∗ cred (tallyAt (recvCell 10 c) () (N 10)) ∗ cred (tallyAt (recvCell 11 c) () (N 11))
    ∗ cred (tallyAt (recvCell 12 c) () (N 12)) ∗ cred (tallyAt (endCell c) () 1) ∗ cred (tallyAt (endCell c) () 1) ∗ emp) from Entails.of_eq rfl) $$ H
  icases H' with ⟨B1, B2, H0, H1, H2, H3, H4, H5, H6, H7, H8, H9, H10, H11, H12, E1, E2, -⟩
  isplitl [B1 B2]
  · iapply (two (F := F) (barCell c))
    isplitl [B1] <;> iassumption
  isplitr [E1 E2]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · iapply (two (F := F) (endCell c))
    isplitl [E1] <;> iassumption

/-! ## The body's ghost state -/

/-- Device `c`'s rights, places and credits, as its body uses them. -/
def turns (c : Dev nD) : sProp 𝕄 := iprop(toEnter (F := F) c ∗ toLeave (F := F) c ∗ sends (F := F) c ∗ recvs (F := F) c)

/-- The sends' ghost state as a product over the transfers. -/
theorem sends_eq (c : Dev nD) : (sends c : sProp 𝕄) = bigSep Finset.univ fun t : Fin 13 => toSend (F := F) c t := by rw [split13]; rfl
/-- The receives' ghost state as a product over the transfers. -/
theorem recvs_eq (c : Dev nD) : (recvs c : sProp 𝕄) = bigSep Finset.univ fun t : Fin 13 => toRecv (F := F) c t := by rw [split13]; rfl

/-- What the set-up gives a device is what its body starts from. -/
theorem begun_turns (c : Dev nD) :
    iprop(levAts L lv ∗ Pipeline.launchCred O₀ c ∗ begun I c) ⊢ iprop(known I ∗ turns (F := F) c ∗ kvZero (F := F) c) := by
  unfold begun linear mine
  iintro ⟨Hl, Hc, ⟨%K, HR⟩, Hat, ⟨⟨Hb1, Hb2⟩, ⟨He1, He2⟩, Hx⟩, HK⟩
  ihave Hc' := (credits (F := F) c) $$ Hc
  icases Hc' with ⟨HcB, HcX, HcE⟩
  ihave Hat' := (show (bigSep Finset.univ fun k : Cell => (atPos ER (kcell (c, k)) 0 ∅ 0 : sProp 𝕄)) ⊢
      iprop((atPos ER (barCell c) 0 ∅ 0 ∗ atPos ER (endCell c) 0 ∅ 0)
        ∗ (bigSep Finset.univ fun t : Fin 13 => atPos ER (sendCell t c) 0 ∅ 0) ∗ (bigSep Finset.univ fun t : Fin 13 => atPos ER (recvCell t c) 0 ∅ 0)) from by
    rw [splitSum, splitBool, bigSep_univ_prod,
      bigSep_congr (s := Finset.univ) fun (t : Fin 13) _ => splitBool (F := F) fun b => atPos ER (kcell (c, Sum.inr (t, b))) 0 ∅ 0, bigSep_sep']
    exact Entails.of_eq rfl) $$ Hat
  icases Hat' with ⟨⟨HaB, HaE⟩, HaS, HaR⟩
  isplitl [Hl HR]
  · unfold known records
    icases HR with ⟨H1, H2⟩
    isplitl [H1]
    · iexists K; iexact H1
    isplitl [H2]
    · iexact H2
    iexact Hl
  isplitr [HK]
  · unfold turns toEnter toLeave
    isplitl [Hb1 Hb2 HaB HcB]
    · isplitl [Hb1]; · iexact Hb1
      isplitl [Hb2]; · iexact Hb2
      isplitl [HaB]; · iexact HaB
      iexact HcB
    isplitl [He1 He2 HaE HcE]
    · isplitl [He1]; · iexact He1
      isplitl [He2]; · iexact He2
      isplitl [HaE]; · iexact HaE
      iexact HcE
    rw [sends_eq, recvs_eq]
    unfold toSend toRecv
    isplitl [Hx HaS]
    · simp only [bigSep_sep']
      icases Hx with ⟨Hx1, Hx2⟩
      isplitl [Hx1]; · iexact Hx1
      isplitl [Hx2]; · iexact Hx2
      iexact HaS
    · simp only [bigSep_sep']
      isplitl [HaR]; · iexact HaR
      iexact HcX
  iexact HK

/-- The semaphores at rest, put back together. -/
theorem at_rest (c : Dev nD) :
    iprop(semVal (barCell c) 0 ∗ semVal (endCell c) 0 ∗ sendsZero (F := F) c ∗ recvsZero (F := F) c ∗ kvZero (F := F) c)
      ⊢ iprop(unscopedSems0 c ∗ Pipeline.ownSems0 (Ix := Unit) (Name := ℕ) (U := UU) (Lvl := ℕ) (Val := Elt F) (τ := τ) osem c) := by
  rw [ownSems0_eq, unscopedSems0_eq, bigSep_univ_prod,
    bigSep_congr (s := Finset.univ) fun (t : Fin 13) _ => splitBool (F := F) fun b => semVal ((c : Thread nD τ), SemLoc.dma (sX (t, b).1 (t, b).2)) 0, bigSep_sep',
    split13, split13]
  unfold sendsZero recvsZero
  iintro ⟨HB, HE, HS, HR, HK⟩
  isplitl [HB]; · iexact HB
  isplitl [HE]; · iexact HE
  isplitr [HK]
  · isplitl [HS]
    · iexact HS
    · iexact HR
  iexact HK

end Cert.KernelIdeal.Ring
-- ==== Proof.KernelIdeal.Launch.lean ====
/- The launch: the devices' bodies started from any memory, and what the memory holds when all have ended. -/
module

public import proofs.«01_k».proof.Proof.KernelIdeal.Ghost

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation)
open Cert.KernelIdeal Cert.KernelIdeal.Gen

variable {F : FTy → Type} [FloatOps F]

/-- The assertions of this proof. -/
local notation "𝕄" => MT nD τ sig Unit (Elt F) ℕ UU ℕ

/-! ## The scratch buffers -/

/-- A whole buffer with some contents. -/
theorem any_whole (c : Dev nD) (b : Ref sig .tc) :
    any (F := F) c (Memref.whole b) = iprop(∃ f : Buf (Elt F) ((c : Thread nD τ).loc b), ((c : Thread nD τ).loc b) ↦{fullShare} f) := by
  unfold any has
  simp only [owns_whole]

/-- A whole buffer's contents. -/
theorem any_witness (c : Dev nD) (b : Ref sig .tc) : any (F := F) c (Memref.whole b) ⊢
    iprop(⌜Nonempty (Buf (Elt F) ((c : Thread nD τ).loc b))⌝ ∗ any (F := F) c (Memref.whole b)) := by
  rw [any_whole]
  iintro ⟨%f, H⟩
  isplitr
  · ipureintro; exact ⟨f⟩
  iexists f; iexact H

/-- The thirteen scratch buffers with some contents. -/
def rest (c : Dev nD) : sProp 𝕄 :=
  iprop(any (F := F) c xgaB ∗ any (F := F) c xgbB ∗ any (F := F) c pownB ∗ any (F := F) c accB ∗ any (F := F) c oB ∗ any (F := F) c rsaSB
    ∗ any (F := F) c rsbSB ∗ any (F := F) c rsaRB ∗ any (F := F) c rsbRB ∗ any (F := F) c fbSB ∗ any (F := F) c fbRB ∗ any (F := F) c kB ∗ any (F := F) c vB)

/-- The scratch buffers of the launch, listed. -/
theorem rest_eq (c : Dev nD) : (Pipeline.scopedRest (Ix := Unit) (Name := ℕ) (U := UU) (Lvl := ℕ) (Val := Elt F) spec0 c : sProp 𝕄) = rest c := by
  rw [scopedRest0_eq]
  show _ = iprop(any (F := F) c (Memref.whole cc0_scratch0) ∗ any (F := F) c (Memref.whole cc0_scratch1) ∗ any (F := F) c (Memref.whole cc0_scratch2) ∗ any (F := F) c (Memref.whole cc0_scratch3) ∗ any (F := F) c (Memref.whole cc0_scratch4) ∗ any (F := F) c (Memref.whole cc0_scratch5) ∗ any (F := F) c (Memref.whole cc0_scratch6) ∗ any (F := F) c (Memref.whole cc0_scratch7) ∗ any (F := F) c (Memref.whole cc0_scratch8) ∗ any (F := F) c (Memref.whole cc0_scratch9) ∗ any (F := F) c (Memref.whole cc0_scratch10) ∗ any (F := F) c (Memref.whole cc0_scratch11) ∗ any (F := F) c (Memref.whole cc0_scratch12))
  simp only [show ∀ b : Ref sig .tc, any (F := F) c (Memref.whole b) = _ from any_whole c]

variable (I : Dev nD → Ins F)

/-- What the body finds in the scratch buffers and in the whole arrays, and what it leaves. -/
def store (c : Dev nD) : sProp 𝕄 :=
  iprop(idle c I ∗ scratch (F := F) c ∗ any (F := F) c oB ∗ any (F := F) c accB ∗ any (F := F) c (tile rsbRB 2))

/-- The body's store is made of the arrays, the scratch buffers and the fetches' semaphores. -/
theorem store_intro (c : Dev nD) :
    iprop(has c kH fullShare (I c).k ∗ has c vH fullShare (I c).v ∗ kvZero (F := F) c ∗ rest (F := F) c) ⊢ store I c := by
  unfold rest kvZero
  rw [bigSep_univ_prod, split4, split2, split2, split2, split2]
  iintro ⟨HK, HV, ⟨⟨Z00, Z01⟩, ⟨Z10, Z11⟩, ⟨Z20, Z21⟩, ⟨Z30, Z31⟩⟩, Hga, Hgb, Hp, Ha, Ho, HsA, HsB, HrA, HrB, HfS, HfR, Hk, Hv⟩
  icases (shares_split c kH (I c).k) $$ HK with ⟨K0, K1, K2, K3⟩
  icases (shares_split c vH (I c).v) $$ HV with ⟨V0, V1, V2, V3⟩
  icases (slots_split c kB) $$ Hk with ⟨k0, k1, k2, k3⟩
  icases (slots_split c vB) $$ Hv with ⟨v0, v1, v2, v3⟩
  icases (tiles_split c xgaB) $$ Hga with ⟨ga0, ga1, ga2⟩
  icases (tiles_split c xgbB) $$ Hgb with ⟨gb0, gb1, gb2⟩
  icases (tiles_split c rsaRB) $$ HrA with ⟨ra0, ra1, ra2⟩
  icases (tiles_split c rsbRB) $$ HrB with ⟨rb0, rb1, rb2⟩
  icases (halves_split c fbSB) $$ HfS with ⟨fs0, fs1⟩
  icases (halves_split c fbRB) $$ HfR with ⟨fr0, fr1⟩
  unfold store idle kvFree slotFree scratch landR landL landing
  isplitl [Z00 Z01 Z10 Z11 Z20 Z21 Z30 Z31 K0 K1 K2 K3 V0 V1 V2 V3 k0 k1 k2 k3 v0 v1 v2 v3]
  · isplitl [Z00 Z01 K0 V0 k0 v0]
    · isplitl [Z00 K0 k0]
      · isplitl [k0]; · iexact k0
        isplitl [Z00]; · iexact Z00
        iexact K0
      isplitl [v0]; · iexact v0
      isplitl [Z01]; · iexact Z01
      iexact V0
    isplitl [Z10 Z11 K1 V1 k1 v1]
    · isplitl [Z10 K1 k1]
      · isplitl [k1]; · iexact k1
        isplitl [Z10]; · iexact Z10
        iexact K1
      isplitl [v1]; · iexact v1
      isplitl [Z11]; · iexact Z11
      iexact V1
    isplitl [Z20 Z21 K2 V2 k2 v2]
    · isplitl [Z20 K2 k2]
      · isplitl [k2]; · iexact k2
        isplitl [Z20]; · iexact Z20
        iexact K2
      isplitl [v2]; · iexact v2
      isplitl [Z21]; · iexact Z21
      iexact V2
    isplitl [Z30 K3 k3]
    · isplitl [k3]; · iexact k3
      isplitl [Z30]; · iexact Z30
      iexact K3
    isplitl [v3]; · iexact v3
    isplitl [Z31]; · iexact Z31
    iexact V3
  isplitl [Hp HsA HsB fs0 fs1 ga0 ga1 ra0 ga2 ra1 ra2 gb0 gb1 rb0 gb2 rb1 fr0 fr1]
  · isplitl [Hp HsA HsB fs0 fs1]
    · isplitl [Hp]; · iexact Hp
      isplitl [HsA]; · iexact HsA
      isplitl [HsB]; · iexact HsB
      isplitl [fs0]; · iexact fs0
      iexact fs1
    isplitl [ga0 ga1 ra0 ga2 ra1 ra2]
    · isplitl [ga0]; · iexact ga0
      isplitl [ga1]; · iexact ga1
      isplitl [ra0]; · iexact ra0
      isplitl [ga2]; · iexact ga2
      isplitl [ra1]; · iexact ra1
      iexact ra2
    isplitl [gb0]; · iexact gb0
    isplitl [gb1]; · iexact gb1
    isplitl [rb0]; · iexact rb0
    isplitl [gb2]; · iexact gb2
    isplitl [rb1]; · iexact rb1
    isplitl [fr0]; · iexact fr0
    iexact fr1
  isplitl [Ho]; · iexact Ho
  isplitl [Ha]; · iexact Ha
  iexact rb2

/-- Some contents of a buffer. -/
theorem buf_nonempty [∀ e, Nonempty (Elt F e)] {ℓ : Loc nD τ sig} : Nonempty (Buf (Elt F) ℓ) := ⟨fun _ => Classical.arbitrary _⟩

/-- And it is taken apart again at the end. -/
theorem store_elim [∀ e, Nonempty (Elt F e)] (c : Dev nD) :
    store I c ⊢ iprop(has c kH fullShare (I c).k ∗ has c vH fullShare (I c).v ∗ kvZero (F := F) c ∗ rest (F := F) c) := by
  unfold rest kvZero
  rw [bigSep_univ_prod, split4, split2, split2, split2, split2]
  unfold store idle kvFree slotFree scratch landR landL landing
  iintro ⟨⟨⟨⟨k0, Z00, K0⟩, v0, Z01, V0⟩, ⟨⟨k1, Z10, K1⟩, v1, Z11, V1⟩, ⟨⟨k2, Z20, K2⟩, v2, Z21, V2⟩, ⟨k3, Z30, K3⟩, v3, Z31, V3⟩,
    ⟨⟨Hp, HsA, HsB, fs0, fs1⟩, ⟨ga0, ga1, ra0, ga2, ra1, ra2⟩, gb0, gb1, rb0, gb2, rb1, fr0, fr1⟩, Ho, Ha, rb2⟩
  isplitl [K0 K1 K2 K3]
  · iapply (shares_join c kH (I c).k)
    isplitl [K0]; · iexact K0
    isplitl [K1]; · iexact K1
    isplitl [K2]; · iexact K2
    iexact K3
  isplitl [V0 V1 V2 V3]
  · iapply (shares_join c vH (I c).v)
    isplitl [V0]; · iexact V0
    isplitl [V1]; · iexact V1
    isplitl [V2]; · iexact V2
    iexact V3
  isplitl [Z00 Z01 Z10 Z11 Z20 Z21 Z30 Z31]
  · isplitl [Z00 Z01]
    · isplitl [Z00]; · iexact Z00
      iexact Z01
    isplitl [Z10 Z11]
    · isplitl [Z10]; · iexact Z10
      iexact Z11
    isplitl [Z20 Z21]
    · isplitl [Z20]; · iexact Z20
      iexact Z21
    isplitl [Z30]; · iexact Z30
    iexact Z31
  isplitl [ga0 ga1 ga2]
  · iapply (tiles_join c xgaB buf_nonempty.some)
    isplitl [ga0]; · iexact ga0
    isplitl [ga1]; · iexact ga1
    iexact ga2
  isplitl [gb0 gb1 gb2]
  · iapply (tiles_join c xgbB buf_nonempty.some)
    isplitl [gb0]; · iexact gb0
    isplitl [gb1]; · iexact gb1
    iexact gb2
  isplitl [Hp]; · iexact Hp
  isplitl [Ha]; · iexact Ha
  isplitl [Ho]; · iexact Ho
  isplitl [HsA]; · iexact HsA
  isplitl [HsB]; · iexact HsB
  isplitl [ra0 ra1 ra2]
  · iapply (tiles_join c rsaRB buf_nonempty.some)
    isplitl [ra0]; · iexact ra0
    isplitl [ra1]; · iexact ra1
    iexact ra2
  isplitl [rb0 rb1 rb2]
  · iapply (tiles_join c rsbRB buf_nonempty.some)
    isplitl [rb0]; · iexact rb0
    isplitl [rb1]; · iexact rb1
    iexact rb2
  isplitl [fs0 fs1]
  · iapply (halves_join c fbSB buf_nonempty.some)
    isplitl [fs0]; · iexact fs0
    iexact fs1
  isplitl [fr0 fr1]
  · iapply (halves_join c fbRB buf_nonempty.some)
    isplitl [fr0]; · iexact fr0
    iexact fr1
  isplitl [k0 k1 k2 k3]
  · iapply (slots_join c kB buf_nonempty.some)
    isplitl [k0]; · iexact k0
    isplitl [k1]; · iexact k1
    isplitl [k2]; · iexact k2
    iexact k3
  · iapply (slots_join c vB buf_nonempty.some)
    isplitl [v0]; · iexact v0
    isplitl [v1]; · iexact v1
    isplitl [v2]; · iexact v2
    iexact v3

/-! ## The run's data -/

variable (m : (ℓ : Loc nD τ sig) → Buf (Elt F) ℓ) (ρ : Dev nD → PrngReg)

/-- A device's inputs, as the memory holds them at the start. -/
def ins (c : Dev nD) : Ins F where
  x := (win0_0.blk t0_0).view.read (Elt F) (m ((c : Thread nD τ).loc main_arg0))
  wq := (win0_1.blk t0_0).view.read (Elt F) (m ((c : Thread nD τ).loc main_arg1))
  wo := (win0_2.blk t0_0).view.read (Elt F) (m ((c : Thread nD τ).loc main_arg4))
  k := m ((c : Thread nD τ).loc main_arg2)
  v := m ((c : Thread nD τ).loc main_arg3)

/-- Before the body. -/
def before (c : Dev nD) : sProp 𝕄 := iprop(known (ins m) ∗ turns (F := F) c ∗ store (ins m) c)
/-- After the body. -/
def after (c : Dev nD) : sProp 𝕄 :=
  iprop((semVal (barCell c) 0 ∗ semVal (endCell c) 0 ∗ sendsZero (F := F) c ∗ recvsZero (F := F) c) ∗ store (ins m) c)

def dats (_ : Fin 1) (c : Dev nD) : Dat τ (Elt F) Unit ℕ UU ℕ cfg0 c where
  A w := m ((cfg0.win w).arr.view.loc (c : Thread nD τ))
  after w _ := match w with
    | ⟨0, _⟩ => (ins m c).x
    | ⟨1, _⟩ => (ins m c).wq
    | ⟨2, _⟩ => (ins m c).wo
    | ⟨3, _⟩ => outV (ins m) c
  Φ t := match t with
    | ⟨0, _⟩ => before m c
    | ⟨_ + 1, _⟩ => after m c
  q _ := fullShare
  owed t := match t with
    | ⟨0, _⟩ => O₀ c
    | ⟨_ + 1, _⟩ => 0

/-- The body finds `x` in its window. -/
theorem before_x (c : Dev nD) (d) : (dats m 0 c).before (0 : Fin 4) t0_0 d = (ins m c).x := by
  unfold Dat.before; rw [if_pos (show (cfg0.win (0 : Fin 4)).fetch t0_0 = true from rfl)]; rfl
/-- The body finds `Wq` in its window. -/
theorem before_wq (c : Dev nD) (d) : (dats m 0 c).before (1 : Fin 4) t0_0 d = (ins m c).wq := by
  unfold Dat.before; rw [if_pos (show (cfg0.win (1 : Fin 4)).fetch t0_0 = true from rfl)]; rfl
/-- The body finds `Wo` in its window. -/
theorem before_wo (c : Dev nD) (d) : (dats m 0 c).before (2 : Fin 4) t0_0 d = (ins m c).wo := by
  unfold Dat.before; rw [if_pos (show (cfg0.win (2 : Fin 4)).fetch t0_0 = true from rfl)]; rfl

/-! ## The body -/

/-- The staged blocks before and after the body. -/
def staged (c : Dev nD) : sProp 𝕄 :=
  iprop((∃ d, has c xB fullShare ((dats m 0 c).before (0 : Fin 4) t0_0 d)) ∗ (∃ d, has c wqB fullShare ((dats m 0 c).before (1 : Fin 4) t0_0 d))
    ∗ (∃ d, has c woB fullShare ((dats m 0 c).before (2 : Fin 4) t0_0 d)) ∗ (∃ d, has c outB fullShare ((dats m 0 c).before (3 : Fin 4) t0_0 d)))
def stagedAfter (c : Dev nD) : sProp 𝕄 :=
  iprop(has c xB fullShare (ins m c).x ∗ has c wqB fullShare (ins m c).wq ∗ has c woB fullShare (ins m c).wo ∗ has c outB fullShare (outV (ins m) c))

/-- After seventeen payments nothing is owed. -/
theorem pays_end (c : Dev nD) : debt ((pays c).drop 17) = 0 := by rfl

set_option maxRecDepth 30000 in
/-- The body runs, from what the launch stages to what it writes back. -/
theorem body_runs [∀ e, Nonempty (Elt F e)] (c : Dev nD) :
    iprop(before m c ∗ (dats m 0 c).owesAt () t0_0.castSucc ∗ staged m c)
      ⊢ W c (bodyAt0 t0_0) fun _ => iprop(after m c ∗ (dats m 0 c).owesAt () t0_0.succ ∗ stagedAfter m c) := by
  rw [body_eq]
  unfold before turns store staged
  iintro ⟨⟨Hn, ⟨HE, HL, HS, HR⟩, Hid, Hsc, Ho, Ha, Hx2⟩, HO, ⟨%d0, Hx⟩, ⟨%d1, Hwq⟩, ⟨%d2, Hwo⟩, ⟨%d3, Hout⟩⟩
  rw [before_x, before_wq, before_wo]
  unfold bodyLine W
  simp only [wp_deviceId, Prog.lift, bind, Prog.bind]
  iapply (show bodyNeeds c (ins m) ⊢ iprop((bodyLeaves c (ins m) -∗ _) -∗ W c (body c) _) from body_has c (ins m) _) $$ [Hn HE HL HS HR Hid Hsc Ho Ha HO Hx Hwq Hwo Hout]
  · unfold bodyNeeds desk weights
    isplitl [Hn]; · iexact Hn
    isplitl [HE HL HS HR]
    · isplitl [HE]; · iexact HE
      isplitl [HL]; · iexact HL
      isplitl [HS]; · iexact HS
      iexact HR
    isplitl [Hx]
    · iapply (rows_split c (ins m)); iexact Hx
    isplitl [Hwq Hwo Ho Ha]
    · isplitl [Hwq Hwo]
      · isplitl [Hwq]; · iexact Hwq
        iexact Hwo
      isplitl [Ho]; · iexact Ho
      iexact Ha
    isplitl [Hid]; · iexact Hid
    isplitl [Hsc]; · iexact Hsc
    isplitl [Hout]
    · iexists _; iexact Hout
    unfold paid ow Dat.owesAt Pipeline.owesWithin
    icases HO with ⟨%Ws, -, HO⟩
    iexists Ws
    iexact HO
  iintro H
  unfold bodyLeaves desk weights
  icases H with ⟨HZ, Hx, ⟨⟨Hwq, Hwo⟩, Ho, Ha⟩, Hid, Hsc, Hout, HO⟩
  unfold after store stagedAfter
  isplitl [HZ Ho Ha Hid Hsc Hx2]
  · isplitl [HZ]; · iexact HZ
    isplitl [Hid]; · iexact Hid
    isplitl [Hsc]; · iexact Hsc
    isplitl [Ho]; · iexact Ho
    isplitl [Ha]; · iexact Ha
    iexact Hx2
  isplitl [HO]
  · unfold paid ow Dat.owesAt Pipeline.owesWithin
    icases HO with ⟨%Ws, HO⟩
    iexists Ws
    isplitr; · ipureintro; exact fun _ _ => Or.inl trivial
    iapply (show owes (c : Thread nD τ) (debt ((pays c).drop 17)) Ws ⊢ (owes (c : Thread nD τ) ((dats m 0 c).owed t0_0.succ) Ws : sProp 𝕄) from
      Entails.of_eq (by rw [pays_end]; rfl)) $$ HO
  isplitl [Hx]
  · iapply (rows_join c (ins m)); iexact Hx
  isplitl [Hwq]; · iexact Hwq
  isplitl [Hwo]; · iexact Hwo
  iexact Hout

set_option maxRecDepth 30000 in
/-- The same, as the launch asks for it. -/
theorem body_obligation [∀ e, Nonempty (Elt F e)] (c : Dev nD) : BodyObligation (dats (F := F) m 0 c) (defs₀ (F := F)) 𝒱₀ () Set.univ := fun t => by
  rw [show t = t0_0 from fin_N0 t]
  rw [show ∀ Φ : Fin cfg0.W → sProp 𝕄, bigSep Finset.univ Φ = iprop(Φ (0 : Fin 4) ∗ Φ (1 : Fin 4) ∗ Φ (2 : Fin 4) ∗ Φ (3 : Fin 4)) from bigSep_W0,
    show ∀ Φ : Fin cfg0.W → sProp 𝕄, bigSep Finset.univ Φ = iprop(Φ (0 : Fin 4) ∗ Φ (1 : Fin 4) ∗ Φ (2 : Fin 4) ∗ Φ (3 : Fin 4)) from bigSep_W0]
  exact body_runs m c

end Cert.KernelIdeal.Ring
-- ==== Proof.KernelIdeal.Run.lean ====
/- The whole run: from any memory all devices end, every semaphore at zero, the arguments unchanged, and device `c`'s
   result is `outV` of what the devices' arguments held. -/
module

public import proofs.«01_k».proof.Proof.KernelIdeal.Launch
public import Idealize.ShloMosaic.Lib.Pipeline.CollectiveSegs

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation)
open Cert.KernelIdeal Cert.KernelIdeal.Gen

variable {F : FTy → Type} [FloatOps F]

/-- The assertions of this proof. -/
local notation "𝕄" => MT nD τ sig Unit (Elt F) ℕ UU ℕ

variable (m : (ℓ : Loc nD τ sig) → Buf (Elt F) ℓ) (ρ : Dev nD → PrngReg)

/-! ## The side conditions of the launch -/

/-- The whole key and value arrays, as the memory holds them at the start. -/
def wholes (c : Dev nD) : sProp 𝕄 := iprop(has c kH fullShare (ins m c).k ∗ has c vH fullShare (ins m c).v)

/-- The launch holds its arrays in full. -/
theorem share_eq (c : Dev nD) (w : Fin cfg0.W) : (dats m 0 c).share w = fullShare := by unfold Dat.share; split <;> rfl

/-- The launch's own waits are allowed. -/
theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait c _ (pays c) ((due_pays c).above (by fin_cases w <;> fin_cases s <;> decide))
    · show (levAts L lv : sProp 𝕄) ⊢ MayWait (c : Thread nD τ) _ () 0
      rw [MayWait_zero]; iintro -; iempintro

/-- What a device takes into its body. -/
def taken (c : Dev nD) : sProp 𝕄 := iprop((known (ins m) ∗ turns (F := F) c ∗ kvZero (F := F) c) ∗ wholes m c)

/-- What the kernel takes from the memory that the launch does not stage. -/
theorem taken_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ begun (ins m) c)
      ⊢ |={Set.univ}=> iprop(taken m c ∗ emp) := by
  rw [Pipeline.unscopedRestP_none, unscopedRest0_eq]
  iintro ⟨⟨HK, HV⟩, Hlev, Hcr, -, HG⟩
  imodintro
  unfold taken wholes
  isplitl
  · isplitr [HK HV]
    · iapply (begun_turns (ins m) c)
      isplitl [Hlev]; · iexact Hlev
      isplitl [Hcr]; · iexact Hcr
      iexact HG
    unfold has kH vH
    rw [owns_whole, owns_whole]
    isplitl [HK]; · iexact HK
    iexact HV
  iempintro

/-- What the body starts from. -/
theorem before_intro (c : Dev nD) :
    iprop(taken m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl,
    show (Pipeline.scopedRest cfg0.spec c : sProp 𝕄) = rest c from rest_eq c]
  unfold taken before wholes
  iintro ⟨⟨⟨Hn, Ht, HZ⟩, HK, HV⟩, -, Hr⟩
  isplitl [Hn]; · iexact Hn
  isplitl [Ht]; · iexact Ht
  iapply (store_intro (ins m) c)
  isplitl [HK]; · iexact HK
  isplitl [HV]; · iexact HV
  isplitl [HZ]; · iexact HZ
  iexact Hr

/-- What the body leaves gives the memory and the semaphores back. -/
theorem after_exit [∀ e, Nonempty (Elt F e)] (c : Dev nD) :
    (dats m 0 c).Φ (Fin.last cfg0.N) ⊢ iprop((unscopedSems0 c ∗ wholes m c) ∗ Pipeline.ownSems0 osem c ∗ Pipeline.scopedRest cfg0.spec c) := by
  rw [show (dats m 0 c).Φ (Fin.last cfg0.N) = after m c from rfl,
    show (Pipeline.scopedRest cfg0.spec c : sProp 𝕄) = rest c from rest_eq c]
  unfold after wholes
  iintro ⟨⟨HB, HE, HS, HR⟩, Hst⟩
  icases (store_elim (ins m) c) $$ Hst with ⟨HK, HV, HZ, Hr⟩
  ihave HQ := (at_rest (F := F) c) $$ [HB HE HS HR HZ]
  · isplitl [HB]; · iexact HB
    isplitl [HE]; · iexact HE
    isplitl [HS]; · iexact HS
    isplitl [HR]; · iexact HR
    iexact HZ
  icases HQ with ⟨HU, HO⟩
  isplitl [HU HK HV]
  · isplitl [HU]; · iexact HU
    isplitl [HK]; · iexact HK
    iexact HV
  isplitl [HO]; · iexact HO
  iexact Hr

/-- What the held arrays say of the memory at the end. -/
theorem wholes_read (c : Dev nD) (s' : Phys nD τ sig (Elt F)) :
    iprop(wholes m c ∗ SI s') ⊢ (⌜s'.mem.mem ((c : Thread nD τ).loc main_arg2) = m ((c : Thread nD τ).loc main_arg2)
      ∧ s'.mem.mem ((c : Thread nD τ).loc main_arg3) = m ((c : Thread nD τ).loc main_arg3)⌝ : sProp 𝕄) := by
  unfold wholes has kH vH
  rw [owns_whole, owns_whole]
  iintro ⟨⟨HK, HV⟩, HSI⟩
  ihave %h1 := (SI_pointsTo_agree (st := s') (ℓ := (c : Thread nD τ).loc main_arg2) (I := Finset.univ) (q := fullShare)) $$ [HK HSI]
  · isplitl [HSI]
    · iexact HSI
    iexact HK
  ihave %h2 := (SI_pointsTo_agree (st := s') (ℓ := (c : Thread nD τ).loc main_arg3) (I := Finset.univ) (q := fullShare)) $$ [HV HSI]
  · isplitl [HSI]
    · iexact HSI
    iexact HV
  ipureintro
  exact ⟨funext fun i => h1 i (Finset.mem_univ i), funext fun i => h2 i (Finset.mem_univ i)⟩

/-! ## The run -/

/-- What the memory holds at the end. -/
def Ends (s : MemSt nD τ sig (Elt F)) : Prop :=
  (∀ c : Dev nD, (∀ w : Fin cfg0.W, s.mem ((cfg0.win w).arr.view.loc (c : Thread nD τ)) = (dats m 0 c).arrAt w cfg0.N)
    ∧ s.mem ((c : Thread nD τ).loc main_arg2) = m ((c : Thread nD τ).loc main_arg2)
    ∧ s.mem ((c : Thread nD τ).loc main_arg3) = m ((c : Thread nD τ).loc main_arg3))
  ∧ s.sem = fun _ => 0

set_option maxRecDepth 8000 in
/-- Every device ends, with the result in its array and the arguments unchanged. -/
theorem run_ends : θ_run defs (onTc (τ := τ) (main (F := F))) ⟨m, fun _ => 0, ρ⟩ (fun r => Ends m r.2) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := dealt (ins m)) (G' := begun (ins m)) (u₀ := u₀)
    (hu₀ := by
      unfold u₀
      iintro Hu
      ihave H := (ownU_pair _ _) $$ Hu
      icases H with ⟨HP, HX⟩
      ihave HX := (show (BI.own (embR ((initOf ringCells ringRights, 1) : UB)) : sProp 𝕄) ⊢ BI.own (ER (initOf ringCells ringRights)) from Entails.of_eq rfl) $$ HX
      imod (fund_ring (ins m)) $$ HX with HG
      imodintro
      isplitl [HP] <;> iassumption)
    (hglob := glob (ins m))
    (hA := fun _ _ => rfl) (hpf := fun _ k => k.elim0)
    (X := taken m) (Y := fun c => iprop(unscopedSems0 c ∗ wholes m c)) (Z := fun _ => iprop(emp))
    (hX := taken_intro m ρ) (hin := before_intro m) (hout := after_exit m)
    (QY := fun c s => (s.mem ((c : Thread nD τ).loc main_arg2) = m ((c : Thread nD τ).loc main_arg2)
        ∧ s.mem ((c : Thread nD τ).loc main_arg3) = m ((c : Thread nD τ).loc main_arg3))
      ∧ ∀ sm : SemLoc sig, sm.isScoped .tc = false → s.sem ((c.tc : Thread nD τ), sm) = 0)
    (hY := fun c s' => by
      iintro ⟨⟨Hu, Hw⟩, -, HSI⟩
      ihave %h := (wholes_read m c s') $$ [Hw HSI]
      · isplitl [Hw] <;> iassumption
      imod (Pipeline.unscopedSems0_read (X := unscopedSems0 c) (c := c) fupd_intro s') $$ [Hu HSI] with ⟨%h', HSI⟩
      · isplitl [Hu] <;> iassumption
      imodintro
      isplitr
      · ipureintro; exact ⟨h, h'⟩
      iexact HSI)
    (hQ := fun _ h hs => ⟨fun c => ⟨(h c).1, (h c).2.2.1⟩, sem_eq_zero hs fun c => (h c).2.2.2⟩)

/-! ## The arrays at the end -/

/-- The window of `x` is the whole array. -/
theorem read_x (f : main_arg0.ty.Contents (Elt F)) : (win0_0.blk t0_0).view.read (Elt F) f = f :=
  Memref.read_access_unit_zero (Elt F) main_arg0 (funext fun a => by fin_cases a <;> decide) (fun a => by fin_cases a <;> decide) f
/-- The window of `Wq` is the whole array. -/
theorem read_wq (f : main_arg1.ty.Contents (Elt F)) : (win0_1.blk t0_0).view.read (Elt F) f = f :=
  Memref.read_access_unit_zero (Elt F) main_arg1 (funext fun a => by fin_cases a <;> decide) (fun a => by fin_cases a <;> decide) f
/-- The window of `Wo` is the whole array. -/
theorem read_wo (f : main_arg4.ty.Contents (Elt F)) : (win0_2.blk t0_0).view.read (Elt F) f = f :=
  Memref.read_access_unit_zero (Elt F) main_arg4 (funext fun a => by fin_cases a <;> decide) (fun a => by fin_cases a <;> decide) f
/-- The window of the result is the whole array. -/
theorem read_out (f : main_v1.ty.Contents (Elt F)) : (win0_3.blk t0_0).view.read (Elt F) f = f :=
  Memref.read_access_unit_zero (Elt F) main_v1 (funext fun a => by fin_cases a <;> decide) (fun a => by fin_cases a <;> decide) f

/-- The devices' inputs are their arguments. -/
theorem ins_eq : ins m = fun c : Dev nD => ⟨m ((c : Thread nD τ).loc main_arg0), m ((c : Thread nD τ).loc main_arg1), m ((c : Thread nD τ).loc main_arg4),
    m ((c : Thread nD τ).loc main_arg2), m ((c : Thread nD τ).loc main_arg3)⟩ := funext fun c => by
  unfold ins; rw [read_x, read_wq, read_wo]

/-- The result array is what the body stored. -/
theorem result_eq (c : Dev nD) : (dats m 0 c).arrAt (3 : Fin 4) cfg0.N = outV (ins m) c := by
  refine (read_out _).symm.trans ?_
  rw [show cfg0.N = (t0_0 : Fin cfg0.N).val + 1 from rfl, (dats m 0 c).arrAt_succ (3 : Fin 4) t0_0,
    show (cfg0.win (3 : Fin 4)).flush t0_0 = true from by decide, if_pos rfl]
  exact View.read_write_univ _ _

/-- The run: every device's result, its arguments unchanged, every semaphore at zero. -/
theorem run : θ_run defs (onTc (τ := τ) (main (F := F))) ⟨m, fun _ => 0, ρ⟩ (fun r =>
    (∀ c : Dev nD, r.2.mem ((c : Thread nD τ).loc main_v1) = outV (ins m) c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
    ∧ r.2.sem = fun _ => 0) :=
  (θ_run defs _ _).mono (fun r h => ⟨fun c =>
    ⟨((h.1 c).1 (3 : Fin 4)).trans (result_eq m c),
      ((h.1 c).1 (0 : Fin 4)).trans ((dats m 0 c).arrAt_in (0 : Fin 4) rfl _),
      ((h.1 c).1 (1 : Fin 4)).trans ((dats m 0 c).arrAt_in (1 : Fin 4) rfl _),
      (h.1 c).2.1, (h.1 c).2.2,
      ((h.1 c).1 (2 : Fin 4)).trans ((dats m 0 c).arrAt_in (2 : Fin 4) rfl _)⟩, h.2⟩) (run_ends m ρ)

end Cert.KernelIdeal.Ring
-- ==== Proof.KernelIdeal.Frames.lean ====
/- The frames of the three programs and the claim on the idealized program. -/
module

public import proofs.«01_k».proof.Defs
public import proofs.«01_k».proof.Proof.Kernel.Run
public import proofs.«01_k».proof.Proof.KernelIdeal.Run
public import proofs.«01_k».proof.Proof.Gen.ReferenceIdeal.Run

@[expose] public section

noncomputable section

namespace Cert.Proof

open Idealize.ShloMosaic Idealize.SL.Sem

/-- At machine floats the kernel ends, keeps its arguments and leaves every counter at zero. -/
theorem frame_kernel : Cert.quiescent_Kernel := fun m ρ _ =>
  (θ_run Cert.Kernel.defs _ _).mono (fun _ h => ⟨fun c => (h.1 c).2, h.2⟩) (Cert.Kernel.Ring.run (F := Bits) m ρ)

/-- The same of the idealized kernel. -/
theorem frame_kernelIdeal : Cert.quiescent_KernelIdeal := fun m ρ _ =>
  (θ_run Cert.KernelIdeal.defs _ _).mono (fun _ h => ⟨fun c => (h.1 c).2, h.2⟩) (Cert.KernelIdeal.Ring.run (F := Ideal) m ρ)

/-- The reference is a list of host operations and declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- No operation was rewritten on the way to the idealized program. -/
theorem preserves : Cert.preserves_Kernel_KernelIdeal := trivial

end Cert.Proof

end
-- ==== Proof.KernelIdeal.Softmax.lean ====
/- One row of attention, as an equation between extended reals.

   The kernel takes the exponentials of the scores as they are; the reference subtracts the largest score of a row
   first. With finite queries and keys every score is a real number, so the two differ by one positive real factor,
   which cancels between the weighted sum of the values and the sum of the weights. The values may be infinite. -/
module

public import Idealize.ShloMosaic.Lib.Pointwise
public import Idealize.ShloMosaic.Lib.IdealHost

@[expose] public section

noncomputable section

namespace Cert.KernelIdeal.Ring

open Idealize.ShloMosaic

/-- An extended real that is a real number. -/
def IsReal (x : EReal) : Prop := ∃ r : ℝ, x = (r : EReal)

/-- A product of reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of reals, read in the extended reals. -/
theorem coe_sum {ι : Type} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

/-- A sum of reals is real. -/
theorem IsReal.sum {ι : Type} {s : Finset ι} {f : ι → EReal} (h : ∀ i, IsReal (f i)) : IsReal (∑ i ∈ s, f i) := by
  choose g hg using h
  exact ⟨∑ i ∈ s, g i, by rw [coe_sum]; exact Finset.sum_congr rfl fun i _ => hg i⟩

/-- A nonnegative real factor goes into a finite sum of extended reals. -/
theorem coe_mul_sum {ι : Type} (s : Finset ι) {c : ℝ} (hc : 0 ≤ c) (f : ι → EReal) :
    (c : EReal) * ∑ i ∈ s, f i = ∑ i ∈ s, (c : EReal) * f i := by
  induction s using Finset.cons_induction with
  | empty => simp
  | cons a s ha ih =>
    rw [Finset.sum_cons, Finset.sum_cons, ← ih,
      EReal.left_distrib_of_nonneg_of_ne_top (by exact_mod_cast hc) (EReal.coe_ne_top c)]

/-- The scale of the scores, the float nearest to one over the square root of 128. -/
def scale : EReal := Ideal.ofBits .f32 0x3DB504F3#32

/-- The scale is real. -/
theorem scale_real : IsReal scale := by
  unfold scale IsReal
  simp only [Ideal.ofBits, Ideal.ieee]
  rw [if_neg (by decide), if_neg (by decide)]
  exact ⟨_, rfl⟩

/-- One head's output for one query, as the kernel computes it: coordinate `e` of the values weighted by the
    exponentials of the scores, times the reciprocal of the sum of the weights. -/
def att (q : Fin 128 → EReal) (k v : Fin 2048 → Fin 128 → EReal) (e : Fin 128) : EReal :=
  (∑ j, Ideal.exp (∑ e', q e' * k j e') * v j e) * Ideal.div 1 (∑ j, Ideal.exp (∑ e', q e' * k j e'))

/-- The score of a query against a key, as the reference scales it. -/
def score (q k : Fin 128 → EReal) : EReal := (∑ e, q e * k e) * scale

/-- A score of a real query against a real key is real. -/
theorem score_real {q k : Fin 128 → EReal} (hq : ∀ e, IsReal (q e)) (hk : ∀ e, IsReal (k e)) : IsReal (score q k) :=
  (IsReal.sum fun e => (hq e).mul (hk e)).mul scale_real

/-- Scaling the query scales the score. -/
theorem score_scaled {q k : Fin 128 → EReal} (hq : ∀ e, IsReal (q e)) (hk : ∀ e, IsReal (k e)) :
    ∑ e, (q e * scale) * k e = score q k := by
  obtain ⟨c, hc⟩ := scale_real
  choose q' hq' using hq
  choose k' hk' using hk
  unfold score
  rw [hc]
  simp only [hq', hk', ← EReal.coe_mul, ← coe_sum]
  rw [Finset.sum_mul]
  exact congrArg _ (Finset.sum_congr rfl fun e _ => by ring)

/-- The largest of finitely many (and at least one) real numbers and minus infinity is a real number. -/
theorem IsReal.fold_max {n : ℕ} {f : Fin (n + 1) → EReal} (h : ∀ i, IsReal (f i)) : IsReal (Finset.univ.fold max ⊥ f) := by
  change IsReal (Finset.univ.sup f)
  obtain ⟨i, -, hi⟩ := Finset.exists_mem_eq_sup Finset.univ ⟨0, Finset.mem_univ _⟩ f
  rw [hi]; exact h i

/-- The kernel's row is the reference's, whatever real number the reference subtracts from the scores. -/
theorem att_eq {q : Fin 128 → EReal} {k v : Fin 2048 → Fin 128 → EReal} (hq : ∀ e, IsReal (q e)) (hk : ∀ j e, IsReal (k j e))
    {m : EReal} (hm : IsReal m) (e : Fin 128) :
    att (fun e => q e * scale) k v e
      = Ideal.div (∑ j, v j e * Ideal.exp (score q (k j) - m)) (∑ j, Ideal.exp (score q (k j) - m)) := by
  obtain ⟨c, rfl⟩ := hm
  choose s hs using fun j => score_real hq (hk j)
  have hpos : 0 < ∑ j, Real.exp (s j) := Finset.sum_pos (fun j _ => Real.exp_pos _) ⟨0, Finset.mem_univ _⟩
  have hexp : ∀ j, Ideal.exp ((s j : EReal) - (c : EReal)) = ((Real.exp (-c) * Real.exp (s j) : ℝ) : EReal) := fun j => by
    rw [← EReal.coe_sub, ← Real.exp_add, neg_add_eq_sub]; rfl
  have hexp' : ∀ j, Ideal.exp (s j : EReal) = ((Real.exp (s j) : ℝ) : EReal) := fun j => rfl
  unfold att
  simp only [score_scaled hq (hk _), hs, hexp, hexp']
  rw [← coe_sum, ← coe_sum, ← Finset.mul_sum, Ideal.div_coe hpos.ne', Ideal.div_coe (mul_pos (Real.exp_pos _) hpos).ne', one_mul]
  have hsum : ∑ j, v j e * ((Real.exp (-c) * Real.exp (s j) : ℝ) : EReal)
      = ((Real.exp (-c) : ℝ) : EReal) * ∑ j, ((Real.exp (s j) : ℝ) : EReal) * v j e := by
    rw [coe_mul_sum _ (Real.exp_pos _).le]
    exact Finset.sum_congr rfl fun j _ => by rw [EReal.coe_mul, mul_comm, mul_assoc]
  rw [hsum, mul_comm (((Real.exp (-c) : ℝ) : EReal)), mul_assoc, ← EReal.coe_mul]
  congr 2
  field_simp

end Cert.KernelIdeal.Ring

end
-- ==== Proof.KernelIdeal.Heads.lean ====
/- The values of a block of rows on one device, at the ideal floats, row by row. -/
module

public import proofs.«01_k».proof.Proof.KernelIdeal.Values
public import proofs.«01_k».proof.Proof.KernelIdeal.Softmax

@[expose] public section

noncomputable section

namespace Cert.KernelIdeal.Ring

open Idealize.ShloMosaic
open Cert.KernelIdeal Cert.KernelIdeal.Gen

/-- Column `e` of head `h` among the 1024 columns of a device. -/
abbrev colOf (h : Fin 8) (e : Fin 128) : Fin 1024 := ⟨128 * h.val + e.val, by omega⟩
/-- The head of a column, and its place in that head. -/
abbrev headIx (c : Fin 1024) : Fin 8 := ⟨c.val / 128, by omega⟩
abbrev colIx (c : Fin 1024) : Fin 128 := ⟨c.val % 128, by omega⟩
/-- Head `h` of device `d` among all heads. -/
abbrev headNo (d : Dev nD) (h : Fin 8) : Fin 32 := ⟨8 * d.val + h.val, by have : d.val < 4 := d.isLt; omega⟩

/-- One head's keys (or values), cut out of the whole array at its offset. -/
theorem headMat_apply (A : Vec Ideal S4x2048x32x128 .f32) (o : HeadOff) (b : Fin 4) (h : Fin 32) (ho : o.1 = ![b.val, 0, h.val, 0])
    (j : Fin 2048) (e : Fin 128) : headMat A o (ix2 j e) = A (ix4 b j h e) := by
  obtain ⟨o, ho'⟩ := o
  dsimp only at ho; subst ho
  pointwise [headMat]
  congr 1
  funext a
  refine Fin.ext ?_
  fin_cases a <;> simp [Rect.emb, Rect.unit, ix4]

/-- What device `d`, holding `D`, contributes to column `n` of the result for one row `x` of batch entry `b`: its eight
    heads' outputs times its rows of `Wo`. -/
def con (D : Ins Ideal) (d : Dev nD) (x : Fin 1024 → EReal) (b : Fin 4) (n : Fin 1024) : EReal :=
  ∑ c : Fin 1024, att (fun e => (∑ k : Fin 1024, x k * D.wq (ix2 k (colOf (headIx c) e))) * scale)
    (fun j e => D.k (ix4 b j (headNo d (headIx c)) e)) (fun j e => D.v (ix4 b j (headNo d (headIx c)) e)) (colIx c) * D.wo (ix2 c n)

variable (I : Dev nD → Ins Ideal)

/-- Offsets that name device `d`'s eight heads of batch entry `b`. -/
def AtBatch (d : Dev nD) (b : Fin 4) (o : Fin 8 → HeadOff) : Prop := ∀ j, (o j).1 = ![b.val, 0, (headNo d j).val, 0]

/-! ## A block of 512 rows -/

/-- One head's output over 512 rows, at an entry. -/
theorem head512_apply (q : FVec Ideal S512x1024 .f32) (h : Fin 8) (K V : Vec Ideal S2048x128 .f32) (r : Fin 512) (e : Fin 128) :
    head512 q h (upKV K) (upKV V) (ix2 r e)
      = att (fun e' => q (ix2 r (colOf h e'))) (fun j e' => K (ix2 j e')) (fun j e' => V (ix2 j e')) e := by
  pointwise [head512, upKV, att]

/-- The scaled queries of 512 rows, at an entry. -/
theorem q512_apply (x : Vec Ideal S512x1024 .f32) (w : Vec Ideal S1024x1024 .f32) (r : Fin 512) (c : Fin 1024) :
    q512 x w (ix2 r c) = (∑ k : Fin 1024, x (ix2 r k) * w (ix2 k c)) * scale := by
  pointwise [k0_pay1, scale]

/-- The product with `Wo` over 512 rows, at an entry. -/
theorem proj512_apply (o : Vec Ideal S512x1024 .f32) (w : Vec Ideal S1024x1024 .f32) (r : Fin 512) (n : Fin 1024) :
    proj512 o w (ix2 r n) = ∑ k : Fin 1024, o (ix2 r k) * w (ix2 k n) := by
  pointwise [k0_pay14]

/-- A block's rows are contributed row by row. -/
theorem part512_apply {d : Dev nD} {b : Fin 4} {o : Fin 8 → HeadOff} (ho : AtBatch d b o) (X : Vec Ideal S512x1024 .f32)
    (r : Fin 512) (n : Fin 1024) : part512 I d X o (ix2 r n) = con (I d) d (fun k => X (ix2 r k)) b n := by
  unfold part512 con
  rw [proj512_apply]
  refine Finset.sum_congr rfl fun c _ => ?_
  congr 1
  show hd512 I d (q512 X (I d).wq) o (headIx c) (ix2 r (colIx c)) = _
  unfold hd512
  rw [head512_apply]
  simp only [q512_apply, headMat_apply _ _ b (headNo d (headIx c)) (ho _)]

/-! ## A block of 256 rows -/

/-- One head's output over 256 rows, at an entry. -/
theorem head256_apply (q : FVec Ideal S256x1024 .f32) (h : Fin 8) (K V : Vec Ideal S2048x128 .f32) (r : Fin 256) (e : Fin 128) :
    head256 q h (upKV K) (upKV V) (ix2 r e)
      = att (fun e' => q (ix2 r (colOf h e'))) (fun j e' => K (ix2 j e')) (fun j e' => V (ix2 j e')) e := by
  pointwise [head256, upKV, att]

/-- The scaled queries of 256 rows, at an entry. -/
theorem q256_apply (x : Vec Ideal S256x1024 .f32) (w : Vec Ideal S1024x1024 .f32) (r : Fin 256) (c : Fin 1024) :
    q256 (up256 x) w (ix2 r c) = (∑ k : Fin 1024, x (ix2 r k) * w (ix2 k c)) * scale := by
  pointwise [k0_pay15, up256, scale]

/-- The product with `Wo` over 256 rows, at an entry. -/
theorem proj256_apply (o : Vec Ideal S256x1024 .f32) (w : Vec Ideal S1024x1024 .f32) (r : Fin 256) (n : Fin 1024) :
    proj256 o w (ix2 r n) = ∑ k : Fin 1024, o (ix2 r k) * w (ix2 k n) := by
  pointwise [k0_pay32]

/-- A block's rows are contributed row by row. -/
theorem part256_apply {d : Dev nD} {b : Fin 4} {o : Fin 8 → HeadOff} (ho : AtBatch d b o) (X : Vec Ideal S256x1024 .f32)
    (r : Fin 256) (n : Fin 1024) : part256 I d X o (ix2 r n) = con (I d) d (fun k => X (ix2 r k)) b n := by
  unfold part256 con
  rw [proj256_apply]
  refine Finset.sum_congr rfl fun c _ => ?_
  congr 1
  show hd256 I d (q256 (up256 X) (I d).wq) o (headIx c) (ix2 r (colIx c)) = _
  unfold hd256
  rw [head256_apply]
  simp only [q256_apply, headMat_apply _ _ b (headNo d (headIx c)) (ho _)]

/-! ## A block of 128 rows -/

/-- One head's output over 128 rows, at an entry. -/
theorem head128_apply (q : FVec Ideal S128x1024 .f32) (h : Fin 8) (K V : Vec Ideal S2048x128 .f32) (r : Fin 128) (e : Fin 128) :
    head128 q h (upKV K) (upKV V) (ix2 r e)
      = att (fun e' => q (ix2 r (colOf h e'))) (fun j e' => K (ix2 j e')) (fun j e' => V (ix2 j e')) e := by
  pointwise [head128, upKV, att]

/-- The scaled queries of 128 rows, at an entry. -/
theorem q128_apply (x : Vec Ideal S128x1024 .f32) (w : Vec Ideal S1024x1024 .f32) (r : Fin 128) (c : Fin 1024) :
    q128 (up128 x) w (ix2 r c) = (∑ k : Fin 1024, x (ix2 r k) * w (ix2 k c)) * scale := by
  pointwise [k0_pay107, up128, scale]

/-- The product with `Wo` over 128 rows, at an entry. -/
theorem proj128_apply (o : Vec Ideal S128x1024 .f32) (w : Vec Ideal S1024x1024 .f32) (r : Fin 128) (n : Fin 1024) :
    proj128 o w (ix2 r n) = ∑ k : Fin 1024, o (ix2 r k) * w (ix2 k n) := by
  pointwise [k0_pay120]

/-- A block's rows are contributed row by row. -/
theorem part128_apply {d : Dev nD} {b : Fin 4} {o : Fin 8 → HeadOff} (ho : AtBatch d b o) (X : Vec Ideal S128x1024 .f32)
    (r : Fin 128) (n : Fin 1024) : part128 I d X o (ix2 r n) = con (I d) d (fun k => X (ix2 r k)) b n := by
  unfold part128 con
  rw [proj128_apply]
  refine Finset.sum_congr rfl fun c _ => ?_
  congr 1
  show hd128 I d (q128 (up128 X) (I d).wq) o (headIx c) (ix2 r (colIx c)) = _
  unfold hd128
  rw [head128_apply]
  simp only [q128_apply, headMat_apply _ _ b (headNo d (headIx c)) (ho _)]

/-! ## The sums -/

/-- The first partial sum is the block itself. -/
theorem first256_apply (a : Vec Ideal S256x1024 .f32) (r : Fin 256) (n : Fin 1024) : first256 a (ix2 r n) = a (ix2 r n) := by
  pointwise [k0_pay33]
/-- A block with the neighbour's partial sum added. -/
theorem add256_apply (a b : Vec Ideal S256x1024 .f32) (r : Fin 256) (n : Fin 1024) :
    add256 a (up256 b) (ix2 r n) = a (ix2 r n) + b (ix2 r n) := by
  pointwise [k0_pay68, up256]
/-- Half a block with the neighbour's partial sum added. -/
theorem add128_apply (a b : Vec Ideal S128x1024 .f32) (r : Fin 128) (n : Fin 1024) :
    (add128 a (up128 b) (ix2 r n) : EReal) = a (ix2 r n) + b (ix2 r n) := by
  pointwise [k0_pay121, up128]
/-- The upper rows of the result: what arrived and this device's own share. -/
theorem out256_apply (a b : Vec Ideal S256x1024 .f32) (r : Fin 256) (n : Fin 1024) :
    out256 (up256 a) b (ix2 r n) = a (ix2 r n) + b (ix2 r n) := by
  pointwise [k0_pay150, up256]
/-- A quarter of the lower rows of the result. -/
theorem out128_apply (a : Vec Ideal S128x1024 .bf16) (b : Vec Ideal S128x1024 .f32) (r : Fin 128) (n : Fin 1024) :
    (out128 a b (ix2 r n) : EReal) = (a (ix2 r n) : EReal) + b (ix2 r n) := by
  pointwise [k0_pay151]

end Cert.KernelIdeal.Ring

end
-- ==== Proof.KernelIdeal.Sum.lean ====
/- What the ring leaves on each device: the sum, over all four devices, of what each contributes to its rows. -/
module

public import proofs.«01_k».proof.Proof.KernelIdeal.Heads
public import proofs.«01_k».proof.Proof.KernelIdeal.Fetch

@[expose] public section

noncomputable section

namespace Cert.KernelIdeal.Ring

open Idealize.ShloMosaic
open Cert.KernelIdeal Cert.KernelIdeal.Gen

variable (I : Dev nD → Ins Ideal)

/-- Device `d`'s contribution to row `i`, column `n` of the rows of device `c`. -/
def share (d c : Dev nD) (i : Fin 512) (n : Fin 1024) : EReal := con (I d) d (fun k => (I c).x (ix2 i k)) c n

/-- Row `r` of the upper half, of the lower half, and of quarter `2 + i` of 512 rows. -/
abbrev up (r : Fin 256) : Fin 512 := ⟨r.val, by omega⟩
abbrev low (r : Fin 256) : Fin 512 := ⟨256 + r.val, by omega⟩
abbrev inHalf (i : Fin 2) (r : Fin 128) : Fin 256 := ⟨128 * i.val + r.val, by omega⟩

/-- The first half of a device's rows. -/
theorem xRows_up (d : Dev nD) (r : Fin 256) (k : Fin 1024) : xRows I d 0 (ix2 r k) = (I d).x (ix2 (up r) k) := by
  unfold xRows
  congr 1
  funext a
  refine Fin.ext ?_
  fin_cases a <;> simp [Rect.emb, Rect.unit, ix2]

/-- The second half of a device's rows. -/
theorem xRows_low (d : Dev nD) (r : Fin 256) (k : Fin 1024) : xRows I d 1 (ix2 r k) = (I d).x (ix2 (low r) k) := by
  unfold xRows
  congr 1
  funext a
  refine Fin.ext ?_
  fin_cases a <;> simp [Rect.emb, Rect.unit, ix2]

/-- Half of a block, at an entry. -/
theorem halfOf_apply (M : Vec Ideal S256x1024 .f32) (i : Fin 2) (r : Fin 128) (n : Fin 1024) :
    halfOf M i (ix2 r n) = M (ix2 (inHalf i r) n) := by
  unfold halfOf
  congr 1
  funext a
  refine Fin.ext ?_
  fin_cases a <;> simp [Rect.emb, Rect.unit, ix2]

/-- The upper half of the 512 rows, at an entry. -/
theorem topR_apply (M : Vec Ideal S512x1024 .f32) (r : Fin 256) (n : Fin 1024) :
    M ((topR 0).emb (ix2 r n)) = M (ix2 (up r) n) := by
  congr 1
  funext a
  refine Fin.ext ?_
  fin_cases a <;> simp [Rect.emb, Rect.unit, ix2]

/-- A quarter of the lower half, at an entry. -/
theorem rowR_apply (M : Vec Ideal S512x1024 .f32) (i : Fin 2) (r : Fin 128) (n : Fin 1024) :
    M ((rowR (qtr i)).emb (ix2 r n)) = M (ix2 (low (inHalf i r)) n) := by
  congr 1
  funext a
  refine Fin.ext ?_
  fin_cases i <;> fin_cases a <;> simp [Rect.emb, Rect.unit, ix2, qtr] <;> omega

/-- Where a device's heads begin, for the batch entry `r` places to its left and for that `r + 1` places to its right. -/
theorem atBatch_offA (d c : Dev nD) (r : Fin 4) (h : c.val = (d.val + 4 - r.val) % 4) : AtBatch d c (offA d r) := fun j =>
  (k0_off1_eq d r j).trans (by rw [h])
/-- In the ring to the left a step's heads are those of the batch whose rows have arrived. -/
theorem atBatch_offB (d c : Dev nD) (r : Fin 3) (h : c.val = (d.val + r.val + 1) % 4) : AtBatch d c (offB d r) := fun j =>
  (k0_off2_eq d r j).trans (by rw [h])

/-- The rows that travel right, and those that travel left, by the device they began on. -/
theorem agaX_apply (m : ℕ) : ∀ (d c : Dev nD) (_ : c.val = (d.val + 3 * m) % 4) (r : Fin 256) (k : Fin 1024),
    agaX I m d (ix2 r k) = (I c).x (ix2 (up r) k) := by
  induction m with
  | zero => intro d c h r k
            obtain rfl : c = d := Fin.ext (by have : d.val < 4 := d.isLt; omega)
            exact xRows_up I c r k
  | succ m ih => intro d c h r k
                 exact ih (lf d) c (by show c.val = ((d.val + 3) % 4 + 3 * m) % 4; omega) r k
/-- After `m` steps to the left a device has the lower rows of the device `m` to its right. -/
theorem agbX_apply (m : ℕ) : ∀ (d c : Dev nD) (_ : c.val = (d.val + m) % 4) (r : Fin 256) (k : Fin 1024),
    agbX I m d (ix2 r k) = (I c).x (ix2 (low r) k) := by
  induction m with
  | zero => intro d c h r k
            obtain rfl : c = d := Fin.ext (by have : d.val < 4 := d.isLt; omega)
            exact xRows_low I c r k
  | succ m ih => intro d c h r k
                 exact ih (rt d) c (by show c.val = ((d.val + 1) % 4 + m) % 4; omega) r k

/-- The blocks of each hop are contributions to the rows of the device the hop names. -/
theorem partA_apply (i : Fin 3) (d c : Dev nD) (h : c.val = (d.val + 3 - i.val) % 4) (r : Fin 256) (n : Fin 1024) :
    partA I i d (ix2 r n) = share I d c (up r) n := by
  unfold partA share
  rw [part256_apply I (atBatch_offA d c i.succ (by simp only [Fin.val_succ]; omega))]
  congr 1
  funext k
  exact agaX_apply I i.val (lf d) c (by show c.val = ((d.val + 3) % 4 + 3 * i.val) % 4; omega) r k
/-- A block of the ring to the left is this device's share of those rows. -/
theorem partB_apply (i : Fin 3) (d c : Dev nD) (h : c.val = (d.val + i.val + 1) % 4) (r : Fin 256) (n : Fin 1024) :
    partB I i d (ix2 r n) = share I d c (low r) n := by
  unfold partB share
  rw [part256_apply I (atBatch_offB d c i h)]
  congr 1
  funext k
  exact agbX_apply I i.val (rt d) c (by show c.val = ((d.val + 1) % 4 + i.val) % 4; omega) r k
/-- And so is each half of the last block. -/
theorem partH_apply (i : Fin 2) (d c : Dev nD) (h : c.val = (d.val + 3) % 4) (r : Fin 128) (n : Fin 1024) :
    partH I i d (ix2 r n) = share I d c (low (inHalf i r)) n := by
  unfold partH share
  rw [part128_apply I (atBatch_offB d c 2 h)]
  congr 1
  funext k
  rw [halfOf_apply]
  exact agbX_apply I 2 (rt d) c (by show c.val = ((d.val + 1) % 4 + 2) % 4; omega) _ k
/-- This device's share of its own rows. -/
theorem pown_apply (d : Dev nD) (r : Fin 512) (n : Fin 1024) : pown I d (ix2 r n) = share I d d r n := by
  unfold pown share
  rw [part512_apply I (atBatch_offA d d 0 (by have : d.val < 4 := d.isLt; simp; omega))]

/-- The sum over the devices, begun at any of them. -/
theorem sum_left (f : Dev nD → EReal) (c : Dev nD) :
    (f (lf c) + (f (lf (lf c)) + f (lf (lf (lf c))))) + f c = ∑ d : Dev nD, f d := by
  have h : (Finset.univ : Finset (Dev nD)) = {lf c, lf (lf c), lf (lf (lf c)), c} := by revert c; decide
  rw [h, Finset.sum_insert (by revert c; decide), Finset.sum_insert (by revert c; decide), Finset.sum_insert (by revert c; decide),
    Finset.sum_singleton]
  simp only [add_assoc]
/-- A sum taken around the ring to the right, ending at the device itself, is the sum over the devices. -/
theorem sum_right (f : Dev nD → EReal) (c : Dev nD) :
    (f (rt c) + (f (rt (rt c)) + f (rt (rt (rt c))))) + f c = ∑ d : Dev nD, f d := by
  have h : (Finset.univ : Finset (Dev nD)) = {rt c, rt (rt c), rt (rt (rt c)), c} := by revert c; decide
  rw [h, Finset.sum_insert (by revert c; decide), Finset.sum_insert (by revert c; decide), Finset.sum_insert (by revert c; decide),
    Finset.sum_singleton]
  simp only [add_assoc]

/-- The left neighbour's number. -/
theorem lf_val (c : Dev nD) : (lf c).val = (c.val + 3) % 4 := rfl
/-- The right neighbour's number. -/
theorem rt_val (c : Dev nD) : (rt c).val = (c.val + 1) % 4 := rfl

/-- The upper half of a device's rows. -/
theorem outTop_apply (c : Dev nD) (r : Fin 256) (n : Fin 1024) : outTop I c (ix2 r n) = ∑ d : Dev nD, share I d c (up r) n := by
  have hc : c.val < 4 := c.isLt
  rw [← sum_left (fun d => share I d c (up r) n) c]
  unfold outTop rsa2 rsa1 rsa0
  rw [out256_apply, add256_apply, add256_apply, first256_apply, topR_apply (pown I c), pown_apply,
    partA_apply I 2 (lf c) c (by rw [lf_val]; simp; omega), partA_apply I 1 (lf (lf c)) c (by rw [lf_val, lf_val]; simp; omega),
    partA_apply I 0 (lf (lf (lf c))) c (by rw [lf_val, lf_val, lf_val]; simp; omega)]

/-- A quarter of the lower half. -/
theorem outQtr_apply (i : Fin 2) (c : Dev nD) (r : Fin 128) (n : Fin 1024) :
    outQtr I i c (ix2 r n) = ∑ d : Dev nD, share I d c (low (inHalf i r)) n := by
  have hc : c.val < 4 := c.isLt
  rw [← sum_right (fun d => share I d c (low (inHalf i r)) n) c]
  unfold outQtr fbX rsb1 rsb0
  rw [out128_apply, add128_apply, halfOf_apply, add256_apply, first256_apply, rowR_apply (pown I c), pown_apply,
    partH_apply I i (rt c) c (by rw [rt_val]; omega), partB_apply I 1 (rt (rt c)) c (by rw [rt_val, rt_val]; simp; omega),
    partB_apply I 0 (rt (rt (rt c))) c (by rw [rt_val, rt_val, rt_val]; simp; omega)]

/-- Each row that a device ends with is the sum of the four devices' contributions to it. -/
theorem outV_apply (c : Dev nD) (i : Fin 512) (n : Fin 1024) : outV I c (ix2 i n) = ∑ d : Dev nD, share I d c i n := by
  unfold outV
  dsimp only
  split_ifs with h h'
  · exact outTop_apply I c ⟨i.val, h⟩ n
  · have h1 : 256 ≤ i.val := not_lt.mp h
    have h2 : i.val < 384 := h'
    refine (outQtr_apply I 0 c ⟨i.val - 256, by omega⟩ n).trans ?_
    have e : low (inHalf 0 ⟨i.val - 256, by omega⟩) = i := Fin.ext (by simp; omega)
    rw [e]
  · have h1 : 384 ≤ i.val := not_lt.mp h'
    refine (outQtr_apply I 1 c ⟨i.val - 384, by omega⟩ n).trans ?_
    have e : low (inHalf 1 ⟨i.val - 384, by omega⟩) = i := Fin.ext (by simp; omega)
    rw [e]

end Cert.KernelIdeal.Ring

end
-- ==== Proof.KernelIdeal.Whole.lean ====
/- What the reference computes, entry by entry. -/
module

public import proofs.«01_k».proof.Proof.Gen.ReferenceIdeal.Run
public import proofs.«01_k».proof.Proof.KernelIdeal.Softmax

@[expose] public section

noncomputable section

namespace Cert.ReferenceIdeal.Whole

open Idealize.ShloMosaic
open Cert.ReferenceIdeal Cert.ReferenceIdeal.Gen Cert.KernelIdeal.Ring

variable (x : FVec Ideal S2048x1024 .f32) (wq : FVec Ideal S1024x4096 .f32) (k v : FVec Ideal S4x2048x32x128 .f32)
  (wo : FVec Ideal S4096x1024 .f32)

/-- The scaled scores. -/
def scores : FVec Ideal S4x32x512x2048 .f32 :=
  mulf (Host.dotGeneral dot_S4x512x32x128_S4x2048x32x128_S4x32x512x2048_3_3_1_1_02_02 none
    (shapeCast S4x512x32x128 (Host.dotGeneral dot_S2048x1024_S1024x4096_S2048x4096_1_0_0_1_n_n none x wq) shapeCasts_S2048x4096_S4x512x32x128) k)
    (broadcastInDim S4x32x512x2048 ![] bcast_S_S4x32x512x2048 (constant S_ .f32 0x3DB504F3#32))

/-- The exponentials of the scores, the row's largest one taken off. -/
def weights (s : FVec Ideal S4x32x512x2048 .f32) : FVec Ideal S4x32x512x2048 .f32 :=
  Host.exp (subf s (broadcastInDim S4x32x512x2048 ![0, 1, 2, 3] bcast_S4x32x512x1_S4x32x512x2048_0_1_2_3
    (broadcastInDim S4x32x512x1 ![0, 1, 2] bcast_S4x32x512_S4x32x512x1_0_1_2
      (Host.reduce FloatOps.maximumf s (constant S_ .f32 0xFF800000#32) reducesTo_S4x32x512x2048_S4x32x512_d3 h_S_))))

/-- The heads' outputs. -/
def outputs (p : FVec Ideal S4x32x512x2048 .f32) : FVec Ideal S4x512x32x128 .f32 :=
  Host.divf (transpose S4x512x32x128 [0, 3, 1, 2]
      (Host.dotGeneral dot_S4x2048x32x128_S4x32x512x2048_S4x32x128x512_1_3_3_2_02_01 none v p) transposes_S4x32x128x512_S4x512x32x128_0_3_1_2)
    (broadcastInDim S4x512x32x128 ![0, 1, 2, 3] bcast_S4x512x32x1_S4x512x32x128_0_1_2_3
      (transpose S4x512x32x1 [0, 2, 1, 3] (broadcastInDim S4x32x512x1 ![0, 1, 2] bcast_S4x32x512_S4x32x512x1_0_1_2
        (Host.reduceAdd p (constant S_ .f32 0x00000000#32) reducesTo_S4x32x512x2048_S4x32x512_d3 h_S_)) transposes_S4x32x512x1_S4x512x32x1_0_2_1_3))

/-- The result. -/
def out : FVec Ideal S2048x1024 .f32 :=
  Host.dotGeneral dot_S2048x4096_S4096x1024_S2048x1024_1_0_0_1_n_n none
    (shapeCast S2048x4096 (outputs v (weights (scores x wq k))) shapeCasts_S4x512x32x128_S2048x4096) wo

/-- The query of head `h`, coordinate `e`, of row `i` of batch entry `b`. -/
def query (b : Fin 4) (i : Fin 512) (h : Fin 32) (e : Fin 128) : EReal :=
  ∑ n : Fin 1024, x (ix2 ⟨b.val * 512 + i.val, by omega⟩ n) * wq (ix2 n ⟨h.val * 128 + e.val, by omega⟩)

/-- A score of the reference, at an entry. -/
theorem scores_apply (b : Fin 4) (h : Fin 32) (i : Fin 512) (j : Fin 2048) :
    scores x wq k (ix4 b h i j) = score (query x wq b i h) (fun e => k (ix4 b j h e)) := by
  pointwise [scores, score, query, scale]

/-- The word of minus infinity. -/
theorem neg_inf : Ideal.ofBits .f32 0xFF800000#32 = ⊥ := by
  simp only [Ideal.ofBits, Ideal.ieee]
  rw [if_pos (by decide), if_pos (by decide), if_pos (by decide)]

/-- A weight of the reference: the exponential of a score less the row's maximum. -/
theorem weights_apply (s : FVec Ideal S4x32x512x2048 .f32) (b : Fin 4) (h : Fin 32) (i : Fin 512) (j : Fin 2048) :
    weights s (ix4 b h i j) = Ideal.exp (s (ix4 b h i j) - Finset.univ.fold max ⊥ fun j' : Fin 2048 => s (ix4 b h i j')) := by
  pointwise [weights]
  rw [neg_inf]

/-- A head's output in the reference: the weighted sum of the values over the sum of the weights. -/
theorem outputs_apply (p : FVec Ideal S4x32x512x2048 .f32) (b : Fin 4) (i : Fin 512) (h : Fin 32) (e : Fin 128) :
    outputs v p (ix4 b i h e) = Ideal.div (∑ j : Fin 2048, v (ix4 b j h e) * p (ix4 b h i j)) (∑ j : Fin 2048, p (ix4 b h i j)) := by
  pointwise [outputs]

/-- The reference's result: the heads' outputs times `Wo`. -/
theorem out_apply (r : Fin 2048) (n : Fin 1024) :
    out x wq k v wo (ix2 r n) = ∑ c : Fin 4096, outputs v (weights (scores x wq k))
      (ix4 ⟨r.val / 512, by omega⟩ ⟨r.val % 512, by omega⟩ ⟨c.val / 128, by omega⟩ ⟨c.val % 128, by omega⟩) * wo (ix2 c n) := by
  pointwise [out]

end Cert.ReferenceIdeal.Whole

end
-- ==== Proof.KernelIdeal.Equal.lean ====
/- Each device's rows are its block of the reference's result. -/
module

public import proofs.«01_k».proof.Proof.KernelIdeal.Sum
public import proofs.«01_k».proof.Proof.KernelIdeal.Whole

@[expose] public section

noncomputable section

namespace Cert.KernelIdeal.Ring

open Idealize.ShloMosaic
open Cert.KernelIdeal Cert.KernelIdeal.Gen
open Cert.ReferenceIdeal (S2048x1024 S1024x4096 S4096x1024)
open Cert.ReferenceIdeal.Whole

/-- The devices hold their blocks of the whole arrays: rows of `x`, columns of `Wq`, rows of `Wo`, all keys and values. -/
structure Blocks (I : Dev nD → Ins Ideal) (x : FVec Ideal S2048x1024 .f32) (wq : FVec Ideal S1024x4096 .f32)
    (k v : FVec Ideal S4x2048x32x128 .f32) (wo : FVec Ideal S4096x1024 .f32) : Prop where
  x_eq : ∀ c : Dev nD, (I c).x = Layout.block ⟨2, ![512, 1024]⟩ ⟨2, ![2048, 1024]⟩ 0 4 c x
  wq_eq : ∀ c : Dev nD, (I c).wq = Layout.block ⟨2, ![1024, 1024]⟩ ⟨2, ![1024, 4096]⟩ 1 4 c wq
  k_eq : ∀ c : Dev nD, (I c).k = k
  v_eq : ∀ c : Dev nD, (I c).v = v
  wo_eq : ∀ c : Dev nD, (I c).wo = Layout.block ⟨2, ![1024, 1024]⟩ ⟨2, ![4096, 1024]⟩ 0 4 c wo

/-- Every device's `x`, `Wq` and keys are real numbers. -/
def Finite (I : Dev nD → Ins Ideal) : Prop :=
  ∀ c : Dev nD, (∀ i, IsReal ((I c).x i)) ∧ (∀ i, IsReal ((I c).wq i)) ∧ (∀ i, IsReal ((I c).k i))

/-- Place `i` of block `d` of an axis of four blocks of 512, and of 1024. -/
abbrev at512 (d : Dev nD) (i : Fin 512) : Fin 2048 := ⟨d.val * 512 + i.val, by have : d.val < 4 := d.isLt; omega⟩
abbrev at1024 (d : Dev nD) (i : Fin 1024) : Fin 4096 := ⟨d.val * 1024 + i.val, by have : d.val < 4 := d.isLt; omega⟩

/-- Device `c`'s rows of an array of 2048 rows. -/
theorem block512_apply (c : Dev nD) (A : FVec Ideal S2048x1024 .f32) (i : Fin 512) (n : Fin 1024) :
    Layout.block ⟨2, ![512, 1024]⟩ ⟨2, ![2048, 1024]⟩ 0 4 c A (by decide) (ix2 i n) = A (ix2 (at512 c i) n) := by
  rw [Layout.block_apply]
  congr 1
  funext a
  refine Fin.ext ?_
  fin_cases a <;> rfl
/-- Device `c`'s columns of an array of 4096 columns. -/
theorem blockCols_apply (c : Dev nD) (A : FVec Ideal S1024x4096 .f32) (i : Fin 1024) (n : Fin 1024) :
    Layout.block ⟨2, ![1024, 1024]⟩ ⟨2, ![1024, 4096]⟩ 1 4 c A (by decide) (ix2 i n) = A (ix2 i (at1024 c n)) := by
  rw [Layout.block_apply]
  congr 1
  funext a
  refine Fin.ext ?_
  fin_cases a <;> rfl
/-- Device `c`'s rows of an array of 4096 rows. -/
theorem blockRows_apply (c : Dev nD) (A : FVec Ideal S4096x1024 .f32) (i : Fin 1024) (n : Fin 1024) :
    Layout.block ⟨2, ![1024, 1024]⟩ ⟨2, ![4096, 1024]⟩ 0 4 c A (by decide) (ix2 i n) = A (ix2 (at1024 c i) n) := by
  rw [Layout.block_apply]
  congr 1
  funext a
  refine Fin.ext ?_
  fin_cases a <;> rfl

variable {I : Dev nD → Ins Ideal} {x : FVec Ideal S2048x1024 .f32} {wq : FVec Ideal S1024x4096 .f32}
  {k v : FVec Ideal S4x2048x32x128 .f32} {wo : FVec Ideal S4096x1024 .f32}

/-- A device's unscaled query is the reference's. -/
theorem query_eq (hB : Blocks I x wq k v wo) (d c : Dev nD) (i : Fin 512) (h : Fin 8) (e : Fin 128) :
    ∑ n : Fin 1024, (I c).x (ix2 i n) * (I d).wq (ix2 n (colOf h e)) = query x wq c i (headNo d h) e := by
  rw [hB.x_eq, hB.wq_eq]
  unfold query
  refine Finset.sum_congr rfl fun n _ => ?_
  rw [block512_apply, blockCols_apply]
  have hcol : at1024 d (colOf h e) = ⟨(headNo d h).val * 128 + e.val, by have : d.val < 4 := d.isLt; simp; omega⟩ := Fin.ext (by simp; omega)
  rw [hcol]

/-- A head's output on its device is the reference's. -/
theorem head_eq (hB : Blocks I x wq k v wo) (hF : Finite I) (d c : Dev nD) (i : Fin 512) (h : Fin 8) (e : Fin 128) :
    att (fun e => (∑ n : Fin 1024, (I c).x (ix2 i n) * (I d).wq (ix2 n (colOf h e))) * scale)
        (fun j e => (I d).k (ix4 c j (headNo d h) e)) (fun j e => (I d).v (ix4 c j (headNo d h) e)) e
      = outputs v (weights (scores x wq k)) (ix4 c i (headNo d h) e) := by
  have hq : ∀ e, IsReal (query x wq c i (headNo d h) e) := fun e =>
    query_eq hB d c i h e ▸ IsReal.sum fun n => ((hF c).1 _).mul ((hF d).2.1 _)
  have hk : ∀ j e, IsReal (k (ix4 c j (headNo d h) e)) := fun j e => hB.k_eq d ▸ (hF d).2.2 _
  simp only [query_eq hB, hB.k_eq, hB.v_eq]
  rw [outputs_apply]
  simp only [weights_apply, scores_apply]
  exact att_eq hq hk (IsReal.fold_max (n := 2047) fun j => score_real hq (hk j)) e

/-- Each row a device ends with is the row of the reference's result that the device's block has there. -/
theorem outV_at (hB : Blocks I x wq k v wo) (hF : Finite I) (c : Dev nD) (i : Fin 512) (n : Fin 1024) :
    outV I c (ix2 i n) = out x wq k v wo (ix2 (at512 c i) n) := by
  have hc : c.val < 4 := c.isLt
  rw [outV_apply, out_apply]
  refine Eq.trans ?_ (Fin.sum_univ_tiles (N := 4096) 4 1024 (by decide) _).symm
  refine Finset.sum_congr rfl fun d _ => ?_
  unfold share con
  refine Finset.sum_congr rfl fun t _ => ?_
  have hd : d.val < 4 := d.isLt
  rw [head_eq hB hF, hB.wo_eq, blockRows_apply]
  congr 2
  funext a
  refine Fin.ext ?_
  fin_cases a <;> simp <;> omega

/-- Each device ends with its block of the reference's result. -/
theorem outV_eq (hB : Blocks I x wq k v wo) (hF : Finite I) (c : Dev nD) :
    outV I c = Layout.block ⟨2, ![512, 1024]⟩ ⟨2, ![2048, 1024]⟩ 0 4 c (out x wq k v wo) := by
  funext j
  rw [eq_ix2 j]
  exact (outV_at hB hF c (j 0) (j 1)).trans (block512_apply c _ (j 0) (j 1)).symm

end Cert.KernelIdeal.Ring

end
-- ==== Proof.KernelIdeal.Pre.lean ====
/- The precondition read back: the finiteness predicate's facts, and what it says of the entries. -/
module

public import proofs.«01_k».proof.Defs
public import proofs.«01_k».proof.Proof.KernelIdeal.Equal

@[expose] public section

noncomputable section

namespace Cert.KernelIdeal.Ring

open Idealize.ShloMosaic

/-- The shape facts the predicate states, for one device's shapes. -/
theorem facts_pre : Cert.Pre_finite_KernelIdeal.Facts where
  bcast_S_S512x1024 := by decide
  reducesTo_S512x1024_S_d0_1 := by decide
  h_S_ := by decide
  bcast_S_S1024x1024 := by decide
  reducesTo_S1024x1024_S_d0_1 := by decide
  bcast_S_S4x2048x32x128 := by decide
  reducesTo_S4x2048x32x128_S_d0_1_2_3 := by decide

/-- The same for the whole arrays. -/
theorem facts_preRef : Cert.Pre_finite_ReferenceIdeal.Facts where
  bcast_S_S2048x1024 := by decide
  reducesTo_S2048x1024_S_d0_1 := by decide
  h_S_ := by decide
  bcast_S_S1024x4096 := by decide
  reducesTo_S1024x4096_S_d0_1 := by decide
  bcast_S_S4x2048x32x128 := by decide
  reducesTo_S4x2048x32x128_S_d0_1_2_3 := by decide

/-- An entry whose absolute value is below infinity is a real number. -/
theorem isReal_of_abs {a : EReal} (h : Ideal.cmp .olt (max a (-a)) (Ideal.ofBits .f32 0x7F800000#32) = 1#1) : IsReal a := by
  have e : Ideal.ofBits .f32 0x7F800000#32 = ⊤ := by
    simp only [Ideal.ofBits, Ideal.ieee]
    rw [if_pos (by decide), if_pos (by decide), if_neg (by decide)]
  rw [e] at h
  induction a using EReal.rec with
  | bot => exact absurd h (by simp [Ideal.cmp])
  | top => exact absurd h (by simp [Ideal.cmp])
  | coe r => exact ⟨r, rfl⟩

/-- A conjunction of two truth values, read as one of two propositions. -/
theorem both_of_andi {c d : BitVec 1} (h : IntOp.andi c d = 1#1) : c = 1#1 ∧ d = 1#1 := by revert c d; decide

/-- A conjunction over all entries of an array holds of each. -/
theorem all_of_reduce {s : Shape} {axes : List (Fin s.rank)} {t : Shape} (ht : t.rank = 0) {u : Shape} (x : IVec s 1) (init : IVec u 1)
    (h : s.ReducesTo axes t) (hu : 0 < u.numel) (j : t.Idx) (e : Host.reduce IntOp.andi x init h hu j = 1#1) (i : s.Idx) : x i = 1#1 := by
  rw [Host.reduce_eq_fold] at e
  have hi : i ∈ Finset.univ.filter fun i => h.drop i = j :=
    Finset.mem_filter.mpr ⟨Finset.mem_univ _, funext fun b => absurd b.isLt (by omega)⟩
  revert e hi
  generalize (Finset.univ.filter fun i => h.drop i = j) = S
  induction S using Finset.cons_induction with
  | empty => intro _ hi; exact absurd hi (Finset.notMem_empty _)
  | cons a S ha ih =>
    intro e hi
    rw [Finset.fold_cons] at e
    rcases Finset.mem_cons.mp hi with rfl | hi
    · exact (both_of_andi e).1
    · exact ih (both_of_andi e).2 hi

/-- The predicate says that `x`, `Wq` and the keys are real numbers. -/
theorem finite_of_pre [Cert.Pre_finite_KernelIdeal.Facts] (x wq k v wo)
    (h : Cert.Pre_finite_KernelIdeal.fn (F := Ideal) x wq k v wo = fun _ => 1#1) :
    (∀ i, IsReal (x i)) ∧ (∀ i, IsReal (wq i)) ∧ (∀ i, IsReal (k i)) := by
  have h0 := congrFun h (fun a => a.elim0)
  unfold Cert.Pre_finite_KernelIdeal.fn at h0
  dsimp only at h0
  rw [andi_apply, andi_apply] at h0
  obtain ⟨h1, h2⟩ := both_of_andi h0
  obtain ⟨h3, h4⟩ := both_of_andi h1
  exact ⟨fun i => isReal_of_abs (all_of_reduce rfl _ _ _ _ _ h3 i), fun i => isReal_of_abs (all_of_reduce rfl _ _ _ _ _ h4 i),
    fun i => isReal_of_abs (all_of_reduce rfl _ _ _ _ _ h2 i)⟩

end Cert.KernelIdeal.Ring

end
-- ==== Proof.KernelIdeal.Algebraic.lean ====
/- The value claim: with finite `x`, `Wq` and keys, each device's result is its block of the reference's. -/
module

public import proofs.«01_k».proof.Proof.KernelIdeal.Frames
public import proofs.«01_k».proof.Proof.KernelIdeal.Pre

@[expose] public section

noncomputable section

namespace Cert.Proof

open Idealize.ShloMosaic Idealize.SL.Sem
open Cert.KernelIdeal.Ring

instance : Cert.Pre_finite_KernelIdeal.Facts := facts_pre
instance : Cert.Pre_finite_ReferenceIdeal.Facts := facts_preRef

/-- The frame of the idealized kernel needs no precondition, so it holds under one. -/
theorem frame_kernelIdeal_pre : Cert.quiescent_KernelIdeal_pre_finite_KernelIdeal := fun m ρ _ => frame_kernelIdeal m ρ trivial

/-- The same of the reference. -/
theorem frame_referenceIdeal_pre : Cert.quiescent_ReferenceIdeal_pre_finite_ReferenceIdeal := fun m ρ _ => frame_referenceIdeal m ρ trivial

/-- The reference's result, of the arguments that lie in its memory. -/
def result (m : (ℓ : Loc Cert.ReferenceIdeal.nD Cert.ReferenceIdeal.τ Cert.ReferenceIdeal.sig) → Buf (Elt Idealize.ShloMosaic.Ideal) ℓ) :=
  Cert.ReferenceIdeal.Whole.out
  (m ((0 : Dev Cert.ReferenceIdeal.nD).tc.loc Cert.ReferenceIdeal.main_arg0)) (m ((0 : Dev Cert.ReferenceIdeal.nD).tc.loc Cert.ReferenceIdeal.main_arg1))
  (m ((0 : Dev Cert.ReferenceIdeal.nD).tc.loc Cert.ReferenceIdeal.main_arg2)) (m ((0 : Dev Cert.ReferenceIdeal.nD).tc.loc Cert.ReferenceIdeal.main_arg3))
  (m ((0 : Dev Cert.ReferenceIdeal.nD).tc.loc Cert.ReferenceIdeal.main_arg4))

/-- Each device of the kernel ends with its block of the reference's result. -/
theorem algebraic : Cert.algebraic_KernelIdeal_ReferenceIdeal_pre_finite_KernelIdeal := fun m g m' g' hpre hag => by
  have hF : Finite (ins m) := by
    rw [ins_eq]
    exact fun c => finite_of_pre _ _ _ _ _ (hpre c)
  have hO : ∀ c, outV (ins m) c = Layout.block ⟨2, ![512, 1024]⟩ ⟨2, ![2048, 1024]⟩ 0 4 c (result m') := fun c =>
    outV_eq ⟨fun c => by rw [ins_eq]; exact (hag c).1, fun c => by rw [ins_eq]; exact (hag c).2.1, fun c => by rw [ins_eq]; exact (hag c).2.2.1,
      fun c => by rw [ins_eq]; exact (hag c).2.2.2.1, fun c => by rw [ins_eq]; exact (hag c).2.2.2.2⟩ hF c
  refine ⟨result m', ?_, ?_⟩
  · exact (θ_run Cert.KernelIdeal.defs _ _).mono
      (fun _ h c => ⟨(h.1 c).1.trans (hO c), (h.1 c).2⟩) (Cert.KernelIdeal.Ring.run (F := Idealize.ShloMosaic.Ideal) m g)
  · exact (θ_run Cert.ReferenceIdeal.defs _ _).mono (fun _ h => h 0) (Cert.ReferenceIdeal.Value.run (F := Idealize.ShloMosaic.Ideal) m' g')

end Cert.Proof

end
-- ==== Proof.lean ====
/- The certificate: the frames of the kernel at machine floats, of its idealized print and of the reference; that the
   idealized print is the kernel's; and that each device's result is its block of the reference's. -/
module

public import proofs.«01_k».proof.Proof.KernelIdeal.Algebraic

@[expose] public section

noncomputable section

namespace Cert.Proof

/-- All that is claimed of the three programs. -/
theorem claim : Cert.Claim := ⟨Cert.Kernel.Gen.facts, Cert.KernelIdeal.Gen.facts, Cert.ReferenceIdeal.Gen.facts,
  Cert.KernelIdeal.Ring.facts_pre, Cert.KernelIdeal.Ring.facts_preRef,
  frame_kernel, frame_kernelIdeal, frame_kernelIdeal_pre, frame_referenceIdeal, frame_referenceIdeal_pre, preserves, algebraic⟩

end Cert.Proof

end
